-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x28x28x1 : Shape := ⟨4, ![8192, 28, 28, 1]⟩
abbrev S8192 : Shape := ⟨1, ![8192]⟩
abbrev S3x3x1x16 : Shape := ⟨4, ![3, 3, 1, 16]⟩
abbrev S16 : Shape := ⟨1, ![16]⟩
abbrev S3x3x16x32 : Shape := ⟨4, ![3, 3, 16, 32]⟩
abbrev S32 : Shape := ⟨1, ![32]⟩
abbrev S800x64 : Shape := ⟨2, ![800, 64]⟩
abbrev S64 : Shape := ⟨1, ![64]⟩
abbrev S64x1 : Shape := ⟨2, ![64, 1]⟩
abbrev S1 : Shape := ⟨1, ![1]⟩
abbrev S800x128 : Shape := ⟨2, ![800, 128]⟩
abbrev S128 : Shape := ⟨1, ![128]⟩
abbrev S128x1 : Shape := ⟨2, ![128, 1]⟩
abbrev S64x128x28x28 : Shape := ⟨4, ![64, 128, 28, 28]⟩
abbrev S64x28x28x128 : Shape := ⟨4, ![64, 28, 28, 128]⟩
abbrev S3x3x16 : Shape := ⟨3, ![3, 3, 16]⟩
abbrev S_ : Shape := ⟨0, ![]⟩
abbrev S3x32x16 : Shape := ⟨3, ![3, 32, 16]⟩
abbrev S16x3x32 : Shape := ⟨3, ![16, 3, 32]⟩
abbrev S16x96 : Shape := ⟨2, ![16, 96]⟩
abbrev S1x16x96 : Shape := ⟨3, ![1, 16, 96]⟩
abbrev S16x16x96 : Shape := ⟨3, ![16, 16, 96]⟩
abbrev S10x16x96 : Shape := ⟨3, ![10, 16, 96]⟩
abbrev S26x16x96 : Shape := ⟨3, ![26, 16, 96]⟩
abbrev S416x96 : Shape := ⟨2, ![416, 96]⟩
abbrev S1x16 : Shape := ⟨2, ![1, 16]⟩
abbrev S1x1x1x16 : Shape := ⟨4, ![1, 1, 1, 16]⟩
abbrev S26x1x1x16 : Shape := ⟨4, ![26, 1, 1, 16]⟩
abbrev S26x16 : Shape := ⟨2, ![26, 16]⟩
abbrev S416x1 : Shape := ⟨2, ![416, 1]⟩
abbrev S32x3x3x16 : Shape := ⟨4, ![32, 3, 3, 16]⟩
abbrev S32x3x6x16 : Shape := ⟨4, ![32, 3, 6, 16]⟩
abbrev S32x288 : Shape := ⟨2, ![32, 288]⟩
abbrev S1x32x288 : Shape := ⟨3, ![1, 32, 288]⟩
abbrev S4x32x288 : Shape := ⟨3, ![4, 32, 288]⟩
abbrev S128x288 : Shape := ⟨2, ![128, 288]⟩
abbrev S1x32 : Shape := ⟨2, ![1, 32]⟩
abbrev S1x1x1x32 : Shape := ⟨4, ![1, 1, 1, 32]⟩
abbrev S4x1x1x32 : Shape := ⟨4, ![4, 1, 1, 32]⟩
abbrev S4x32 : Shape := ⟨2, ![4, 32]⟩
abbrev S64x800 : Shape := ⟨2, ![64, 800]⟩
abbrev S1x64 : Shape := ⟨2, ![1, 64]⟩
abbrev S1x1 : Shape := ⟨2, ![1, 1]⟩
abbrev S64x1x128 : Shape := ⟨3, ![64, 1, 128]⟩
abbrev S256x800 : Shape := ⟨2, ![256, 800]⟩
abbrev S8x128 : Shape := ⟨2, ![8, 128]⟩
abbrev S1x28x28x128 : Shape := ⟨4, ![1, 28, 28, 128]⟩
abbrev S1x1x128 : Shape := ⟨3, ![1, 1, 128]⟩
abbrev S13x14x16x128 : Shape := ⟨4, ![13, 14, 16, 128]⟩
abbrev S288x4224 : Shape := ⟨2, ![288, 4224]⟩
abbrev S128x4224 : Shape := ⟨2, ![128, 4224]⟩
abbrev S11x12x32x128 : Shape := ⟨4, ![11, 12, 32, 128]⟩
abbrev S96x3328 : Shape := ⟨2, ![96, 3328]⟩
abbrev S416x3328 : Shape := ⟨2, ![416, 3328]⟩
abbrev S13x16x128 : Shape := ⟨3, ![13, 16, 128]⟩
abbrev S13x1x16x128 : Shape := ⟨4, ![13, 1, 16, 128]⟩
abbrev S4x3328 : Shape := ⟨2, ![4, 3328]⟩
abbrev S1x1x28x128 : Shape := ⟨4, ![1, 1, 28, 128]⟩
abbrev S28x128 : Shape := ⟨2, ![28, 128]⟩
abbrev S416x128 : Shape := ⟨2, ![416, 128]⟩
abbrev S13x2x16x128 : Shape := ⟨4, ![13, 2, 16, 128]⟩
abbrev S1x13x16x128 : Shape := ⟨4, ![1, 13, 16, 128]⟩
abbrev S1x1x16x128 : Shape := ⟨4, ![1, 1, 16, 128]⟩
abbrev S16x128 : Shape := ⟨2, ![16, 128]⟩
abbrev S128x128 : Shape := ⟨2, ![128, 128]⟩
abbrev S4x32x128 : Shape := ⟨3, ![4, 32, 128]⟩
abbrev S1x4x32x128 : Shape := ⟨4, ![1, 4, 32, 128]⟩
abbrev S1x12x32x128 : Shape := ⟨4, ![1, 12, 32, 128]⟩
abbrev S12x32x128 : Shape := ⟨3, ![12, 32, 128]⟩
abbrev S10x32x128 : Shape := ⟨3, ![10, 32, 128]⟩
abbrev S5x2x32x128 : Shape := ⟨4, ![5, 2, 32, 128]⟩
abbrev S5x32x128 : Shape := ⟨3, ![5, 32, 128]⟩
abbrev S160x128 : Shape := ⟨2, ![160, 128]⟩
abbrev S64x128 : Shape := ⟨2, ![64, 128]⟩
abbrev S1x128 : Shape := ⟨2, ![1, 128]⟩
abbrev S256x128 : Shape := ⟨2, ![256, 128]⟩
abbrev S1x8x128 : Shape := ⟨3, ![1, 8, 128]⟩
abbrev S1x1x1 : Shape := ⟨3, ![1, 1, 1]⟩
abbrev S256x64 : Shape := ⟨2, ![256, 64]⟩
abbrev S256x1 : Shape := ⟨2, ![256, 1]⟩
abbrev S1x256x1 : Shape := ⟨3, ![1, 256, 1]⟩
abbrev S1x800 : Shape := ⟨2, ![1, 800]⟩

abbrev nBuf : Space → Nat
  | .hbm => 227
  | .vmem => 31
  | .smem => 0
  | _ => 0

abbrev hbmTy0_0 (i : Nat) : BufTy := match i % 128 with
  | 0 => ⟨S8192x28x28x1, .f32⟩
  | 1 => ⟨S8192, .i32⟩
  | 2 => ⟨S3x3x1x16, .f32⟩
  | 3 => ⟨S16, .f32⟩
  | 4 => ⟨S3x3x16x32, .f32⟩
  | 5 => ⟨S32, .f32⟩
  | 6 => ⟨S800x64, .f32⟩
  | 7 => ⟨S64, .f32⟩
  | 8 => ⟨S64x1, .f32⟩
  | 9 => ⟨S1, .f32⟩
  | 10 => ⟨S800x64, .f32⟩
  | 11 => ⟨S64, .f32⟩
  | 12 => ⟨S64x1, .f32⟩
  | 13 => ⟨S1, .f32⟩
  | 14 => ⟨S800x128, .f32⟩
  | 15 => ⟨S128, .f32⟩
  | 16 => ⟨S128x1, .f32⟩
  | 17 => ⟨S1, .f32⟩
  | 18 => ⟨S64x128x28x28, .f32⟩
  | 19 => ⟨S64x28x28x128, .f32⟩
  | 20 => ⟨S3x3x16, .f32⟩
  | 21 => ⟨S_, .i32⟩
  | 22 => ⟨S_, .f32⟩
  | 23 => ⟨S3x32x16, .f32⟩
  | 24 => ⟨S16x3x32, .f32⟩
  | 25 => ⟨S16x96, .f32⟩
  | 26 => ⟨S_, .i32⟩
  | 27 => ⟨S_, .f32⟩
  | 28 => ⟨S3x32x16, .f32⟩
  | 29 => ⟨S16x3x32, .f32⟩
  | 30 => ⟨S16x96, .f32⟩
  | 31 => ⟨S_, .i32⟩
  | 32 => ⟨S_, .f32⟩
  | 33 => ⟨S3x32x16, .f32⟩
  | 34 => ⟨S16x3x32, .f32⟩
  | 35 => ⟨S16x96, .f32⟩
  | 36 => ⟨S_, .i32⟩
  | 37 => ⟨S_, .f32⟩
  | 38 => ⟨S3x32x16, .f32⟩
  | 39 => ⟨S16x3x32, .f32⟩
  | 40 => ⟨S16x96, .f32⟩
  | 41 => ⟨S_, .i32⟩
  | 42 => ⟨S_, .f32⟩
  | 43 => ⟨S3x32x16, .f32⟩
  | 44 => ⟨S16x3x32, .f32⟩
  | 45 => ⟨S16x96, .f32⟩
  | 46 => ⟨S_, .i32⟩
  | 47 => ⟨S_, .f32⟩
  | 48 => ⟨S3x32x16, .f32⟩
  | 49 => ⟨S16x3x32, .f32⟩
  | 50 => ⟨S16x96, .f32⟩
  | 51 => ⟨S_, .i32⟩
  | 52 => ⟨S_, .f32⟩
  | 53 => ⟨S3x32x16, .f32⟩
  | 54 => ⟨S16x3x32, .f32⟩
  | 55 => ⟨S16x96, .f32⟩
  | 56 => ⟨S_, .i32⟩
  | 57 => ⟨S_, .f32⟩
  | 58 => ⟨S3x32x16, .f32⟩
  | 59 => ⟨S16x3x32, .f32⟩
  | 60 => ⟨S16x96, .f32⟩
  | 61 => ⟨S_, .i32⟩
  | 62 => ⟨S_, .f32⟩
  | 63 => ⟨S3x32x16, .f32⟩
  | 64 => ⟨S16x3x32, .f32⟩
  | 65 => ⟨S16x96, .f32⟩
  | 66 => ⟨S_, .i32⟩
  | 67 => ⟨S_, .f32⟩
  | 68 => ⟨S3x32x16, .f32⟩
  | 69 => ⟨S16x3x32, .f32⟩
  | 70 => ⟨S16x96, .f32⟩
  | 71 => ⟨S_, .i32⟩
  | 72 => ⟨S_, .f32⟩
  | 73 => ⟨S3x32x16, .f32⟩
  | 74 => ⟨S16x3x32, .f32⟩
  | 75 => ⟨S16x96, .f32⟩
  | 76 => ⟨S_, .i32⟩
  | 77 => ⟨S_, .f32⟩
  | 78 => ⟨S3x32x16, .f32⟩
  | 79 => ⟨S16x3x32, .f32⟩
  | 80 => ⟨S16x96, .f32⟩
  | 81 => ⟨S_, .i32⟩
  | 82 => ⟨S_, .f32⟩
  | 83 => ⟨S3x32x16, .f32⟩
  | 84 => ⟨S16x3x32, .f32⟩
  | 85 => ⟨S16x96, .f32⟩
  | 86 => ⟨S_, .i32⟩
  | 87 => ⟨S_, .f32⟩
  | 88 => ⟨S3x32x16, .f32⟩
  | 89 => ⟨S16x3x32, .f32⟩
  | 90 => ⟨S16x96, .f32⟩
  | 91 => ⟨S_, .i32⟩
  | 92 => ⟨S_, .f32⟩
  | 93 => ⟨S3x32x16, .f32⟩
  | 94 => ⟨S16x3x32, .f32⟩
  | 95 => ⟨S16x96, .f32⟩
  | 96 => ⟨S_, .i32⟩
  | 97 => ⟨S_, .f32⟩
  | 98 => ⟨S3x32x16, .f32⟩
  | 99 => ⟨S16x3x32, .f32⟩
  | 100 => ⟨S16x96, .f32⟩
  | 101 => ⟨S_, .i32⟩
  | 102 => ⟨S_, .f32⟩
  | 103 => ⟨S3x32x16, .f32⟩
  | 104 => ⟨S16x3x32, .f32⟩
  | 105 => ⟨S16x96, .f32⟩
  | 106 => ⟨S_, .i32⟩
  | 107 => ⟨S_, .f32⟩
  | 108 => ⟨S3x32x16, .f32⟩
  | 109 => ⟨S16x3x32, .f32⟩
  | 110 => ⟨S16x96, .f32⟩
  | 111 => ⟨S_, .i32⟩
  | 112 => ⟨S_, .f32⟩
  | 113 => ⟨S3x32x16, .f32⟩
  | 114 => ⟨S16x3x32, .f32⟩
  | 115 => ⟨S16x96, .f32⟩
  | 116 => ⟨S_, .i32⟩
  | 117 => ⟨S_, .f32⟩
  | 118 => ⟨S3x32x16, .f32⟩
  | 119 => ⟨S16x3x32, .f32⟩
  | 120 => ⟨S16x96, .f32⟩
  | 121 => ⟨S_, .i32⟩
  | 122 => ⟨S_, .f32⟩
  | 123 => ⟨S3x32x16, .f32⟩
  | 124 => ⟨S16x3x32, .f32⟩
  | 125 => ⟨S16x96, .f32⟩
  | 126 => ⟨S_, .i32⟩
  | 127 => ⟨S_, .f32⟩
  | _ => ⟨S8192x28x28x1, .f32⟩

abbrev hbmTy0_1 (i : Nat) : BufTy := match i % 128 with
  | 0 => ⟨S3x32x16, .f32⟩
  | 1 => ⟨S16x3x32, .f32⟩
  | 2 => ⟨S16x96, .f32⟩
  | 3 => ⟨S_, .i32⟩
  | 4 => ⟨S_, .f32⟩
  | 5 => ⟨S3x32x16, .f32⟩
  | 6 => ⟨S16x3x32, .f32⟩
  | 7 => ⟨S16x96, .f32⟩
  | 8 => ⟨S_, .i32⟩
  | 9 => ⟨S_, .f32⟩
  | 10 => ⟨S3x32x16, .f32⟩
  | 11 => ⟨S16x3x32, .f32⟩
  | 12 => ⟨S16x96, .f32⟩
  | 13 => ⟨S_, .i32⟩
  | 14 => ⟨S_, .f32⟩
  | 15 => ⟨S3x32x16, .f32⟩
  | 16 => ⟨S16x3x32, .f32⟩
  | 17 => ⟨S16x96, .f32⟩
  | 18 => ⟨S_, .i32⟩
  | 19 => ⟨S_, .f32⟩
  | 20 => ⟨S3x32x16, .f32⟩
  | 21 => ⟨S16x3x32, .f32⟩
  | 22 => ⟨S16x96, .f32⟩
  | 23 => ⟨S1x16x96, .f32⟩
  | 24 => ⟨S1x16x96, .f32⟩
  | 25 => ⟨S1x16x96, .f32⟩
  | 26 => ⟨S1x16x96, .f32⟩
  | 27 => ⟨S1x16x96, .f32⟩
  | 28 => ⟨S1x16x96, .f32⟩
  | 29 => ⟨S1x16x96, .f32⟩
  | 30 => ⟨S1x16x96, .f32⟩
  | 31 => ⟨S1x16x96, .f32⟩
  | 32 => ⟨S1x16x96, .f32⟩
  | 33 => ⟨S1x16x96, .f32⟩
  | 34 => ⟨S1x16x96, .f32⟩
  | 35 => ⟨S1x16x96, .f32⟩
  | 36 => ⟨S1x16x96, .f32⟩
  | 37 => ⟨S1x16x96, .f32⟩
  | 38 => ⟨S1x16x96, .f32⟩
  | 39 => ⟨S1x16x96, .f32⟩
  | 40 => ⟨S1x16x96, .f32⟩
  | 41 => ⟨S1x16x96, .f32⟩
  | 42 => ⟨S1x16x96, .f32⟩
  | 43 => ⟨S1x16x96, .f32⟩
  | 44 => ⟨S1x16x96, .f32⟩
  | 45 => ⟨S1x16x96, .f32⟩
  | 46 => ⟨S1x16x96, .f32⟩
  | 47 => ⟨S1x16x96, .f32⟩
  | 48 => ⟨S1x16x96, .f32⟩
  | 49 => ⟨S16x16x96, .f32⟩
  | 50 => ⟨S10x16x96, .f32⟩
  | 51 => ⟨S26x16x96, .f32⟩
  | 52 => ⟨S416x96, .f32⟩
  | 53 => ⟨S1x16, .f32⟩
  | 54 => ⟨S1x1x1x16, .f32⟩
  | 55 => ⟨S26x1x1x16, .f32⟩
  | 56 => ⟨S26x16, .f32⟩
  | 57 => ⟨S416x1, .f32⟩
  | 58 => ⟨S32x3x3x16, .f32⟩
  | 59 => ⟨S_, .i32⟩
  | 60 => ⟨S_, .f32⟩
  | 61 => ⟨S32x3x6x16, .f32⟩
  | 62 => ⟨S32x288, .f32⟩
  | 63 => ⟨S_, .i32⟩
  | 64 => ⟨S_, .f32⟩
  | 65 => ⟨S32x3x6x16, .f32⟩
  | 66 => ⟨S32x288, .f32⟩
  | 67 => ⟨S_, .i32⟩
  | 68 => ⟨S_, .f32⟩
  | 69 => ⟨S32x3x6x16, .f32⟩
  | 70 => ⟨S32x288, .f32⟩
  | 71 => ⟨S_, .i32⟩
  | 72 => ⟨S_, .f32⟩
  | 73 => ⟨S32x3x6x16, .f32⟩
  | 74 => ⟨S32x288, .f32⟩
  | 75 => ⟨S1x32x288, .f32⟩
  | 76 => ⟨S1x32x288, .f32⟩
  | 77 => ⟨S1x32x288, .f32⟩
  | 78 => ⟨S1x32x288, .f32⟩
  | 79 => ⟨S4x32x288, .f32⟩
  | 80 => ⟨S128x288, .f32⟩
  | 81 => ⟨S1x32, .f32⟩
  | 82 => ⟨S1x1x1x32, .f32⟩
  | 83 => ⟨S4x1x1x32, .f32⟩
  | 84 => ⟨S4x32, .f32⟩
  | 85 => ⟨S128x1, .f32⟩
  | 86 => ⟨S64x800, .f32⟩
  | 87 => ⟨S64x1, .f32⟩
  | 88 => ⟨S1x64, .f32⟩
  | 89 => ⟨S1x1, .f32⟩
  | 90 => ⟨S64x1x128, .i32⟩
  | 91 => ⟨S256x800, .f32⟩
  | 92 => ⟨S8x128, .f32⟩
  | 93 => ⟨S1x64, .f32⟩
  | 94 => ⟨S1x1, .f32⟩
  | 95 => ⟨S1x128, .f32⟩
  | 96 => ⟨S1x1, .f32⟩
  | 97 => ⟨S8x128, .f32⟩
  | 98 => ⟨S1x1, .f32⟩
  | _ => ⟨S8192x28x28x1, .f32⟩

abbrev hbmTy (i : Nat) : BufTy := match i / 128 with
  | 0 => hbmTy0_0 i
  | 1 => hbmTy0_1 i
  | _ => ⟨S8192x28x28x1, .f32⟩

abbrev bufTy : (tb : Table) → Fin (tcTables nBuf tb) → BufTy
  | .hbm, ⟨i, _⟩ => hbmTy i
  | .local _ .vmem, ⟨0, _⟩ => ⟨S1x28x28x128, .f32⟩
  | .local _ .vmem, ⟨1, _⟩ => ⟨S1x28x28x128, .f32⟩
  | .local _ .vmem, ⟨2, _⟩ => ⟨S416x96, .f32⟩
  | .local _ .vmem, ⟨3, _⟩ => ⟨S416x1, .f32⟩
  | .local _ .vmem, ⟨4, _⟩ => ⟨S128x288, .f32⟩
  | .local _ .vmem, ⟨5, _⟩ => ⟨S128x1, .f32⟩
  | .local _ .vmem, ⟨6, _⟩ => ⟨S64x800, .f32⟩
  | .local _ .vmem, ⟨7, _⟩ => ⟨S64x1, .f32⟩
  | .local _ .vmem, ⟨8, _⟩ => ⟨S1x64, .f32⟩
  | .local _ .vmem, ⟨9, _⟩ => ⟨S1x1, .f32⟩
  | .local _ .vmem, ⟨10, _⟩ => ⟨S1x1x128, .i32⟩
  | .local _ .vmem, ⟨11, _⟩ => ⟨S1x1x128, .i32⟩
  | .local _ .vmem, ⟨12, _⟩ => ⟨S256x800, .f32⟩
  | .local _ .vmem, ⟨13, _⟩ => ⟨S8x128, .f32⟩
  | .local _ .vmem, ⟨14, _⟩ => ⟨S13x14x16x128, .f32⟩
  | .local _ .vmem, ⟨15, _⟩ => ⟨S288x4224, .f32⟩
  | .local _ .vmem, ⟨16, _⟩ => ⟨S128x4224, .f32⟩
  | .local _ .vmem, ⟨17, _⟩ => ⟨S11x12x32x128, .f32⟩
  | .local _ .vmem, ⟨18, _⟩ => ⟨S96x3328, .f32⟩
  | .local _ .vmem, ⟨19, _⟩ => ⟨S416x3328, .f32⟩
  | .local _ .vmem, ⟨20, _⟩ => ⟨S256x800, .f32⟩
  | .local _ .vmem, ⟨21, _⟩ => ⟨S8x128, .f32⟩
  | .local _ .vmem, ⟨22, _⟩ => ⟨S800x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S800x128, .f32⟩
  | .local _ .vmem, ⟨27, _⟩ => ⟨S1x128, .f32⟩
  | .local _ .vmem, ⟨28, _⟩ => ⟨S128x1, .f32⟩
  | .local _ .vmem, ⟨29, _⟩ => ⟨S1x1, .f32⟩
  | .local _ .vmem, ⟨30, _⟩ => ⟨S8x128, .f32⟩
  | _, _ => ⟨S8192x28x28x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_call1_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_1 : Ref sig .tc := ⟨.hbm, 31, rfl⟩
abbrev main_call2_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_2 : Ref sig .tc := ⟨.hbm, 36, rfl⟩
abbrev main_call3_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_call4_v0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_call5_v0 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_call6_v0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_6 : Ref sig .tc := ⟨.hbm, 56, rfl⟩
abbrev main_call7_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_7 : Ref sig .tc := ⟨.hbm, 61, rfl⟩
abbrev main_call8_v0 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_8 : Ref sig .tc := ⟨.hbm, 66, rfl⟩
abbrev main_call9_v0 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_9 : Ref sig .tc := ⟨.hbm, 71, rfl⟩
abbrev main_call10_v0 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_10 : Ref sig .tc := ⟨.hbm, 76, rfl⟩
abbrev main_call11_v0 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_11 : Ref sig .tc := ⟨.hbm, 81, rfl⟩
abbrev main_call12_v0 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_c_12 : Ref sig .tc := ⟨.hbm, 86, rfl⟩
abbrev main_call13_v0 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_c_13 : Ref sig .tc := ⟨.hbm, 91, rfl⟩
abbrev main_call14_v0 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_14 : Ref sig .tc := ⟨.hbm, 96, rfl⟩
abbrev main_call15_v0 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_c_15 : Ref sig .tc := ⟨.hbm, 101, rfl⟩
abbrev main_call16_v0 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_c_16 : Ref sig .tc := ⟨.hbm, 106, rfl⟩
abbrev main_call17_v0 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_c_17 : Ref sig .tc := ⟨.hbm, 111, rfl⟩
abbrev main_call18_v0 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_18 : Ref sig .tc := ⟨.hbm, 116, rfl⟩
abbrev main_call19_v0 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_c_19 : Ref sig .tc := ⟨.hbm, 121, rfl⟩
abbrev main_call20_v0 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_c_20 : Ref sig .tc := ⟨.hbm, 126, rfl⟩
abbrev main_call21_v0 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_c_21 : Ref sig .tc := ⟨.hbm, 131, rfl⟩
abbrev main_call22_v0 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_c_22 : Ref sig .tc := ⟨.hbm, 136, rfl⟩
abbrev main_call23_v0 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_c_23 : Ref sig .tc := ⟨.hbm, 141, rfl⟩
abbrev main_call24_v0 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_c_24 : Ref sig .tc := ⟨.hbm, 146, rfl⟩
abbrev main_call25_v0 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_c_25 : Ref sig .tc := ⟨.hbm, 187, rfl⟩
abbrev main_call26_v0 : Ref sig .tc := ⟨.hbm, 188, rfl⟩
abbrev main_v117 : Ref sig .tc := ⟨.hbm, 189, rfl⟩
abbrev main_v118 : Ref sig .tc := ⟨.hbm, 190, rfl⟩
abbrev main_c_26 : Ref sig .tc := ⟨.hbm, 191, rfl⟩
abbrev main_call27_v0 : Ref sig .tc := ⟨.hbm, 192, rfl⟩
abbrev main_v119 : Ref sig .tc := ⟨.hbm, 193, rfl⟩
abbrev main_v120 : Ref sig .tc := ⟨.hbm, 194, rfl⟩
abbrev main_c_27 : Ref sig .tc := ⟨.hbm, 195, rfl⟩
abbrev main_call28_v0 : Ref sig .tc := ⟨.hbm, 196, rfl⟩
abbrev main_v121 : Ref sig .tc := ⟨.hbm, 197, rfl⟩
abbrev main_v122 : Ref sig .tc := ⟨.hbm, 198, rfl⟩
abbrev main_c_28 : Ref sig .tc := ⟨.hbm, 199, rfl⟩
abbrev main_call29_v0 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141_0 : Ref sig .tc := ⟨.hbm, 219, rfl⟩
abbrev main_v141_1 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_576 : BitVec 32 := 0#32
  let c33_i32 : BitVec 32 := 33#32
  let v582 : BitVec 32 := Scalar.addi c0_i32_576 c33_i32
  let c1_i32 : BitVec 32 := 1#32
  ⟨c0_i32_576, v582, c1_i32⟩
def k0_off1 (k0_t1 : Fin k0_t1_loop.trips) (c0_i32_669 : BitVec 32) (c0_i32_670 : BitVec 32) : Fin 4 → Nat :=
  let c0_i32_576 : BitVec 32 := 0#32
  let c1_i32 : BitVec 32 := 1#32
  let arg19 : BitVec 32 := Scf.iv c0_i32_576 c1_i32 k0_t1
  let c0_i32_662 : BitVec 32 := 0#32
  let v682 : BitVec 1 := Scalar.cmpi .sgt arg19 c0_i32_662
  let v683 : BitVec 32 := Scalar.extui v682
  let c0_i32_663 : BitVec 32 := 0#32
  let v684 : BitVec 1 := Scalar.cmpi .slt arg19 c0_i32_663
  let v685 : BitVec 32 := Scalar.extui v684
  let v686 : BitVec 32 := Scalar.subi v683 v685
  let c3_i32 : BitVec 32 := 3#32
  let c0_i32_664 : BitVec 32 := 0#32
  let v687 : BitVec 1 := Scalar.cmpi .sgt c3_i32 c0_i32_664
  let v688 : BitVec 32 := Scalar.extui v687
  let c0_i32_665 : BitVec 32 := 0#32
  let v689 : BitVec 1 := Scalar.cmpi .slt c3_i32 c0_i32_665
  let v690 : BitVec 32 := Scalar.extui v689
  let v691 : BitVec 32 := Scalar.subi v688 v690
  let v692 : BitVec 1 := Scalar.cmpi .ne v686 v691
  let v693 : BitVec 32 := Scalar.remsi arg19 c3_i32
  let c0_i32_666 : BitVec 32 := 0#32
  let v694 : BitVec 1 := Scalar.cmpi .ne v693 c0_i32_666
  let v695 : BitVec 1 := Scalar.andi v692 v694
  let v681 : BitVec 32 := Scalar.divsi arg19 c3_i32
  let c1_i32_667 : BitVec 32 := 1#32
  let v696 : BitVec 32 := Scalar.subi v681 c1_i32_667
  let v697 : BitVec 32 := Scalar.select v695 v696 v681
  let v700 : BitVec 32 := Scalar.addi v697 c0_i32_669
  let v703 : Index := Scalar.indexCast v700
  let c3_i32_668 : BitVec 32 := 3#32
  let v698 : BitVec 32 := Scalar.muli v697 c3_i32_668
  let v699 : BitVec 32 := Scalar.subi arg19 v698
  let c4_i32 : BitVec 32 := 4#32
  let v701 : BitVec 32 := Scalar.muli v699 c4_i32
  let v702 : BitVec 32 := Scalar.addi v701 c0_i32_670
  let v704 : Index := Scalar.indexCast v702
  let c0_671 : Index := 0#32
  let c0_672 : Index := 0#32
  ![v703.toNat, v704.toNat, 0, 0]
def k0_off2 (k0_t1 : Fin k0_t1_loop.trips) : Fin 2 → Nat :=
  let c0_673 : Index := 0#32
  let c0_i32_576 : BitVec 32 := 0#32
  let c1_i32 : BitVec 32 := 1#32
  let arg19 : BitVec 32 := Scf.iv c0_i32_576 c1_i32 k0_t1
  let c128_i32 : BitVec 32 := 128#32
  let v707 : BitVec 32 := Scalar.muli arg19 c128_i32
  let v708 : Index := Scalar.indexCast v707
  ![0, v708.toNat]
def k0_off3 (k0_t1 : Fin k0_t1_loop.trips) : Fin 2 → Nat :=
  let c16_680 : Index := 16#32
  let c0_i32_576 : BitVec 32 := 0#32
  let c1_i32 : BitVec 32 := 1#32
  let arg19 : BitVec 32 := Scf.iv c0_i32_576 c1_i32 k0_t1
  let c128_i32_679 : BitVec 32 := 128#32
  let v719 : BitVec 32 := Scalar.muli arg19 c128_i32_679
  let v720 : Index := Scalar.indexCast v719
  ![16, v720.toNat]
def k0_off4 (k0_t1 : Fin k0_t1_loop.trips) : Fin 2 → Nat :=
  let c32_686 : Index := 32#32
  let c0_i32_576 : BitVec 32 := 0#32
  let c1_i32 : BitVec 32 := 1#32
  let arg19 : BitVec 32 := Scf.iv c0_i32_576 c1_i32 k0_t1
  let c128_i32_685 : BitVec 32 := 128#32
  let v731 : BitVec 32 := Scalar.muli arg19 c128_i32_685
  let v732 : Index := Scalar.indexCast v731
  ![32, v732.toNat]
def k0_off5 (k0_t1 : Fin k0_t1_loop.trips) : Fin 2 → Nat :=
  let c48 : Index := 48#32
  let c0_i32_576 : BitVec 32 := 0#32
  let c1_i32 : BitVec 32 := 1#32
  let arg19 : BitVec 32 := Scf.iv c0_i32_576 c1_i32 k0_t1
  let c128_i32_692 : BitVec 32 := 128#32
  let v743 : BitVec 32 := Scalar.muli arg19 c128_i32_692
  let v744 : Index := Scalar.indexCast v743
  ![48, v744.toNat]
def k0_off6 (k0_t1 : Fin k0_t1_loop.trips) : Fin 2 → Nat :=
  let c64_699 : Index := 64#32
  let c0_i32_576 : BitVec 32 := 0#32
  let c1_i32 : BitVec 32 := 1#32
  let arg19 : BitVec 32 := Scf.iv c0_i32_576 c1_i32 k0_t1
  let c128_i32_698 : BitVec 32 := 128#32
  let v755 : BitVec 32 := Scalar.muli arg19 c128_i32_698
  let v756 : Index := Scalar.indexCast v755
  ![64, v756.toNat]
def k0_off7 (k0_t1 : Fin k0_t1_loop.trips) : Fin 2 → Nat :=
  let c80 : Index := 80#32
  let c0_i32_576 : BitVec 32 := 0#32
  let c1_i32 : BitVec 32 := 1#32
  let arg19 : BitVec 32 := Scf.iv c0_i32_576 c1_i32 k0_t1
  let c128_i32_704 : BitVec 32 := 128#32
  let v767 : BitVec 32 := Scalar.muli arg19 c128_i32_704
  let v768 : Index := Scalar.indexCast v767
  ![80, v768.toNat]
def k0_off8 (k0_t1 : Fin k0_t1_loop.trips) : Fin 2 → Nat :=
  let c96 : Index := 96#32
  let c0_i32_576 : BitVec 32 := 0#32
  let c1_i32 : BitVec 32 := 1#32
  let arg19 : BitVec 32 := Scf.iv c0_i32_576 c1_i32 k0_t1
  let c128_i32_710 : BitVec 32 := 128#32
  let v779 : BitVec 32 := Scalar.muli arg19 c128_i32_710
  let v780 : Index := Scalar.indexCast v779
  ![96, v780.toNat]
def k0_off9 (k0_t1 : Fin k0_t1_loop.trips) : Fin 2 → Nat :=
  let c112 : Index := 112#32
  let c0_i32_576 : BitVec 32 := 0#32
  let c1_i32 : BitVec 32 := 1#32
  let arg19 : BitVec 32 := Scf.iv c0_i32_576 c1_i32 k0_t1
  let c128_i32_716 : BitVec 32 := 128#32
  let v791 : BitVec 32 := Scalar.muli arg19 c128_i32_716
  let v792 : Index := Scalar.indexCast v791
  ![112, v792.toNat]
def k0_off10 (k0_t1 : Fin k0_t1_loop.trips) : Fin 2 → Nat :=
  let c128_723 : Index := 128#32
  let c0_i32_576 : BitVec 32 := 0#32
  let c1_i32 : BitVec 32 := 1#32
  let arg19 : BitVec 32 := Scf.iv c0_i32_576 c1_i32 k0_t1
  let c128_i32_722 : BitVec 32 := 128#32
  let v803 : BitVec 32 := Scalar.muli arg19 c128_i32_722
  let v804 : Index := Scalar.indexCast v803
  ![128, v804.toNat]
def k0_off11 (k0_t1 : Fin k0_t1_loop.trips) : Fin 2 → Nat :=
  let c144 : Index := 144#32
  let c0_i32_576 : BitVec 32 := 0#32
  let c1_i32 : BitVec 32 := 1#32
  let arg19 : BitVec 32 := Scf.iv c0_i32_576 c1_i32 k0_t1
  let c128_i32_729 : BitVec 32 := 128#32
  let v815 : BitVec 32 := Scalar.muli arg19 c128_i32_729
  let v816 : Index := Scalar.indexCast v815
  ![144, v816.toNat]
def k0_off12 (k0_t1 : Fin k0_t1_loop.trips) : Fin 2 → Nat :=
  let c160 : Index := 160#32
  let c0_i32_576 : BitVec 32 := 0#32
  let c1_i32 : BitVec 32 := 1#32
  let arg19 : BitVec 32 := Scf.iv c0_i32_576 c1_i32 k0_t1
  let c128_i32_735 : BitVec 32 := 128#32
  let v827 : BitVec 32 := Scalar.muli arg19 c128_i32_735
  let v828 : Index := Scalar.indexCast v827
  ![160, v828.toNat]
def k0_off13 (k0_t1 : Fin k0_t1_loop.trips) : Fin 2 → Nat :=
  let c176 : Index := 176#32
  let c0_i32_576 : BitVec 32 := 0#32
  let c1_i32 : BitVec 32 := 1#32
  let arg19 : BitVec 32 := Scf.iv c0_i32_576 c1_i32 k0_t1
  let c128_i32_741 : BitVec 32 := 128#32
  let v839 : BitVec 32 := Scalar.muli arg19 c128_i32_741
  let v840 : Index := Scalar.indexCast v839
  ![176, v840.toNat]
def k0_off14 (k0_t1 : Fin k0_t1_loop.trips) : Fin 2 → Nat :=
  let c192 : Index := 192#32
  let c0_i32_576 : BitVec 32 := 0#32
  let c1_i32 : BitVec 32 := 1#32
  let arg19 : BitVec 32 := Scf.iv c0_i32_576 c1_i32 k0_t1
  let c128_i32_747 : BitVec 32 := 128#32
  let v851 : BitVec 32 := Scalar.muli arg19 c128_i32_747
  let v852 : Index := Scalar.indexCast v851
  ![192, v852.toNat]
def k0_off15 (k0_t1 : Fin k0_t1_loop.trips) : Fin 2 → Nat :=
  let c208 : Index := 208#32
  let c0_i32_576 : BitVec 32 := 0#32
  let c1_i32 : BitVec 32 := 1#32
  let arg19 : BitVec 32 := Scf.iv c0_i32_576 c1_i32 k0_t1
  let c128_i32_753 : BitVec 32 := 128#32
  let v863 : BitVec 32 := Scalar.muli arg19 c128_i32_753
  let v864 : Index := Scalar.indexCast v863
  ![208, v864.toNat]
def k0_off16 (k0_t1 : Fin k0_t1_loop.trips) : Fin 2 → Nat :=
  let c224 : Index := 224#32
  let c0_i32_576 : BitVec 32 := 0#32
  let c1_i32 : BitVec 32 := 1#32
  let arg19 : BitVec 32 := Scf.iv c0_i32_576 c1_i32 k0_t1
  let c128_i32_759 : BitVec 32 := 128#32
  let v875 : BitVec 32 := Scalar.muli arg19 c128_i32_759
  let v876 : Index := Scalar.indexCast v875
  ![224, v876.toNat]
def k0_off17 (k0_t1 : Fin k0_t1_loop.trips) : Fin 2 → Nat :=
  let c240 : Index := 240#32
  let c0_i32_576 : BitVec 32 := 0#32
  let c1_i32 : BitVec 32 := 1#32
  let arg19 : BitVec 32 := Scf.iv c0_i32_576 c1_i32 k0_t1
  let c128_i32_765 : BitVec 32 := 128#32
  let v887 : BitVec 32 := Scalar.muli arg19 c128_i32_765
  let v888 : Index := Scalar.indexCast v887
  ![240, v888.toNat]
def k0_off18 (k0_t1 : Fin k0_t1_loop.trips) : Fin 2 → Nat :=
  let c256_772 : Index := 256#32
  let c0_i32_576 : BitVec 32 := 0#32
  let c1_i32 : BitVec 32 := 1#32
  let arg19 : BitVec 32 := Scf.iv c0_i32_576 c1_i32 k0_t1
  let c128_i32_771 : BitVec 32 := 128#32
  let v899 : BitVec 32 := Scalar.muli arg19 c128_i32_771
  let v900 : Index := Scalar.indexCast v899
  ![256, v900.toNat]
def k0_off19 (k0_t1 : Fin k0_t1_loop.trips) : Fin 2 → Nat :=
  let c272 : Index := 272#32
  let c0_i32_576 : BitVec 32 := 0#32
  let c1_i32 : BitVec 32 := 1#32
  let arg19 : BitVec 32 := Scf.iv c0_i32_576 c1_i32 k0_t1
  let c128_i32_778 : BitVec 32 := 128#32
  let v911 : BitVec 32 := Scalar.muli arg19 c128_i32_778
  let v912 : Index := Scalar.indexCast v911
  ![272, v912.toNat]
@[reducible] def k0_t2_loop : Scf.Loop 32 :=
  let c0_i32_588 : BitVec 32 := 0#32
  let c33_i32_589 : BitVec 32 := 33#32
  let v596 : BitVec 32 := Scalar.addi c0_i32_588 c33_i32_589
  let c1_i32_590 : BitVec 32 := 1#32
  ⟨c0_i32_588, v596, c1_i32_590⟩
def k0_off20 (k0_t2 : Fin k0_t2_loop.trips) : Fin 2 → Nat :=
  let c0_669 : Index := 0#32
  let c0_i32_588 : BitVec 32 := 0#32
  let c1_i32_590 : BitVec 32 := 1#32
  let arg19 : BitVec 32 := Scf.iv c0_i32_588 c1_i32_590 k0_t2
  let c128_i32 : BitVec 32 := 128#32
  let v700 : BitVec 32 := Scalar.muli arg19 c128_i32
  let v701 : Index := Scalar.indexCast v700
  ![0, v701.toNat]
def k0_off21 (k0_t2 : Fin k0_t2_loop.trips) : Fin 4 → Nat :=
  let c0_i32_588 : BitVec 32 := 0#32
  let c1_i32_590 : BitVec 32 := 1#32
  let arg19 : BitVec 32 := Scf.iv c0_i32_588 c1_i32_590 k0_t2
  let c0_i32_662 : BitVec 32 := 0#32
  let v682 : BitVec 1 := Scalar.cmpi .sgt arg19 c0_i32_662
  let v683 : BitVec 32 := Scalar.extui v682
  let c0_i32_663 : BitVec 32 := 0#32
  let v684 : BitVec 1 := Scalar.cmpi .slt arg19 c0_i32_663
  let v685 : BitVec 32 := Scalar.extui v684
  let v686 : BitVec 32 := Scalar.subi v683 v685
  let c3_i32 : BitVec 32 := 3#32
  let c0_i32_664 : BitVec 32 := 0#32
  let v687 : BitVec 1 := Scalar.cmpi .sgt c3_i32 c0_i32_664
  let v688 : BitVec 32 := Scalar.extui v687
  let c0_i32_665 : BitVec 32 := 0#32
  let v689 : BitVec 1 := Scalar.cmpi .slt c3_i32 c0_i32_665
  let v690 : BitVec 32 := Scalar.extui v689
  let v691 : BitVec 32 := Scalar.subi v688 v690
  let v692 : BitVec 1 := Scalar.cmpi .ne v686 v691
  let v693 : BitVec 32 := Scalar.remsi arg19 c3_i32
  let c0_i32_666 : BitVec 32 := 0#32
  let v694 : BitVec 1 := Scalar.cmpi .ne v693 c0_i32_666
  let v695 : BitVec 1 := Scalar.andi v692 v694
  let v681 : BitVec 32 := Scalar.divsi arg19 c3_i32
  let c1_i32_667 : BitVec 32 := 1#32
  let v696 : BitVec 32 := Scalar.subi v681 c1_i32_667
  let v697 : BitVec 32 := Scalar.select v695 v696 v681
  let v705 : Index := Scalar.indexCast v697
  let c3_i32_668 : BitVec 32 := 3#32
  let v698 : BitVec 32 := Scalar.muli v697 c3_i32_668
  let v699 : BitVec 32 := Scalar.subi arg19 v698
  let c4_i32 : BitVec 32 := 4#32
  let v704 : BitVec 32 := Scalar.muli v699 c4_i32
  let v706 : Index := Scalar.indexCast v704
  let c0_670 : Index := 0#32
  let c0_671 : Index := 0#32
  ![v705.toNat, v706.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x28x28x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S416x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S416x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x800 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x800 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := .none

abbrev stage1_0 : Fin 1 → Memref sig .tc .vmem S256x800 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S800x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S800x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S8192x28x28x1 : Shape := ⟨4, ![8192, 28, 28, 1]⟩
abbrev S8192 : Shape := ⟨1, ![8192]⟩
abbrev S3x3x1x16 : Shape := ⟨4, ![3, 3, 1, 16]⟩
abbrev S16 : Shape := ⟨1, ![16]⟩
abbrev S3x3x16x32 : Shape := ⟨4, ![3, 3, 16, 32]⟩
abbrev S32 : Shape := ⟨1, ![32]⟩
abbrev S800x64 : Shape := ⟨2, ![800, 64]⟩
abbrev S64 : Shape := ⟨1, ![64]⟩
abbrev S64x1 : Shape := ⟨2, ![64, 1]⟩
abbrev S1 : Shape := ⟨1, ![1]⟩
abbrev S800x128 : Shape := ⟨2, ![800, 128]⟩
abbrev S128 : Shape := ⟨1, ![128]⟩
abbrev S128x1 : Shape := ⟨2, ![128, 1]⟩
abbrev S8192x26x26x1 : Shape := ⟨4, ![8192, 26, 26, 1]⟩
abbrev S1x1x1x16 : Shape := ⟨4, ![1, 1, 1, 16]⟩
abbrev S1x16 : Shape := ⟨2, ![1, 16]⟩
abbrev S8192x26x26x16 : Shape := ⟨4, ![8192, 26, 26, 16]⟩
abbrev S_ : Shape := ⟨0, ![]⟩
abbrev S8192x13x13x16 : Shape := ⟨4, ![8192, 13, 13, 16]⟩
abbrev S8192x11x11x16 : Shape := ⟨4, ![8192, 11, 11, 16]⟩
abbrev S1x1x16x32 : Shape := ⟨4, ![1, 1, 16, 32]⟩
abbrev S16x32 : Shape := ⟨2, ![16, 32]⟩
abbrev S8192x11x11x32 : Shape := ⟨4, ![8192, 11, 11, 32]⟩
abbrev S1x1x1x32 : Shape := ⟨4, ![1, 1, 1, 32]⟩
abbrev S8192x5x5x32 : Shape := ⟨4, ![8192, 5, 5, 32]⟩
abbrev S8192x800 : Shape := ⟨2, ![8192, 800]⟩
abbrev S8192x64 : Shape := ⟨2, ![8192, 64]⟩
abbrev S1x64 : Shape := ⟨2, ![1, 64]⟩
abbrev S8192x1 : Shape := ⟨2, ![8192, 1]⟩
abbrev S1x1 : Shape := ⟨2, ![1, 1]⟩
abbrev S256x800 : Shape := ⟨2, ![256, 800]⟩
abbrev S256x64 : Shape := ⟨2, ![256, 64]⟩
abbrev S256x1 : Shape := ⟨2, ![256, 1]⟩
abbrev S1x256 : Shape := ⟨2, ![1, 256]⟩
abbrev S1x800 : Shape := ⟨2, ![1, 800]⟩
abbrev S1x128 : Shape := ⟨2, ![1, 128]⟩

abbrev nBuf : Space → Nat
  | .hbm => 215
  | .vmem => 0
  | .smem => 0
  | _ => 0

abbrev hbmTy0_0 (i : Nat) : BufTy := match i % 128 with
  | 0 => ⟨S8192x28x28x1, .f32⟩
  | 1 => ⟨S8192, .i32⟩
  | 2 => ⟨S3x3x1x16, .f32⟩
  | 3 => ⟨S16, .f32⟩
  | 4 => ⟨S3x3x16x32, .f32⟩
  | 5 => ⟨S32, .f32⟩
  | 6 => ⟨S800x64, .f32⟩
  | 7 => ⟨S64, .f32⟩
  | 8 => ⟨S64x1, .f32⟩
  | 9 => ⟨S1, .f32⟩
  | 10 => ⟨S800x64, .f32⟩
  | 11 => ⟨S64, .f32⟩
  | 12 => ⟨S64x1, .f32⟩
  | 13 => ⟨S1, .f32⟩
  | 14 => ⟨S800x128, .f32⟩
  | 15 => ⟨S128, .f32⟩
  | 16 => ⟨S128x1, .f32⟩
  | 17 => ⟨S1, .f32⟩
  | 18 => ⟨S8192x26x26x1, .f32⟩
  | 19 => ⟨S1x1x1x16, .f32⟩
  | 20 => ⟨S1x16, .f32⟩
  | 21 => ⟨S8192x26x26x16, .f32⟩
  | 22 => ⟨S_, .f32⟩
  | 23 => ⟨S8192x26x26x16, .f32⟩
  | 24 => ⟨S8192x26x26x16, .f32⟩
  | 25 => ⟨S8192x26x26x1, .f32⟩
  | 26 => ⟨S1x1x1x16, .f32⟩
  | 27 => ⟨S1x16, .f32⟩
  | 28 => ⟨S8192x26x26x16, .f32⟩
  | 29 => ⟨S8192x26x26x16, .f32⟩
  | 30 => ⟨S8192x26x26x1, .f32⟩
  | 31 => ⟨S1x1x1x16, .f32⟩
  | 32 => ⟨S1x16, .f32⟩
  | 33 => ⟨S8192x26x26x16, .f32⟩
  | 34 => ⟨S8192x26x26x16, .f32⟩
  | 35 => ⟨S8192x26x26x1, .f32⟩
  | 36 => ⟨S1x1x1x16, .f32⟩
  | 37 => ⟨S1x16, .f32⟩
  | 38 => ⟨S8192x26x26x16, .f32⟩
  | 39 => ⟨S8192x26x26x16, .f32⟩
  | 40 => ⟨S8192x26x26x1, .f32⟩
  | 41 => ⟨S1x1x1x16, .f32⟩
  | 42 => ⟨S1x16, .f32⟩
  | 43 => ⟨S8192x26x26x16, .f32⟩
  | 44 => ⟨S8192x26x26x16, .f32⟩
  | 45 => ⟨S8192x26x26x1, .f32⟩
  | 46 => ⟨S1x1x1x16, .f32⟩
  | 47 => ⟨S1x16, .f32⟩
  | 48 => ⟨S8192x26x26x16, .f32⟩
  | 49 => ⟨S8192x26x26x16, .f32⟩
  | 50 => ⟨S8192x26x26x1, .f32⟩
  | 51 => ⟨S1x1x1x16, .f32⟩
  | 52 => ⟨S1x16, .f32⟩
  | 53 => ⟨S8192x26x26x16, .f32⟩
  | 54 => ⟨S8192x26x26x16, .f32⟩
  | 55 => ⟨S8192x26x26x1, .f32⟩
  | 56 => ⟨S1x1x1x16, .f32⟩
  | 57 => ⟨S1x16, .f32⟩
  | 58 => ⟨S8192x26x26x16, .f32⟩
  | 59 => ⟨S8192x26x26x16, .f32⟩
  | 60 => ⟨S8192x26x26x1, .f32⟩
  | 61 => ⟨S1x1x1x16, .f32⟩
  | 62 => ⟨S1x16, .f32⟩
  | 63 => ⟨S8192x26x26x16, .f32⟩
  | 64 => ⟨S8192x26x26x16, .f32⟩
  | 65 => ⟨S1x1x1x16, .f32⟩
  | 66 => ⟨S8192x26x26x16, .f32⟩
  | 67 => ⟨S8192x26x26x16, .f32⟩
  | 68 => ⟨S_, .f32⟩
  | 69 => ⟨S8192x26x26x16, .f32⟩
  | 70 => ⟨S8192x26x26x16, .f32⟩
  | 71 => ⟨S_, .f32⟩
  | 72 => ⟨S_, .f32⟩
  | 73 => ⟨S8192x13x13x16, .f32⟩
  | 74 => ⟨S8192x11x11x16, .f32⟩
  | 75 => ⟨S1x1x16x32, .f32⟩
  | 76 => ⟨S16x32, .f32⟩
  | 77 => ⟨S8192x11x11x32, .f32⟩
  | 78 => ⟨S_, .f32⟩
  | 79 => ⟨S8192x11x11x32, .f32⟩
  | 80 => ⟨S8192x11x11x32, .f32⟩
  | 81 => ⟨S8192x11x11x16, .f32⟩
  | 82 => ⟨S1x1x16x32, .f32⟩
  | 83 => ⟨S16x32, .f32⟩
  | 84 => ⟨S8192x11x11x32, .f32⟩
  | 85 => ⟨S8192x11x11x32, .f32⟩
  | 86 => ⟨S8192x11x11x16, .f32⟩
  | 87 => ⟨S1x1x16x32, .f32⟩
  | 88 => ⟨S16x32, .f32⟩
  | 89 => ⟨S8192x11x11x32, .f32⟩
  | 90 => ⟨S8192x11x11x32, .f32⟩
  | 91 => ⟨S8192x11x11x16, .f32⟩
  | 92 => ⟨S1x1x16x32, .f32⟩
  | 93 => ⟨S16x32, .f32⟩
  | 94 => ⟨S8192x11x11x32, .f32⟩
  | 95 => ⟨S8192x11x11x32, .f32⟩
  | 96 => ⟨S8192x11x11x16, .f32⟩
  | 97 => ⟨S1x1x16x32, .f32⟩
  | 98 => ⟨S16x32, .f32⟩
  | 99 => ⟨S8192x11x11x32, .f32⟩
  | 100 => ⟨S8192x11x11x32, .f32⟩
  | 101 => ⟨S8192x11x11x16, .f32⟩
  | 102 => ⟨S1x1x16x32, .f32⟩
  | 103 => ⟨S16x32, .f32⟩
  | 104 => ⟨S8192x11x11x32, .f32⟩
  | 105 => ⟨S8192x11x11x32, .f32⟩
  | 106 => ⟨S8192x11x11x16, .f32⟩
  | 107 => ⟨S1x1x16x32, .f32⟩
  | 108 => ⟨S16x32, .f32⟩
  | 109 => ⟨S8192x11x11x32, .f32⟩
  | 110 => ⟨S8192x11x11x32, .f32⟩
  | 111 => ⟨S8192x11x11x16, .f32⟩
  | 112 => ⟨S1x1x16x32, .f32⟩
  | 113 => ⟨S16x32, .f32⟩
  | 114 => ⟨S8192x11x11x32, .f32⟩
  | 115 => ⟨S8192x11x11x32, .f32⟩
  | 116 => ⟨S8192x11x11x16, .f32⟩
  | 117 => ⟨S1x1x16x32, .f32⟩
  | 118 => ⟨S16x32, .f32⟩
  | 119 => ⟨S8192x11x11x32, .f32⟩
  | 120 => ⟨S8192x11x11x32, .f32⟩
  | 121 => ⟨S1x1x1x32, .f32⟩
  | 122 => ⟨S8192x11x11x32, .f32⟩
  | 123 => ⟨S8192x11x11x32, .f32⟩
  | 124 => ⟨S_, .f32⟩
  | 125 => ⟨S8192x11x11x32, .f32⟩
  | 126 => ⟨S8192x11x11x32, .f32⟩
  | 127 => ⟨S_, .f32⟩
  | _ => ⟨S8192x28x28x1, .f32⟩

abbrev hbmTy0_1 (i : Nat) : BufTy := match i % 128 with
  | 0 => ⟨S_, .f32⟩
  | 1 => ⟨S8192x5x5x32, .f32⟩
  | 2 => ⟨S8192x800, .f32⟩
  | 3 => ⟨S8192x64, .f32⟩
  | 4 => ⟨S1x64, .f32⟩
  | 5 => ⟨S8192x64, .f32⟩
  | 6 => ⟨S8192x64, .f32⟩
  | 7 => ⟨S8192x64, .f32⟩
  | 8 => ⟨S8192x1, .f32⟩
  | 9 => ⟨S1x1, .f32⟩
  | 10 => ⟨S8192x1, .f32⟩
  | 11 => ⟨S8192x1, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S1, .f32⟩
  | 22 => ⟨S_, .f32⟩
  | 23 => ⟨S1, .f32⟩
  | 24 => ⟨S1, .f32⟩
  | 25 => ⟨S1x1, .f32⟩
  | 26 => ⟨S8192x1, .f32⟩
  | 27 => ⟨S8192x1, .f32⟩
  | 28 => ⟨S8192x1, .f32⟩
  | 29 => ⟨S_, .f32⟩
  | 30 => ⟨S1, .f32⟩
  | 31 => ⟨S1x1, .f32⟩
  | 32 => ⟨S8192x1, .f32⟩
  | 33 => ⟨S8192x1, .f32⟩
  | 34 => ⟨S8192x800, .f32⟩
  | 35 => ⟨S8192x800, .f32⟩
  | 36 => ⟨S_, .f32⟩
  | 37 => ⟨S256x800, .f32⟩
  | 38 => ⟨S8192x1, .i32⟩
  | 39 => ⟨S256x800, .f32⟩
  | 40 => ⟨S256x64, .f32⟩
  | 41 => ⟨S1x64, .f32⟩
  | 42 => ⟨S256x64, .f32⟩
  | 43 => ⟨S256x64, .f32⟩
  | 44 => ⟨S256x64, .f32⟩
  | 45 => ⟨S256x1, .f32⟩
  | 46 => ⟨S1x1, .f32⟩
  | 47 => ⟨S256x1, .f32⟩
  | 48 => ⟨S256x1, .f32⟩
  | 49 => ⟨S256x1, .f32⟩
  | 50 => ⟨S256x1, .f32⟩
  | 51 => ⟨S_, .f32⟩
  | 52 => ⟨S256x1, .f32⟩
  | 53 => ⟨S256x1, .f32⟩
  | 54 => ⟨S_, .f32⟩
  | 55 => ⟨S256x1, .f32⟩
  | 56 => ⟨S256x1, .f32⟩
  | 57 => ⟨S1x256, .f32⟩
  | 58 => ⟨S_, .f32⟩
  | 59 => ⟨S1, .f32⟩
  | 60 => ⟨S_, .f32⟩
  | 61 => ⟨S1, .f32⟩
  | 62 => ⟨S1, .f32⟩
  | 63 => ⟨S1x1, .f32⟩
  | 64 => ⟨S1x256, .f32⟩
  | 65 => ⟨S1x256, .f32⟩
  | 66 => ⟨S1x256, .f32⟩
  | 67 => ⟨S_, .f32⟩
  | 68 => ⟨S1, .f32⟩
  | 69 => ⟨S1x1, .f32⟩
  | 70 => ⟨S1x256, .f32⟩
  | 71 => ⟨S1x256, .f32⟩
  | 72 => ⟨S1x800, .f32⟩
  | 73 => ⟨S1x128, .f32⟩
  | 74 => ⟨S1x128, .f32⟩
  | 75 => ⟨S1x128, .f32⟩
  | 76 => ⟨S1x1, .f32⟩
  | 77 => ⟨S1x1, .f32⟩
  | 78 => ⟨S1x1, .f32⟩
  | 79 => ⟨S1x1, .f32⟩
  | 80 => ⟨S1x1, .f32⟩
  | 81 => ⟨S_, .f32⟩
  | 82 => ⟨S1x1, .f32⟩
  | 83 => ⟨S1x1, .f32⟩
  | 84 => ⟨S_, .f32⟩
  | 85 => ⟨S1x1, .f32⟩
  | 86 => ⟨S1x1, .f32⟩
  | _ => ⟨S8192x28x28x1, .f32⟩

abbrev hbmTy (i : Nat) : BufTy := match i / 128 with
  | 0 => hbmTy0_0 i
  | 1 => hbmTy0_1 i
  | _ => ⟨S8192x28x28x1, .f32⟩

abbrev bufTy : (tb : Table) → Fin (tcTables nBuf tb) → BufTy
  | .hbm, ⟨i, _⟩ => hbmTy i
  | _, _ => ⟨S8192x28x28x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_cst_0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_1 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_call1_cst : Ref sig .tc := ⟨.hbm, 124, rfl⟩
abbrev main_call1_v0 : Ref sig .tc := ⟨.hbm, 125, rfl⟩
abbrev main_v101 : Ref sig .tc := ⟨.hbm, 126, rfl⟩
abbrev main_cst_2 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_3 : Ref sig .tc := ⟨.hbm, 142, rfl⟩
abbrev main_v116 : Ref sig .tc := ⟨.hbm, 143, rfl⟩
abbrev main_v117 : Ref sig .tc := ⟨.hbm, 144, rfl⟩
abbrev main_cst_4 : Ref sig .tc := ⟨.hbm, 145, rfl⟩
abbrev main_v118 : Ref sig .tc := ⟨.hbm, 146, rfl⟩
abbrev main_v119 : Ref sig .tc := ⟨.hbm, 147, rfl⟩
abbrev main_cst_5 : Ref sig .tc := ⟨.hbm, 148, rfl⟩
abbrev main_v120 : Ref sig .tc := ⟨.hbm, 149, rfl⟩
abbrev main_cst_6 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_7 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_8 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_9 : Ref sig .tc := ⟨.hbm, 179, rfl⟩
abbrev main_v147 : Ref sig .tc := ⟨.hbm, 180, rfl⟩
abbrev main_v148 : Ref sig .tc := ⟨.hbm, 181, rfl⟩
abbrev main_cst_10 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_11 : Ref sig .tc := ⟨.hbm, 186, rfl⟩
abbrev main_v152 : Ref sig .tc := ⟨.hbm, 187, rfl⟩
abbrev main_cst_12 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_13 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_14 : Ref sig .tc := ⟨.hbm, 209, rfl⟩
abbrev main_v172 : Ref sig .tc := ⟨.hbm, 210, rfl⟩
abbrev main_v173 : Ref sig .tc := ⟨.hbm, 211, rfl⟩
abbrev main_cst_15 : Ref sig .tc := ⟨.hbm, 212, rfl⟩
abbrev main_v174 : Ref sig .tc := ⟨.hbm, 213, rfl⟩
abbrev main_v175 : Ref sig .tc := ⟨.hbm, 214, rfl⟩

abbrev nD : Nat := 1
abbrev τ : Topo := Topo.v7x

variable {F : FTy → Type} [FloatOps F]
-- ==== Proof.FillI.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.VecWindow
public import Idealize.ShloMosaic.Lib.ValueIdx
public import Idealize.ShloMosaic.Lib.Pointwise
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- One row of the staged block of images: every column and every image of the block at row `q`. -/
def rowv (x0 : Vec F S1x28x28x128 .f32) (q : ℕ) (hq : q < 28) : Vec F S1x1x28x128 .f32 :=
  VecWindow.window x0 ![0, q, 0, 0] S1x1x28x128.size (fun a => by
    match a with
    | 0 => exact Nat.le_refl 1
    | 1 => exact (by omega : q + 1 ≤ 28)
    | 2 => exact Nat.le_refl 28
    | 3 => exact Nat.le_refl 128)

/-- Such a row as a matrix: columns by images. -/
def castRow (v : Vec F S1x1x28x128 .f32) : Vec F S28x128 .f32 :=
  shapeCast S28x128 (shapeCast S28x128 v shapeCasts_S1x1x28x128_S28x128) shapeCasts_S28x128_S28x128

theorem castRow_apply (v : Vec F S1x1x28x128 .f32) (z : S28x128.Idx) :
    castRow v z = v (ix4 (n0 := 1) (n1 := 1) (n2 := 28) (n3 := 128) 0 0 (z 0) (z 1)) := by
  unfold castRow
  pointwise

/-- The first convolution's operand after its first `q` tiles are copied (tile `26 d + y` holds row `d + y` of
    the images), over contents `d`. -/
def fill (x0 : Vec F S1x28x28x128 .f32) (q : ℕ) (d : Vec F S96x3328 .f32) : Vec F S96x3328 .f32 := fun y =>
  if h : (y 0).val % 32 < 28 ∧ (y 0).val / 32 * 26 + (y 1).val / 128 < q then
    x0 (ix4 (n0 := 1) (n1 := 28) (n2 := 28) (n3 := 128) 0 ⟨(y 0).val / 32 + (y 1).val / 128, by
      have h0 : (y 0).val < 96 := (y 0).isLt
      have h1 : (y 1).val < 3328 := (y 1).isLt
      omega⟩ ⟨(y 0).val % 32, h.1⟩ ⟨(y 1).val % 128, Nat.mod_lt _ (by decide)⟩)
  else d y

theorem fill_zero (x0 : Vec F S1x28x28x128 .f32) (d : Vec F S96x3328 .f32) : fill x0 0 d = d := by
  funext y; unfold fill; rw [dif_neg]; omega

/-- Storing row `dd + yy` as tile `26 dd + yy` takes one tile more. -/
theorem put_tile (x0 : Vec F S1x28x28x128 .f32) (d : Vec F S96x3328 .f32) (dd yy : ℕ) (hd : dd < 3) (hy : yy < 26) :
    VecWindow.put (fill x0 (dd * 26 + yy) d) ![32 * dd, 128 * yy] S28x128.size (castRow (rowv x0 (dd + yy) (by omega)))
      = fill x0 (dd * 26 + yy + 1) d := by
  funext y
  have h0 : (y 0).val < 96 := (y 0).isLt
  have h1 : (y 1).val < 3328 := (y 1).isLt
  unfold VecWindow.put
  split
  · rename_i h
    have a0 : 32 * dd ≤ (y 0).val ∧ (y 0).val < 32 * dd + 28 := h 0
    have a1 : 128 * yy ≤ (y 1).val ∧ (y 1).val < 128 * yy + 128 := h 1
    unfold fill
    rw [dif_pos (by omega), castRow_apply]
    unfold rowv VecWindow.window
    congr 1
    funext a
    match a with
    | 0 => rfl
    | 1 => exact Fin.ext (show dd + yy + 1 * 0 = (y 0).val / 32 + (y 1).val / 128 by omega)
    | 2 => exact Fin.ext (show 0 + 1 * ((y 0).val - 32 * dd) = (y 0).val % 32 by omega)
    | 3 => exact Fin.ext (show 0 + 1 * ((y 1).val - 128 * yy) = (y 1).val % 128 by omega)
  · rename_i h
    have h' : ¬ ((32 * dd ≤ (y 0).val ∧ (y 0).val < 32 * dd + 28) ∧ 128 * yy ≤ (y 1).val ∧ (y 1).val < 128 * yy + 128) := by
      intro hh
      refine h fun a => ?_
      match a with
      | 0 => exact hh.1
      | 1 => exact hh.2
    unfold fill
    split
    · rename_i g
      rw [dif_pos (by omega)]
    · rename_i g
      rw [dif_neg (by omega)]

/-- The same, of the contents a run has written: one store more is one tile more. -/
theorem tile_step {κ : Kind} {sp : Space} {v : View sig κ sp S96x3328 .f32} {f : v.ty.Contents (Elt F)} {x0 : Vec F S1x28x28x128 .f32}
    {d : Vec F S96x3328 .f32} (dd yy : ℕ) (hd : dd < 3) (hy : yy < 26) {off : Fin 2 → ℕ}
    (inb : ∀ a, off a + S28x128.size a ≤ S96x3328.size a) (w : Vec F S28x128 .f32)
    {L : List (View.Piece (Elt F) S96x3328 .f32)} (hoff : off = ![32 * dd, 128 * yy])
    (hw : w = castRow (rowv x0 (dd + yy) (by omega)))
    (hL : v.read (Elt F) (v.writes (Elt F) f L) = fill x0 (dd * 26 + yy) d) :
    v.read (Elt F) (v.writes (Elt F) f (⟨Rect.unit off S28x128.size inb, w⟩ :: L)) = fill x0 (dd * 26 + yy + 1) d := by
  rw [View.read_writes_cons_put v f inb w L hoff, hL, hw]
  exact put_tile x0 d dd yy hd hy

variable (c : Dev nD) (i : grid0.Coords) (arg1 : Memref sig .tc .vmem S1x28x28x128 .f32) (harg1 : arg1.IsWhole) (arg2 : Memref sig .tc .vmem S416x96 .f32) (harg2 : arg2.IsWhole) (arg3 : Memref sig .tc .vmem S416x1 .f32) (harg3 : arg3.IsWhole) (arg4 : Memref sig .tc .vmem S128x288 .f32) (harg4 : arg4.IsWhole) (arg5 : Memref sig .tc .vmem S128x1 .f32) (harg5 : arg5.IsWhole) (arg6 : Memref sig .tc .vmem S64x800 .f32) (harg6 : arg6.IsWhole) (arg7 : Memref sig .tc .vmem S64x1 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x1x128 .i32) (harg10 : arg10.IsWhole) (arg11 : Memref sig .tc .vmem S256x800 .f32) (harg11 : arg11.IsWhole) (arg12 : Memref sig .tc .vmem S8x128 .f32) (harg12 : arg12.IsWhole) (arg13 : Memref sig .tc .vmem S13x14x16x128 .f32) (harg13 : arg13.IsWhole) (arg14 : Memref sig .tc .vmem S288x4224 .f32) (harg14 : arg14.IsWhole) (arg15 : Memref sig .tc .vmem S128x4224 .f32) (harg15 : arg15.IsWhole) (arg16 : Memref sig .tc .vmem S11x12x32x128 .f32) (harg16 : arg16.IsWhole) (arg17 : Memref sig .tc .vmem S96x3328 .f32) (harg17 : arg17.IsWhole) (arg18 : Memref sig .tc .vmem S416x3328 .f32) (harg18 : arg18.IsWhole)

/-- Part 8 copies tiles 4 to 8 and loads the row of tile 9. -/
theorem part8_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 4 d)
      ∗ (∀ v, ⌜v = rowv x0 9 (by decide)⌝ -∗ owns (c : Thread nD τ) arg1 fullShare x0 -∗ owns (c : Thread nD τ) arg17 fullShare (fill x0 9 d) -∗ K v))
    ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 4 (by decide))) K := by
  simp only [k0_part8_eq_skeleton]; unfold k0_part8_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 0 8 (by decide) (by decide) _ _ (by decide) rfl (tile_step 0 7 (by decide) (by decide) _ _ (by decide) rfl (tile_step 0 6 (by decide) (by decide) _ _ (by decide) rfl (tile_step 0 5 (by decide) (by decide) _ _ (by decide) rfl (tile_step 0 4 (by decide) (by decide) _ _ (by decide) rfl (hf1)))))

/-- Part 9 copies tiles 9 to 13 and loads the row of tile 14. -/
theorem part9_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 9 d)
      ∗ (∀ v, ⌜v = rowv x0 14 (by decide)⌝ -∗ owns (c : Thread nD τ) arg1 fullShare x0 -∗ owns (c : Thread nD τ) arg17 fullShare (fill x0 14 d) -∗ K v))
    ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 9 (by decide))) K := by
  simp only [k0_part9_eq_skeleton]; unfold k0_part9_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 0 13 (by decide) (by decide) _ _ (by decide) rfl (tile_step 0 12 (by decide) (by decide) _ _ (by decide) rfl (tile_step 0 11 (by decide) (by decide) _ _ (by decide) rfl (tile_step 0 10 (by decide) (by decide) _ _ (by decide) rfl (tile_step 0 9 (by decide) (by decide) _ _ (by decide) rfl (hf1)))))

/-- Part 10 copies tiles 14 to 18 and loads the row of tile 19. -/
theorem part10_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 14 d)
      ∗ (∀ v, ⌜v = rowv x0 19 (by decide)⌝ -∗ owns (c : Thread nD τ) arg1 fullShare x0 -∗ owns (c : Thread nD τ) arg17 fullShare (fill x0 19 d) -∗ K v))
    ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 14 (by decide))) K := by
  simp only [k0_part10_eq_skeleton]; unfold k0_part10_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 0 18 (by decide) (by decide) _ _ (by decide) rfl (tile_step 0 17 (by decide) (by decide) _ _ (by decide) rfl (tile_step 0 16 (by decide) (by decide) _ _ (by decide) rfl (tile_step 0 15 (by decide) (by decide) _ _ (by decide) rfl (tile_step 0 14 (by decide) (by decide) _ _ (by decide) rfl (hf1)))))

/-- Part 11 copies tiles 19 to 23 and loads the row of tile 24. -/
theorem part11_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 19 d)
      ∗ (∀ v, ⌜v = rowv x0 24 (by decide)⌝ -∗ owns (c : Thread nD τ) arg1 fullShare x0 -∗ owns (c : Thread nD τ) arg17 fullShare (fill x0 24 d) -∗ K v))
    ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 19 (by decide))) K := by
  simp only [k0_part11_eq_skeleton]; unfold k0_part11_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 0 23 (by decide) (by decide) _ _ (by decide) rfl (tile_step 0 22 (by decide) (by decide) _ _ (by decide) rfl (tile_step 0 21 (by decide) (by decide) _ _ (by decide) rfl (tile_step 0 20 (by decide) (by decide) _ _ (by decide) rfl (tile_step 0 19 (by decide) (by decide) _ _ (by decide) rfl (hf1)))))

/-- Part 12 copies tiles 24 to 28 and loads the row of tile 29. -/
theorem part12_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 24 d)
      ∗ (∀ v, ⌜v = rowv x0 4 (by decide)⌝ -∗ owns (c : Thread nD τ) arg1 fullShare x0 -∗ owns (c : Thread nD τ) arg17 fullShare (fill x0 29 d) -∗ K v))
    ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 24 (by decide))) K := by
  simp only [k0_part12_eq_skeleton]; unfold k0_part12_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 1 2 (by decide) (by decide) _ _ (by decide) rfl (tile_step 1 1 (by decide) (by decide) _ _ (by decide) rfl (tile_step 1 0 (by decide) (by decide) _ _ (by decide) rfl (tile_step 0 25 (by decide) (by decide) _ _ (by decide) rfl (tile_step 0 24 (by decide) (by decide) _ _ (by decide) rfl (hf1)))))

/-- Part 13 copies tiles 29 to 33 and loads the row of tile 34. -/
theorem part13_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 29 d)
      ∗ (∀ v, ⌜v = rowv x0 9 (by decide)⌝ -∗ owns (c : Thread nD τ) arg1 fullShare x0 -∗ owns (c : Thread nD τ) arg17 fullShare (fill x0 34 d) -∗ K v))
    ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 4 (by decide))) K := by
  simp only [k0_part13_eq_skeleton]; unfold k0_part13_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 1 7 (by decide) (by decide) _ _ (by decide) rfl (tile_step 1 6 (by decide) (by decide) _ _ (by decide) rfl (tile_step 1 5 (by decide) (by decide) _ _ (by decide) rfl (tile_step 1 4 (by decide) (by decide) _ _ (by decide) rfl (tile_step 1 3 (by decide) (by decide) _ _ (by decide) rfl (hf1)))))

/-- Part 14 copies tiles 34 to 38 and loads the row of tile 39. -/
theorem part14_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 34 d)
      ∗ (∀ v, ⌜v = rowv x0 14 (by decide)⌝ -∗ owns (c : Thread nD τ) arg1 fullShare x0 -∗ owns (c : Thread nD τ) arg17 fullShare (fill x0 39 d) -∗ K v))
    ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 9 (by decide))) K := by
  simp only [k0_part14_eq_skeleton]; unfold k0_part14_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 1 12 (by decide) (by decide) _ _ (by decide) rfl (tile_step 1 11 (by decide) (by decide) _ _ (by decide) rfl (tile_step 1 10 (by decide) (by decide) _ _ (by decide) rfl (tile_step 1 9 (by decide) (by decide) _ _ (by decide) rfl (tile_step 1 8 (by decide) (by decide) _ _ (by decide) rfl (hf1)))))

/-- Part 15 copies tiles 39 to 43 and loads the row of tile 44. -/
theorem part15_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 39 d)
      ∗ (∀ v, ⌜v = rowv x0 19 (by decide)⌝ -∗ owns (c : Thread nD τ) arg1 fullShare x0 -∗ owns (c : Thread nD τ) arg17 fullShare (fill x0 44 d) -∗ K v))
    ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 14 (by decide))) K := by
  simp only [k0_part15_eq_skeleton]; unfold k0_part15_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 1 17 (by decide) (by decide) _ _ (by decide) rfl (tile_step 1 16 (by decide) (by decide) _ _ (by decide) rfl (tile_step 1 15 (by decide) (by decide) _ _ (by decide) rfl (tile_step 1 14 (by decide) (by decide) _ _ (by decide) rfl (tile_step 1 13 (by decide) (by decide) _ _ (by decide) rfl (hf1)))))

/-- Part 16 copies tiles 44 to 48 and loads the row of tile 49. -/
theorem part16_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 44 d)
      ∗ (∀ v, ⌜v = rowv x0 24 (by decide)⌝ -∗ owns (c : Thread nD τ) arg1 fullShare x0 -∗ owns (c : Thread nD τ) arg17 fullShare (fill x0 49 d) -∗ K v))
    ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 19 (by decide))) K := by
  simp only [k0_part16_eq_skeleton]; unfold k0_part16_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 1 22 (by decide) (by decide) _ _ (by decide) rfl (tile_step 1 21 (by decide) (by decide) _ _ (by decide) rfl (tile_step 1 20 (by decide) (by decide) _ _ (by decide) rfl (tile_step 1 19 (by decide) (by decide) _ _ (by decide) rfl (tile_step 1 18 (by decide) (by decide) _ _ (by decide) rfl (hf1)))))

/-- Part 17 copies tiles 49 to 53 and loads the row of tile 54. -/
theorem part17_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 49 d)
      ∗ (∀ v, ⌜v = rowv x0 4 (by decide)⌝ -∗ owns (c : Thread nD τ) arg1 fullShare x0 -∗ owns (c : Thread nD τ) arg17 fullShare (fill x0 54 d) -∗ K v))
    ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 24 (by decide))) K := by
  simp only [k0_part17_eq_skeleton]; unfold k0_part17_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 2 1 (by decide) (by decide) _ _ (by decide) rfl (tile_step 2 0 (by decide) (by decide) _ _ (by decide) rfl (tile_step 1 25 (by decide) (by decide) _ _ (by decide) rfl (tile_step 1 24 (by decide) (by decide) _ _ (by decide) rfl (tile_step 1 23 (by decide) (by decide) _ _ (by decide) rfl (hf1)))))

/-- Part 18 copies tiles 54 to 58 and loads the row of tile 59. -/
theorem part18_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 54 d)
      ∗ (∀ v, ⌜v = rowv x0 9 (by decide)⌝ -∗ owns (c : Thread nD τ) arg1 fullShare x0 -∗ owns (c : Thread nD τ) arg17 fullShare (fill x0 59 d) -∗ K v))
    ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 4 (by decide))) K := by
  simp only [k0_part18_eq_skeleton]; unfold k0_part18_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 2 6 (by decide) (by decide) _ _ (by decide) rfl (tile_step 2 5 (by decide) (by decide) _ _ (by decide) rfl (tile_step 2 4 (by decide) (by decide) _ _ (by decide) rfl (tile_step 2 3 (by decide) (by decide) _ _ (by decide) rfl (tile_step 2 2 (by decide) (by decide) _ _ (by decide) rfl (hf1)))))

/-- Part 19 copies tiles 59 to 63 and loads the row of tile 64. -/
theorem part19_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 59 d)
      ∗ (∀ v, ⌜v = rowv x0 14 (by decide)⌝ -∗ owns (c : Thread nD τ) arg1 fullShare x0 -∗ owns (c : Thread nD τ) arg17 fullShare (fill x0 64 d) -∗ K v))
    ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 9 (by decide))) K := by
  simp only [k0_part19_eq_skeleton]; unfold k0_part19_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 2 11 (by decide) (by decide) _ _ (by decide) rfl (tile_step 2 10 (by decide) (by decide) _ _ (by decide) rfl (tile_step 2 9 (by decide) (by decide) _ _ (by decide) rfl (tile_step 2 8 (by decide) (by decide) _ _ (by decide) rfl (tile_step 2 7 (by decide) (by decide) _ _ (by decide) rfl (hf1)))))

/-- Part 20 copies tiles 64 to 68 and loads the row of tile 69. -/
theorem part20_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 64 d)
      ∗ (∀ v, ⌜v = rowv x0 19 (by decide)⌝ -∗ owns (c : Thread nD τ) arg1 fullShare x0 -∗ owns (c : Thread nD τ) arg17 fullShare (fill x0 69 d) -∗ K v))
    ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 14 (by decide))) K := by
  simp only [k0_part20_eq_skeleton]; unfold k0_part20_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 2 16 (by decide) (by decide) _ _ (by decide) rfl (tile_step 2 15 (by decide) (by decide) _ _ (by decide) rfl (tile_step 2 14 (by decide) (by decide) _ _ (by decide) rfl (tile_step 2 13 (by decide) (by decide) _ _ (by decide) rfl (tile_step 2 12 (by decide) (by decide) _ _ (by decide) rfl (hf1)))))

/-- Part 21 copies tiles 69 to 73 and loads the row of tile 74. -/
theorem part21_run (E : Set ℕ) (x0 : Vec F S1x28x28x128 .f32) (d : Vec F S96x3328 .f32) (K : Vec F S1x1x28x128 .f32 → sProp 𝕄) :
    iprop(owns (c : Thread nD τ) arg1 fullShare x0 ∗ owns (c : Thread nD τ) arg17 fullShare (fill x0 69 d)
      ∗ (∀ v, ⌜v = rowv x0 24 (by decide)⌝ -∗ owns (c : Thread nD τ) arg1 fullShare x0 -∗ owns (c : Thread nD τ) arg17 fullShare (fill x0 74 d) -∗ K v))
    ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 19 (by decide))) K := by
  simp only [k0_part21_eq_skeleton]; unfold k0_part21_skel
  unfold owns
  iintro ⟨⟨%f0, %hf0, H0⟩, ⟨%f1, %hf1, H1⟩, Hk⟩
  subst hf0
  sl_exec
  sl_step
  iapply Hk $$ [] [H0] [H1]
  · ipureintro; rfl
  · iexists _; isplitr; swap; · iexact H0
    ipureintro; rfl
  · iexists _; isplitr; swap; · iexact H1
    ipureintro
    exact tile_step 2 21 (by decide) (by decide) _ _ (by decide) rfl (tile_step 2 20 (by decide) (by decide) _ _ (by decide) rfl (tile_step 2 19 (by decide) (by decide) _ _ (by decide) rfl (tile_step 2 18 (by decide) (by decide) _ _ (by decide) rfl (tile_step 2 17 (by decide) (by decide) _ _ (by decide) rfl (hf1)))))

end Cert.KernelIdeal.Body

end
-- ==== Proof.PoolI.lean ====
module

public import proofs.«01_k».proof.Proof.Gen.KernelIdeal.Skeleton
public import proofs.«01_k».proof.Proof.FillI

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The guard of the body's two conditionals: the first grid point. -/
abbrev first (i : grid0.Coords) : Prop :=
  (Scalar.cmpi .ne (Scalar.extui (Scalar.cmpi .eq (BitVec.ofNat 32 (i 0).val) 0#32) : BitVec 32) 0#32) = 1#1

/-- The pooled columns' padding column is zero. -/
def PadS (d : Vec F S13x14x16x128 .f32) : Prop := ∀ y, (y 1).val = 13 → d y = Scalar.ofBits .f32 0x00000000#32

/-- The padding rows of the first convolution's operand are zero. -/
def PadX (d : Vec F S96x3328 .f32) : Prop := ∀ y, 28 ≤ (y 0).val % 32 → d y = Scalar.ofBits .f32 0x00000000#32

/-- The pooled columns with the padding column cleared. -/
def pad13 (d : Vec F S13x14x16x128 .f32) : Vec F S13x14x16x128 .f32 :=
  VecWindow.put d ![0, 13, 0, 0] S13x1x16x128.size k0_pay23

/-- The first convolution's operand with the padding rows cleared. -/
def pad17 (d : Vec F S96x3328 .f32) : Vec F S96x3328 .f32 :=
  VecWindow.put (VecWindow.put (VecWindow.put d ![28, 0] S4x3328.size k0_pay24) ![60, 0] S4x3328.size k0_pay25)
    ![92, 0] S4x3328.size k0_pay26

theorem pad13_padS (d : Vec F S13x14x16x128 .f32) : PadS (pad13 d) := by
  intro y hy
  have h0 : (y 0).val < 13 := (y 0).isLt
  have h2 : (y 2).val < 16 := (y 2).isLt
  have h3 : (y 3).val < 128 := (y 3).isLt
  unfold pad13 VecWindow.put
  rw [dif_pos (fun a => by
    match a with
    | 0 => exact (⟨by simp, by show _ < 0 + 13; omega⟩ : 0 ≤ (y 0).val ∧ (y 0).val < 0 + 13)
    | 1 => exact (by omega : 13 ≤ (y 1).val ∧ (y 1).val < 13 + 1)
    | 2 => exact (by omega : 0 ≤ (y 2).val ∧ (y 2).val < 0 + 16)
    | 3 => exact (by omega : 0 ≤ (y 3).val ∧ (y 3).val < 0 + 128))]
  rfl

theorem pad17_padX (d : Vec F S96x3328 .f32) : PadX (pad17 d) := by
  intro y hy
  have h0 : (y 0).val < 96 := (y 0).isLt
  have h1 : (y 1).val < 3328 := (y 1).isLt
  unfold pad17 VecWindow.put
  split
  · rfl
  · rename_i n2
    split
    · rfl
    · rename_i n1
      rw [dif_pos]
      · rfl
      · intro a
        have n2' : ¬ (92 ≤ (y 0).val ∧ (y 0).val < 92 + 4) := fun hh => n2 fun a => by
          match a with
          | 0 => exact hh
          | 1 => exact (by omega : 0 ≤ (y 1).val ∧ (y 1).val < 0 + 3328)
        have n1' : ¬ (60 ≤ (y 0).val ∧ (y 0).val < 60 + 4) := fun hh => n1 fun a => by
          match a with
          | 0 => exact hh
          | 1 => exact (by omega : 0 ≤ (y 1).val ∧ (y 1).val < 0 + 3328)
        match a with
        | 0 => exact (by omega : 28 ≤ (y 0).val ∧ (y 0).val < 28 + 4)
        | 1 => exact (by omega : 0 ≤ (y 1).val ∧ (y 1).val < 0 + 3328)

/-- Column tile `q` of the first convolution's output. -/
def colw (x : Vec F S416x3328 .f32) (q : ℕ) (hq : q < 26) : Vec F S416x128 .f32 :=
  VecWindow.window x ![0, 128 * q] S416x128.size (fun a => by
    match a with
    | 0 => exact Nat.le_refl 416
    | 1 => exact (by omega : 128 * q + 128 ≤ 3328))

/-- The pooled columns after their first `q` rows are stored over contents `d`: row `y` is the pooled maximum of
    column tiles `2y` and `2y+1`, the bias added, negative values cut. -/
def pool (sc : Vec F S416x3328 .f32) (b : Vec F S416x1 .f32) (q : ℕ) (d : Vec F S13x14x16x128 .f32) : Vec F S13x14x16x128 .f32 :=
  fun y => if h : (y 0).val < q ∧ (y 1).val < 13 then
    k0_pay106 (colw sc (2 * (y 0).val) (by have h0 : (y 0).val < 13 := (y 0).isLt; omega))
      (colw sc (2 * (y 0).val + 1) (by have h0 : (y 0).val < 13 := (y 0).isLt; omega)) b
      (ix4 (n0 := 1) (n1 := 13) (n2 := 16) (n3 := 128) 0 ⟨(y 1).val, h.2⟩ (y 2) (y 3))
  else d y

theorem pool_zero (sc : Vec F S416x3328 .f32) (b : Vec F S416x1 .f32) (d : Vec F S13x14x16x128 .f32) : pool sc b 0 d = d := by
  funext y; unfold pool; rw [dif_neg]; omega

theorem put_pool (sc : Vec F S416x3328 .f32) (b : Vec F S416x1 .f32) (q : ℕ) (hq : q < 13) (d : Vec F S13x14x16x128 .f32) :
    VecWindow.put (pool sc b q d) ![q, 0, 0, 0] S1x13x16x128.size
        (k0_pay106 (colw sc (2 * q) (by omega)) (colw sc (2 * q + 1) (by omega)) b) = pool sc b (q + 1) d := by
  funext y
  have h0 : (y 0).val < 13 := (y 0).isLt
  have h2 : (y 2).val < 16 := (y 2).isLt
  have h3 : (y 3).val < 128 := (y 3).isLt
  unfold VecWindow.put
  split
  · rename_i h
    have a0 : q ≤ (y 0).val ∧ (y 0).val < q + 1 := h 0
    have a1 : 0 ≤ (y 1).val ∧ (y 1).val < 0 + 13 := h 1
    obtain rfl : (y 0).val = q := by omega
    unfold pool
    rw [dif_pos (by omega)]
    congr 1
    funext a
    match a with
    | 0 => exact Fin.ext (show (y 0).val - (y 0).val = 0 by omega)
    | 1 => rfl
    | 2 => rfl
    | 3 => rfl
  · rename_i h
    have h' : ¬ (q ≤ (y 0).val ∧ (y 0).val < q + 1 ∧ (y 1).val < 13) := by
      intro hh
      refine h fun a => ?_
      match a with
      | 0 => exact ⟨hh.1, hh.2.1⟩
      | 1 => exact (by omega : 0 ≤ (y 1).val ∧ (y 1).val < 0 + 13)
      | 2 => exact (by omega : 0 ≤ (y 2).val ∧ (y 2).val < 0 + 16)
      | 3 => exact (by omega : 0 ≤ (y 3).val ∧ (y 3).val < 0 + 128)
    unfold pool
    split
    · rename_i g
      rw [dif_pos (by omega)]
    · rename_i g
      rw [dif_neg (by omega)]

/-- The same of the contents a run has written: one store more is one row more. -/
theorem pool_step {κ : Kind} {sp : Space} {v : View sig κ sp S13x14x16x128 .f32} {f : v.ty.Contents (Elt F)}
    {sc : Vec F S416x3328 .f32} {b : Vec F S416x1 .f32} {d : Vec F S13x14x16x128 .f32} (q : ℕ) (hq : q < 13) {off : Fin 4 → ℕ}
    (inb : ∀ a, off a + S1x13x16x128.size a ≤ S13x14x16x128.size a) (w : Vec F S1x13x16x128 .f32)
    {L : List (View.Piece (Elt F) S13x14x16x128 .f32)} (hoff : off = ![q, 0, 0, 0])
    (hw : w = k0_pay106 (colw sc (2 * q) (by omega)) (colw sc (2 * q + 1) (by omega)) b)
    (hL : v.read (Elt F) (v.writes (Elt F) f L) = pool sc b q d) :
    v.read (Elt F) (v.writes (Elt F) f (⟨Rect.unit off S1x13x16x128.size inb, w⟩ :: L)) = pool sc b (q + 1) d := by
  rw [View.read_writes_cons_put v f inb w L hoff, hL, hw]
  exact put_pool sc b q hq d

theorem put_all18 (d : Vec F S416x3328 .f32) (w : Vec F S416x3328 .f32) :
    VecWindow.put d ![0, 0] S416x3328.size w = w := by
  funext y
  unfold VecWindow.put
  rw [dif_pos (fun a => by
    match a with
    | 0 => exact (⟨Nat.zero_le _, by have := (y 0).isLt; show _ < 0 + 416; have : (y 0).val < 416 := this; omega⟩ : 0 ≤ (y 0).val ∧ (y 0).val < 0 + 416)
    | 1 => exact (⟨Nat.zero_le _, by have : (y 1).val < 3328 := (y 1).isLt; omega⟩ : 0 ≤ (y 1).val ∧ (y 1).val < 0 + 3328))]
  congr 1
  funext a
  match a with
  | 0 => rfl
  | 1 => rfl

variable (c : Dev nD) (i : grid0.Coords) (arg1 : Memref sig .tc .vmem S1x28x28x128 .f32) (harg1 : arg1.IsWhole) (arg2 : Memref sig .tc .vmem S416x96 .f32) (harg2 : arg2.IsWhole) (arg3 : Memref sig .tc .vmem S416x1 .f32) (harg3 : arg3.IsWhole) (arg4 : Memref sig .tc .vmem S128x288 .f32) (harg4 : arg4.IsWhole) (arg5 : Memref sig .tc .vmem S128x1 .f32) (harg5 : arg5.IsWhole) (arg6 : Memref sig .tc .vmem S64x800 .f32) (harg6 : arg6.IsWhole) (arg7 : Memref sig .tc .vmem S64x1 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x1x128 .i32) (harg10 : arg10.IsWhole) (arg11 : Memref sig .tc .vmem S256x800 .f32) (harg11 : arg11.IsWhole) (arg12 : Memref sig .tc .vmem S8x128 .f32) (harg12 : arg12.IsWhole) (arg13 : Memref sig .tc .vmem S13x14x16x128 .f32) (harg13 : arg13.IsWhole) (arg14 : Memref sig .tc .vmem S288x4224 .f32) (harg14 : arg14.IsWhole) (arg15 : Memref sig .tc .vmem S128x4224 .f32) (harg15 : arg15.IsWhole) (arg16 : Memref sig .tc .vmem S11x12x32x128 .f32) (harg16 : arg16.IsWhole) (arg17 : Memref sig .tc .vmem S96x3328 .f32) (harg17 : arg17.IsWhole) (arg18 : Memref sig .tc .vmem S416x3328 .f32) (harg18 : arg18.IsWhole)

/-- Part 7 at the first grid point: the padding is cleared, then tiles 0 to 3 are copied. -/
theorem part7_first (E : Set ℕ) (hc : first i) (x0 : Vec F S1x28x28x128 .f32) (d13 : Vec F S13x14x16x128 .f32) (d17 : Vec F S96x3328 .f32)
    (K : (Σ' (arg0 : BitVec 32), Vec F S1x1x28x128 .f32) → sProp 𝕄) :
    iprop(owns (c : Thread nD τ) arg1 fullShare (x0) ∗ owns (c : Thread nD τ) arg13 fullShare (d13) ∗ owns (c : Thread nD τ) arg17 fullShare (d17)
      ∗ (∀ v, ⌜v = ⟨BitVec.ofNat 32 (i 0).val, rowv x0 4 (by decide)⟩⌝ -∗ owns (c : Thread nD τ) arg1 fullShare (x0) -∗ owns (c : Thread nD τ) arg13 fullShare (pad13 d13) -∗ owns (c : Thread nD τ) arg17 fullShare (fill x0 4 (pad17 d17)) -∗ K v))
    ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [k0_part7_eq_skeleton]; unfold k0_part7_skel
  unfold owns
  iintro ⟨⟨%f0, %hf0, H0⟩, ⟨%f13, %hf13, H13⟩, ⟨%f1, %hf1, H1⟩, Hk⟩
  subst hf0 hf13 hf1
  sl_exec (disch := first | sl_exact hc)
  sl_step
  iapply Hk $$ [] [H0] [H13] [H1]
  · ipureintro; rfl
  · iexists _; isplitr; swap; · iexact H0
    ipureintro; rfl
  · iexists _; isplitr; swap; · iexact H13
    ipureintro
    exact View.read_writes_cons_put arg13.view f13 _ _ [] rfl
  · iexists _; isplitr; swap; · iexact H1
    ipureintro
    refine tile_step 0 3 (by decide) (by decide) _ _ (by decide) rfl (tile_step 0 2 (by decide) (by decide) _ _ (by decide) rfl (tile_step 0 1 (by decide) (by decide) _ _ (by decide) rfl (tile_step 0 0 (by decide) (by decide) _ _ (by decide) rfl ?_)))
    rw [fill_zero]
    unfold pad17; rw [View.read_writes_cons_put arg17.view f1 _ _ _ rfl, View.read_writes_cons_put arg17.view f1 _ _ _ rfl, View.read_writes_cons_put arg17.view f1 _ _ _ rfl]; rfl

/-- Part 7 at a later grid point: tiles 0 to 3 are copied. -/
theorem part7_later (E : Set ℕ) (hc : ¬ first i) (x0 : Vec F S1x28x28x128 .f32) (d13 : Vec F S13x14x16x128 .f32) (d17 : Vec F S96x3328 .f32)
    (K : (Σ' (arg0 : BitVec 32), Vec F S1x1x28x128 .f32) → sProp 𝕄) :
    iprop(owns (c : Thread nD τ) arg1 fullShare (x0) ∗ owns (c : Thread nD τ) arg13 fullShare (d13) ∗ owns (c : Thread nD τ) arg17 fullShare (d17)
      ∗ (∀ v, ⌜v = ⟨BitVec.ofNat 32 (i 0).val, rowv x0 4 (by decide)⟩⌝ -∗ owns (c : Thread nD τ) arg1 fullShare (x0) -∗ owns (c : Thread nD τ) arg13 fullShare (d13) -∗ owns (c : Thread nD τ) arg17 fullShare (fill x0 4 (d17)) -∗ K v))
    ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [k0_part7_eq_skeleton]; unfold k0_part7_skel
  unfold owns
  iintro ⟨⟨%f0, %hf0, H0⟩, ⟨%f13, %hf13, H13⟩, ⟨%f1, %hf1, H1⟩, Hk⟩
  subst hf0 hf13 hf1
  sl_exec (disch := first | sl_exact hc)
  sl_step
  iapply Hk $$ [] [H0] [H13] [H1]
  · ipureintro; rfl
  · iexists _; isplitr; swap; · iexact H0
    ipureintro; rfl
  · iexists _; isplitr; swap; · iexact H13
    ipureintro
    rfl
  · iexists _; isplitr; swap; · iexact H1
    ipureintro
    refine tile_step 0 3 (by decide) (by decide) _ _ (by decide) rfl (tile_step 0 2 (by decide) (by decide) _ _ (by decide) rfl (tile_step 0 1 (by decide) (by decide) _ _ (by decide) rfl (tile_step 0 0 (by decide) (by decide) _ _ (by decide) rfl ?_)))
    rw [fill_zero]
    rfl

/-- Part 22 copies the last four tiles and multiplies: the first convolution's output. -/
theorem part22_run (E : Set ℕ) (x0 : Vec F S1x28x28x128 .f32) (x1 : Vec F S416x96 .f32) (d : Vec F S96x3328 .f32) (d18 : Vec F S416x3328 .f32)
    (K : PUnit → sProp 𝕄) :
    iprop(owns (c : Thread nD τ) arg1 fullShare (x0) ∗ owns (c : Thread nD τ) arg2 fullShare (x1) ∗ owns (c : Thread nD τ) arg17 fullShare (fill x0 74 d) ∗ owns (c : Thread nD τ) arg18 fullShare (d18)
      ∗ (∀ v, owns (c : Thread nD τ) arg1 fullShare (x0) -∗ owns (c : Thread nD τ) arg2 fullShare (x1) -∗ owns (c : Thread nD τ) arg17 fullShare (fill x0 78 d) -∗ owns (c : Thread nD τ) arg18 fullShare (k0_pay105 x1 (fill x0 78 d)) -∗ K v))
    ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x0 24 (by decide))) K := by
  simp only [k0_part22_eq_skeleton]; unfold k0_part22_skel
  unfold owns
  iintro ⟨⟨%f0, %hf0, H0⟩, ⟨%f2, %hf2, H2⟩, ⟨%f1, %hf1, H1⟩, ⟨%f18, %hf18, H18⟩, Hk⟩
  subst hf0 hf2
  sl_exec
  sl_step
  iapply Hk $$ [H0] [H2] [H1] [H18]
  · iexists _; isplitr; swap; · iexact H0
    ipureintro; rfl
  · iexists _; isplitr; swap; · iexact H2
    ipureintro; rfl
  · iexists _; isplitr; swap; · iexact H1
    ipureintro
    exact tile_step 2 25 (by decide) (by decide) _ _ (by decide) rfl (tile_step 2 24 (by decide) (by decide) _ _ (by decide) rfl (tile_step 2 23 (by decide) (by decide) _ _ (by decide) rfl (tile_step 2 22 (by decide) (by decide) _ _ (by decide) rfl (hf1))))
  · iexists _; isplitr; swap; · iexact H18
    ipureintro
    rw [View.read_writes_cons_put arg18.view f18 _ _ [] rfl, put_all18]
    rw [View.readAt_full arg2.view f2, View.readAt_full arg17.view]
    congr 1
    exact tile_step 2 25 (by decide) (by decide) _ _ (by decide) rfl (tile_step 2 24 (by decide) (by decide) _ _ (by decide) rfl (tile_step 2 23 (by decide) (by decide) _ _ (by decide) rfl (tile_step 2 22 (by decide) (by decide) _ _ (by decide) rfl (hf1))))

/-- Part 23 stores pooled rows 0 and 1. -/
theorem part23_run (E : Set ℕ) (sc : Vec F S416x3328 .f32) (b : Vec F S416x1 .f32) (d : Vec F S13x14x16x128 .f32) (K : FVec F S416x128 .f32 → sProp 𝕄) :
    iprop(owns (c : Thread nD τ) arg3 fullShare (b) ∗ owns (c : Thread nD τ) arg18 fullShare (sc) ∗ owns (c : Thread nD τ) arg13 fullShare (pool sc b 0 d)
      ∗ (∀ v, ⌜v = k0_pay108 (colw sc 4 (by decide)) (colw sc 5 (by decide))⌝ -∗ owns (c : Thread nD τ) arg3 fullShare (b) -∗ owns (c : Thread nD τ) arg18 fullShare (sc) -∗ owns (c : Thread nD τ) arg13 fullShare (pool sc b 2 d) -∗ K v))
    ⊢ wp frame (wpE (defs₀ (F := F)) Variants.none c none) E (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ) K := by
  simp only [k0_part23_eq_skeleton]; unfold k0_part23_skel
  unfold owns
  iintro ⟨⟨%f3, %hf3, H3⟩, ⟨%f18, %hf18, H18⟩, ⟨%f13, %hf13, H13⟩, Hk⟩
  subst hf3 hf18
  sl_exec
  sl_step
  iapply Hk $$ [] [H3] [H18] [H13]
  · ipureintro
    try rw [View.readAt_full arg3.view f3]
    rfl
  · iexists _; isplitr; swap; · iexact H3
    ipureintro; rfl
  · iexists _; isplitr; swap; · iexact H18
    ipureintro; rfl
  · iexists _; isplitr; swap; · iexact H13
    ipureintro
    try rw [View.readAt_full arg3.view f3]
    exact pool_step 1 (by decide) _ _ (by decide) rfl (pool_step 0 (by decide) _ _ (by decide) rfl (hf13))

/-- Part 24 stores pooled rows 2 and 3. -/
theorem part24_run (E : Set ℕ) (sc : Vec F S416x3328 .f32) (b : Vec F S416x1 .f32) (d : Vec F S13x14x16x128 .f32) (K : (Σ' (v462 : FVec F S416x128 .f32), F .f32) → sProp 𝕄) :
    iprop(owns (c : Thread nD τ) arg3 fullShare (b) ∗ owns (c : Thread nD τ) arg18 fullShare (sc) ∗ owns (c : Thread nD τ) arg13 fullShare (pool sc b 2 d)
      ∗ (∀ v, ⌜v = ⟨k0_pay111 (colw sc 8 (by decide)) (colw sc 9 (by decide)) b, Scalar.ofBits .f32 0x00000000#32⟩⌝ -∗ owns (c : Thread nD τ) arg3 fullShare (b) -∗ owns (c : Thread nD τ) arg18 fullShare (sc) -∗ owns (c : Thread nD τ) arg13 fullShare (pool sc b 4 d) -∗ K v))
    ⊢ wp frame (wpE (defs₀ (F := F)) Variants.none c none) E (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay108 (colw sc 4 (by decide)) (colw sc 5 (by decide)))) K := by
  simp only [k0_part24_eq_skeleton]; unfold k0_part24_skel
  unfold owns
  iintro ⟨⟨%f3, %hf3, H3⟩, ⟨%f18, %hf18, H18⟩, ⟨%f13, %hf13, H13⟩, Hk⟩
  subst hf3 hf18
  sl_exec
  sl_step
  iapply Hk $$ [] [H3] [H18] [H13]
  · ipureintro
    try rw [View.readAt_full arg3.view f3]
    rfl
  · iexists _; isplitr; swap; · iexact H3
    ipureintro; rfl
  · iexists _; isplitr; swap; · iexact H18
    ipureintro; rfl
  · iexists _; isplitr; swap; · iexact H13
    ipureintro
    try rw [View.readAt_full arg3.view f3]
    exact pool_step 3 (by decide) _ _ (by decide) rfl (pool_step 2 (by decide) _ _ (by decide) rfl (hf13))

/-- Part 25 stores pooled rows 4 and 5. -/
theorem part25_run (E : Set ℕ) (sc : Vec F S416x3328 .f32) (b : Vec F S416x1 .f32) (d : Vec F S13x14x16x128 .f32) (K : FVec F S13x16x128 .f32 → sProp 𝕄) :
    iprop(owns (c : Thread nD τ) arg3 fullShare (b) ∗ owns (c : Thread nD τ) arg18 fullShare (sc) ∗ owns (c : Thread nD τ) arg13 fullShare (pool sc b 4 d)
      ∗ (∀ v, ⌜v = k0_pay114 (colw sc 12 (by decide)) (colw sc 13 (by decide)) b⌝ -∗ owns (c : Thread nD τ) arg3 fullShare (b) -∗ owns (c : Thread nD τ) arg18 fullShare (sc) -∗ owns (c : Thread nD τ) arg13 fullShare (pool sc b 6 d) -∗ K v))
    ⊢ wp frame (wpE (defs₀ (F := F)) Variants.none c none) E (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay111 (colw sc 8 (by decide)) (colw sc 9 (by decide)) b) (Scalar.ofBits .f32 0x00000000#32)) K := by
  simp only [k0_part25_eq_skeleton]; unfold k0_part25_skel
  unfold owns
  iintro ⟨⟨%f3, %hf3, H3⟩, ⟨%f18, %hf18, H18⟩, ⟨%f13, %hf13, H13⟩, Hk⟩
  subst hf3 hf18
  sl_exec
  sl_step
  iapply Hk $$ [] [H3] [H18] [H13]
  · ipureintro
    try rw [View.readAt_full arg3.view f3]
    rfl
  · iexists _; isplitr; swap; · iexact H3
    ipureintro; rfl
  · iexists _; isplitr; swap; · iexact H18
    ipureintro; rfl
  · iexists _; isplitr; swap; · iexact H13
    ipureintro
    try rw [View.readAt_full arg3.view f3]
    exact pool_step 5 (by decide) _ _ (by decide) rfl (pool_step 4 (by decide) _ _ (by decide) rfl (hf13))

/-- Part 26 stores pooled rows 6 and 7. -/
theorem part26_run (E : Set ℕ) (sc : Vec F S416x3328 .f32) (b : Vec F S416x1 .f32) (d : Vec F S13x14x16x128 .f32) (K : FVec F S1x13x16x128 .f32 → sProp 𝕄) :
    iprop(owns (c : Thread nD τ) arg3 fullShare (b) ∗ owns (c : Thread nD τ) arg18 fullShare (sc) ∗ owns (c : Thread nD τ) arg13 fullShare (pool sc b 6 d)
      ∗ (∀ v, ⌜v = k0_pay117 (colw sc 16 (by decide)) (colw sc 17 (by decide)) b⌝ -∗ owns (c : Thread nD τ) arg3 fullShare (b) -∗ owns (c : Thread nD τ) arg18 fullShare (sc) -∗ owns (c : Thread nD τ) arg13 fullShare (pool sc b 8 d) -∗ K v))
    ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay114 (colw sc 12 (by decide)) (colw sc 13 (by decide)) b)) K := by
  simp only [k0_part26_eq_skeleton]; unfold k0_part26_skel
  unfold owns
  iintro ⟨⟨%f3, %hf3, H3⟩, ⟨%f18, %hf18, H18⟩, ⟨%f13, %hf13, H13⟩, Hk⟩
  subst hf3 hf18
  sl_exec
  sl_step
  iapply Hk $$ [] [H3] [H18] [H13]
  · ipureintro
    try rw [View.readAt_full arg3.view f3]
    rfl
  · iexists _; isplitr; swap; · iexact H3
    ipureintro; rfl
  · iexists _; isplitr; swap; · iexact H18
    ipureintro; rfl
  · iexists _; isplitr; swap; · iexact H13
    ipureintro
    try rw [View.readAt_full arg3.view f3]
    exact pool_step 7 (by decide) _ _ (by decide) rfl (pool_step 6 (by decide) _ _ (by decide) (by unfold k0_pay115 k0_pay114 k0_pay106; rfl) (hf13))

/-- Part 27 stores pooled rows 8 to 10. -/
theorem part27_run (E : Set ℕ) (sc : Vec F S416x3328 .f32) (b : Vec F S416x1 .f32) (d : Vec F S13x14x16x128 .f32) (K : Vec F S416x128 .f32 → sProp 𝕄) :
    iprop(owns (c : Thread nD τ) arg3 fullShare (b) ∗ owns (c : Thread nD τ) arg18 fullShare (sc) ∗ owns (c : Thread nD τ) arg13 fullShare (pool sc b 8 d)
      ∗ (∀ v, ⌜v = colw sc 22 (by decide)⌝ -∗ owns (c : Thread nD τ) arg3 fullShare (b) -∗ owns (c : Thread nD τ) arg18 fullShare (sc) -∗ owns (c : Thread nD τ) arg13 fullShare (pool sc b 11 d) -∗ K v))
    ⊢ wp frame (wpE (defs₀ (F := F)) Variants.none c none) E (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay117 (colw sc 16 (by decide)) (colw sc 17 (by decide)) b)) K := by
  simp only [k0_part27_eq_skeleton]; unfold k0_part27_skel
  unfold owns
  iintro ⟨⟨%f3, %hf3, H3⟩, ⟨%f18, %hf18, H18⟩, ⟨%f13, %hf13, H13⟩, Hk⟩
  subst hf3 hf18
  sl_exec
  sl_step
  iapply Hk $$ [] [H3] [H18] [H13]
  · ipureintro
    try rw [View.readAt_full arg3.view f3]
    rfl
  · iexists _; isplitr; swap; · iexact H3
    ipureintro; rfl
  · iexists _; isplitr; swap; · iexact H18
    ipureintro; rfl
  · iexists _; isplitr; swap; · iexact H13
    ipureintro
    try rw [View.readAt_full arg3.view f3]
    exact pool_step 10 (by decide) _ _ (by decide) rfl (pool_step 9 (by decide) _ _ (by decide) rfl (pool_step 8 (by decide) _ _ (by decide) rfl (hf13)))

end Cert.KernelIdeal.Body

end
-- ==== Proof.GatherI.lean ====
module

public import proofs.«01_k».proof.Proof.Gen.KernelIdeal.Skeleton
public import proofs.«01_k».proof.Proof.PoolI

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

theorem off1_eq : ∀ (t : Fin k0_t1_loop.trips) (r : Fin 3) (q : Fin 6),
    k0_off1 t (BitVec.ofNat 32 r.val) (BitVec.ofNat 32 q.val) = ![t.val / 3 + r.val, 4 * (t.val % 3) + q.val, 0, 0] := by
  decide +kernel

theorem off21_eq : ∀ t : Fin k0_t2_loop.trips, k0_off21 t = ![t.val / 3, 4 * (t.val % 3), 0, 0] := by decide +kernel

theorem t1_lt (t : Fin k0_t1_loop.trips) : t.val < 33 := Nat.lt_of_lt_of_le t.isLt k0_t1_abs.2.1
theorem t2_lt (t : Fin k0_t2_loop.trips) : t.val < 33 := Nat.lt_of_lt_of_le t.isLt k0_t2_abs.2.1
theorem t1_trips : k0_t1_loop.trips = 33 := by decide +kernel
theorem t2_trips : k0_t2_loop.trips = 33 := by decide +kernel

/-- The second convolution's operand after its first `n` tiles are copied over contents `d`: tile `18 t + m` is column
    block `t`, rows `16 m` to `16 m + 15`; it holds the 16 channels at pooled position `(t / 3 + m / 6, 4 (t % 3) + m % 6)`. -/
def gat (s : Vec F S13x14x16x128 .f32) (n : ℕ) (d : Vec F S288x4224 .f32) : Vec F S288x4224 .f32 := fun y =>
  if (y 1).val / 128 * 18 + (y 0).val / 16 < n then
    s (ix4 (n0 := 13) (n1 := 14) (n2 := 16) (n3 := 128)
      ⟨(y 1).val / 128 / 3 + (y 0).val / 16 / 6, by
        have h0 : (y 0).val < 288 := (y 0).isLt
        have h1 : (y 1).val < 4224 := (y 1).isLt
        omega⟩
      ⟨4 * ((y 1).val / 128 % 3) + (y 0).val / 16 % 6, by omega⟩
      ⟨(y 0).val % 16, Nat.mod_lt _ (by decide)⟩ ⟨(y 1).val % 128, Nat.mod_lt _ (by decide)⟩)
  else d y

theorem gat_zero (s : Vec F S13x14x16x128 .f32) (d : Vec F S288x4224 .f32) : gat s 0 d = d := by
  funext y; unfold gat; rw [if_neg]; omega

theorem pay1_apply (v : Vec F S1x1x16x128 .f32) (z : S16x128.Idx) :
    k0_pay1 v z = v (ix4 (n0 := 1) (n1 := 1) (n2 := 16) (n3 := 128) 0 0 (z 0) (z 1)) := by
  unfold k0_pay1
  pointwise

/-- One store more in a trip of the copying loop is one tile more. -/
theorem gat_step {κ κ' : Kind} {sp sp' : Space} {v : View sig κ sp S288x4224 .f32} {f : v.ty.Contents (Elt F)}
    {u : View sig κ' sp' S13x14x16x128 .f32} {g : u.ty.Contents (Elt F)}
    {d : Vec F S288x4224 .f32} (t m : ℕ) (ht : t < 33) (hm : m < 18) {off : Fin 2 → ℕ} {off1 : Fin 4 → ℕ}
    (inb : ∀ a, off a + S16x128.size a ≤ S288x4224.size a) (inb1 : ∀ a, off1 a + S1x1x16x128.size a ≤ S13x14x16x128.size a)
    (w : Vec F S16x128 .f32)
    {L : List (View.Piece (Elt F) S288x4224 .f32)} (hoff : off = ![16 * m, 128 * t])
    (hoff1 : off1 = ![t / 3 + m / 6, 4 * (t % 3) + m % 6, 0, 0])
    (hw : w = k0_pay1 (u.readAt (Elt F) (Rect.unit (s := S13x14x16x128) off1 S1x1x16x128.size inb1).toLoadRect g))
    (hL : v.read (Elt F) (v.writes (Elt F) f L) = gat (u.read (Elt F) g) (18 * t + m) d) :
    v.read (Elt F) (v.writes (Elt F) f (⟨Rect.unit off S16x128.size inb, w⟩ :: L)) = gat (u.read (Elt F) g) (18 * t + m + 1) d := by
  rw [View.read_writes_cons_put v f inb w L hoff, hL, hw]
  subst hoff1
  rw [View.readAt_unit u g inb1 rfl inb1]
  funext y
  have h0 : (y 0).val < 288 := (y 0).isLt
  have h1 : (y 1).val < 4224 := (y 1).isLt
  unfold VecWindow.put
  split
  · rename_i h
    have a0 : 16 * m ≤ (y 0).val ∧ (y 0).val < 16 * m + 16 := h 0
    have a1 : 128 * t ≤ (y 1).val ∧ (y 1).val < 128 * t + 128 := h 1
    unfold gat
    rw [if_pos (by omega), pay1_apply]
    unfold VecWindow.window
    congr 1
    have e1 : (y 1).val / 128 = t := by omega
    have e0 : (y 0).val / 16 = m := by omega
    funext a
    match a with
    | 0 => exact Fin.ext (show t / 3 + m / 6 + 1 * 0 = (y 1).val / 128 / 3 + (y 0).val / 16 / 6 by rw [e1, e0]; omega)
    | 1 => exact Fin.ext (show 4 * (t % 3) + m % 6 + 1 * 0 = 4 * ((y 1).val / 128 % 3) + (y 0).val / 16 % 6 by rw [e1, e0]; omega)
    | 2 => exact Fin.ext (show 0 + 1 * ((y 0).val - 16 * m) = (y 0).val % 16 by omega)
    | 3 => exact Fin.ext (show 0 + 1 * ((y 1).val - 128 * t) = (y 1).val % 128 by omega)
  · rename_i h
    have h' : ¬ ((16 * m ≤ (y 0).val ∧ (y 0).val < 16 * m + 16) ∧ 128 * t ≤ (y 1).val ∧ (y 1).val < 128 * t + 128) := by
      intro hh
      refine h fun a => ?_
      match a with
      | 0 => exact hh.1
      | 1 => exact hh.2
    unfold gat
    split
    · rename_i g
      rw [if_pos (by omega)]
    · rename_i g
      rw [if_neg (by omega)]

/-- Column block `t` of the second convolution's output. -/
def colw2 (x : Vec F S128x4224 .f32) (t : ℕ) (ht : t < 33) : Vec F S128x128 .f32 :=
  VecWindow.window x ![0, 128 * t] S128x128.size (fun a => by
    match a with
    | 0 => exact Nat.le_refl 128
    | 1 => exact (by omega : 128 * t + 128 ≤ 4224))

/-- The second convolution's output by position, after the first `n` column blocks are moved over contents `d`:
    block `t` holds the four positions `(t / 3, 4 (t % 3))` on. -/
def chan (x : Vec F S128x4224 .f32) (n : ℕ) (d : Vec F S11x12x32x128 .f32) : Vec F S11x12x32x128 .f32 := fun y =>
  if (y 0).val * 3 + (y 1).val / 4 < n then
    k0_pay125 (colw2 x ((y 0).val * 3 + (y 1).val / 4) (by
        have h0 : (y 0).val < 11 := (y 0).isLt
        have h1 : (y 1).val < 12 := (y 1).isLt
        omega))
      (ix4 (n0 := 1) (n1 := 4) (n2 := 32) (n3 := 128) 0 ⟨(y 1).val % 4, Nat.mod_lt _ (by decide)⟩ (y 2) (y 3))
  else d y

theorem chan_zero (x : Vec F S128x4224 .f32) (d : Vec F S11x12x32x128 .f32) : chan x 0 d = d := by
  funext y; unfold chan; rw [if_neg]; omega

theorem colw2_congr (x : Vec F S128x4224 .f32) {t t' : ℕ} (h : t = t') (ht : t < 33) (ht' : t' < 33) : colw2 x t ht = colw2 x t' ht' := by
  subst h; rfl

theorem chan_step {κ : Kind} {sp : Space} {v : View sig κ sp S11x12x32x128 .f32} {f : v.ty.Contents (Elt F)}
    {x : Vec F S128x4224 .f32} {d : Vec F S11x12x32x128 .f32} (t : ℕ) (ht : t < 33) {off : Fin 4 → ℕ}
    (inb : ∀ a, off a + S1x4x32x128.size a ≤ S11x12x32x128.size a) (w : Vec F S1x4x32x128 .f32)
    {L : List (View.Piece (Elt F) S11x12x32x128 .f32)} (hoff : off = ![t / 3, 4 * (t % 3), 0, 0])
    (hw : w = k0_pay125 (colw2 x t ht))
    (hL : v.read (Elt F) (v.writes (Elt F) f L) = chan x t d) :
    v.read (Elt F) (v.writes (Elt F) f (⟨Rect.unit off S1x4x32x128.size inb, w⟩ :: L)) = chan x (t + 1) d := by
  rw [View.read_writes_cons_put v f inb w L hoff, hL, hw]
  funext y
  have h0 : (y 0).val < 11 := (y 0).isLt
  have h1 : (y 1).val < 12 := (y 1).isLt
  have h2 : (y 2).val < 32 := (y 2).isLt
  have h3 : (y 3).val < 128 := (y 3).isLt
  unfold VecWindow.put
  split
  · rename_i h
    have a0 : t / 3 ≤ (y 0).val ∧ (y 0).val < t / 3 + 1 := h 0
    have a1 : 4 * (t % 3) ≤ (y 1).val ∧ (y 1).val < 4 * (t % 3) + 4 := h 1
    unfold chan
    rw [if_pos (by omega), colw2_congr x (show (y 0).val * 3 + (y 1).val / 4 = t by omega) _ ht]
    congr 1
    funext a
    match a with
    | 0 => exact Fin.ext (show (y 0).val - t / 3 = 0 by omega)
    | 1 => exact Fin.ext (show (y 1).val - 4 * (t % 3) = (y 1).val % 4 by omega)
    | 2 => rfl
    | 3 => rfl
  · rename_i h
    have h' : ¬ ((t / 3 ≤ (y 0).val ∧ (y 0).val < t / 3 + 1) ∧ 4 * (t % 3) ≤ (y 1).val ∧ (y 1).val < 4 * (t % 3) + 4) := by
      intro hh
      refine h fun a => ?_
      match a with
      | 0 => exact hh.1
      | 1 => exact hh.2
      | 2 => exact (by omega : 0 ≤ (y 2).val ∧ (y 2).val < 0 + 32)
      | 3 => exact (by omega : 0 ≤ (y 3).val ∧ (y 3).val < 0 + 128)
    unfold chan
    split
    · rename_i g
      rw [if_pos (by omega)]
    · rename_i g
      rw [if_neg (by omega)]

/-- Row `q` of the second convolution's output by position. -/
def row16 (x : Vec F S11x12x32x128 .f32) (q : ℕ) (hq : q < 11) : Vec F S1x12x32x128 .f32 :=
  VecWindow.window x ![q, 0, 0, 0] S1x12x32x128.size (fun a => by
    match a with
    | 0 => exact (by omega : q + 1 ≤ 11)
    | 1 => exact Nat.le_refl 12
    | 2 => exact Nat.le_refl 32
    | 3 => exact Nat.le_refl 128)

variable (c : Dev nD) (i : grid0.Coords) (arg1 : Memref sig .tc .vmem S1x28x28x128 .f32) (harg1 : arg1.IsWhole) (arg2 : Memref sig .tc .vmem S416x96 .f32) (harg2 : arg2.IsWhole) (arg3 : Memref sig .tc .vmem S416x1 .f32) (harg3 : arg3.IsWhole) (arg4 : Memref sig .tc .vmem S128x288 .f32) (harg4 : arg4.IsWhole) (arg5 : Memref sig .tc .vmem S128x1 .f32) (harg5 : arg5.IsWhole) (arg6 : Memref sig .tc .vmem S64x800 .f32) (harg6 : arg6.IsWhole) (arg7 : Memref sig .tc .vmem S64x1 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x1x128 .i32) (harg10 : arg10.IsWhole) (arg11 : Memref sig .tc .vmem S256x800 .f32) (harg11 : arg11.IsWhole) (arg12 : Memref sig .tc .vmem S8x128 .f32) (harg12 : arg12.IsWhole) (arg13 : Memref sig .tc .vmem S13x14x16x128 .f32) (harg13 : arg13.IsWhole) (arg14 : Memref sig .tc .vmem S288x4224 .f32) (harg14 : arg14.IsWhole) (arg15 : Memref sig .tc .vmem S128x4224 .f32) (harg15 : arg15.IsWhole) (arg16 : Memref sig .tc .vmem S11x12x32x128 .f32) (harg16 : arg16.IsWhole) (arg17 : Memref sig .tc .vmem S96x3328 .f32) (harg17 : arg17.IsWhole) (arg18 : Memref sig .tc .vmem S416x3328 .f32) (harg18 : arg18.IsWhole)

/-- One trip of the copying loop copies eighteen tiles. -/
theorem trip1_run (E : Set ℕ) (s : Vec F S13x14x16x128 .f32) (d : Vec F S288x4224 .f32) (v554 : Vec F S416x128 .f32)
    (t : Fin k0_t1_loop.trips) (a : Unit) (K : Unit → sProp 𝕄) :
    iprop(owns (c : Thread nD τ) arg13 fullShare (s) ∗ owns (c : Thread nD τ) arg14 fullShare (gat s (18 * t.val) d) ∗ (owns (c : Thread nD τ) arg13 fullShare (s) -∗ owns (c : Thread nD τ) arg14 fullShare (gat s (18 * t.val + 18) d) -∗ K PUnit.unit))
    ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v554 t a) K := by
  unfold k0_t1_body
  unfold owns
  iintro ⟨⟨%f13, %hf13, H13⟩, ⟨%f14, %hf14, H14⟩, Hk⟩
  subst hf13
  sl_exec
  sl_step
  iapply Hk $$ [H13] [H14]
  · iexists _; isplitr; swap; · iexact H13
    ipureintro; rfl
  · iexists _; isplitr; swap; · iexact H14
    ipureintro
    exact gat_step t.val 17 (t1_lt t) (by decide) _ _ _ (k0_off19_eq t) (off1_eq t 2 5) rfl (gat_step t.val 16 (t1_lt t) (by decide) _ _ _ (k0_off18_eq t) (off1_eq t 2 4) rfl (gat_step t.val 15 (t1_lt t) (by decide) _ _ _ (k0_off17_eq t) (off1_eq t 2 3) rfl (gat_step t.val 14 (t1_lt t) (by decide) _ _ _ (k0_off16_eq t) (off1_eq t 2 2) rfl (gat_step t.val 13 (t1_lt t) (by decide) _ _ _ (k0_off15_eq t) (off1_eq t 2 1) rfl (gat_step t.val 12 (t1_lt t) (by decide) _ _ _ (k0_off14_eq t) (off1_eq t 2 0) rfl (gat_step t.val 11 (t1_lt t) (by decide) _ _ _ (k0_off13_eq t) (off1_eq t 1 5) rfl (gat_step t.val 10 (t1_lt t) (by decide) _ _ _ (k0_off12_eq t) (off1_eq t 1 4) rfl (gat_step t.val 9 (t1_lt t) (by decide) _ _ _ (k0_off11_eq t) (off1_eq t 1 3) rfl (gat_step t.val 8 (t1_lt t) (by decide) _ _ _ (k0_off10_eq t) (off1_eq t 1 2) rfl (gat_step t.val 7 (t1_lt t) (by decide) _ _ _ (k0_off9_eq t) (off1_eq t 1 1) rfl (gat_step t.val 6 (t1_lt t) (by decide) _ _ _ (k0_off8_eq t) (off1_eq t 1 0) rfl (gat_step t.val 5 (t1_lt t) (by decide) _ _ _ (k0_off7_eq t) (off1_eq t 0 5) rfl (gat_step t.val 4 (t1_lt t) (by decide) _ _ _ (k0_off6_eq t) (off1_eq t 0 4) rfl (gat_step t.val 3 (t1_lt t) (by decide) _ _ _ (k0_off5_eq t) (off1_eq t 0 3) rfl (gat_step t.val 2 (t1_lt t) (by decide) _ _ _ (k0_off4_eq t) (off1_eq t 0 2) rfl (gat_step t.val 1 (t1_lt t) (by decide) _ _ _ (k0_off3_eq t) (off1_eq t 0 1) rfl (gat_step t.val 0 (t1_lt t) (by decide) _ _ _ (k0_off2_eq t) (off1_eq t 0 0) rfl (hf14))))))))))))))))))

/-- One trip of the moving loop moves one column block. -/
theorem trip2_run (E : Set ℕ) (x : Vec F S128x4224 .f32) (d : Vec F S11x12x32x128 .f32) (v583 : Vec F S288x4224 .f32)
    (t : Fin k0_t2_loop.trips) (a : Unit) (K : Unit → sProp 𝕄) :
    iprop(owns (c : Thread nD τ) arg15 fullShare (x) ∗ owns (c : Thread nD τ) arg16 fullShare (chan x t.val d) ∗ (owns (c : Thread nD τ) arg15 fullShare (x) -∗ owns (c : Thread nD τ) arg16 fullShare (chan x (t.val + 1) d) -∗ K PUnit.unit))
    ⊢ wp frame (wpE (defs₀ (F := F)) Variants.none c none) E (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v583 t a) K := by
  unfold k0_t2_body
  unfold owns
  iintro ⟨⟨%f15, %hf15, H15⟩, ⟨%f16, %hf16, H16⟩, Hk⟩
  subst hf15
  sl_exec
  sl_step
  iapply Hk $$ [H15] [H16]
  · iexists _; isplitr; swap; · iexact H15
    ipureintro; rfl
  · iexists _; isplitr; swap; · iexact H16
    ipureintro
    refine chan_step t.val (t2_lt t) _ _ (off21_eq t) ?_ hf16
    rw [View.readAt_unit arg15.view f15 _ (k0_off20_eq t) (k0_off20_eq t ▸ k0_off20_inb t)]
    rfl

/-- The copying loop copies all 594 tiles. -/
theorem loop1_run (E : Set ℕ) (s : Vec F S13x14x16x128 .f32) (d : Vec F S288x4224 .f32) (v554 : Vec F S416x128 .f32) {β : Type}
    (k : Unit → Prog (TpuEff nD τ sig (Elt F) Λ₀ .tc) β) (K : β → sProp 𝕄) :
    iprop(owns (c : Thread nD τ) arg13 fullShare (s) ∗ owns (c : Thread nD τ) arg14 fullShare (d) ∗ (owns (c : Thread nD τ) arg13 fullShare (s) -∗ owns (c : Thread nD τ) arg14 fullShare (gat s 594 d) -∗ wp frame (wpE (defs₀ (F := F)) Variants.none c none) E (k PUnit.unit) K))
    ⊢ wp frame (wpE (defs₀ (F := F)) Variants.none c none) E (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v554) >>= k) K := by
  iintro ⟨HA, HB, Hk⟩
  iapply (Scf.wp_for_bind frame (wpE (defs₀ (F := F)) Variants.none c none) E k0_t1_loop.lb k0_t1_loop.ub k0_t1_loop.st k0_t1_ok
    PUnit.unit (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v554)
    (fun n _ => iprop(owns (c : Thread nD τ) arg13 fullShare (s) ∗ owns (c : Thread nD τ) arg14 fullShare (gat s (18 * n) d))) (fun t a => by
      iintro ⟨HA, HB⟩
      iapply (trip1_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E s d v554 t a)
      isplitl [HA]; · iexact HA
      isplitl [HB]; · iexact HB
      iintro HA HB
      isplitl [HA]; · iexact HA
      iexact HB)) $$ [HA HB]
  · isplitl [HA]; · iexact HA
    rw [Nat.mul_zero, gat_zero]
    iexact HB
  iintro %a ⟨HA, HB⟩
  iapply Hk $$ [HA] [HB]
  · iexact HA
  · iexact HB

/-- The moving loop moves all 33 column blocks. -/
theorem loop2_run (E : Set ℕ) (x : Vec F S128x4224 .f32) (d : Vec F S11x12x32x128 .f32) (v583 : Vec F S288x4224 .f32) {β : Type}
    (k : Unit → Prog (TpuEff nD τ sig (Elt F) Λ₀ .tc) β) (K : β → sProp 𝕄) :
    iprop(owns (c : Thread nD τ) arg15 fullShare (x) ∗ owns (c : Thread nD τ) arg16 fullShare (d) ∗ (owns (c : Thread nD τ) arg15 fullShare (x) -∗ owns (c : Thread nD τ) arg16 fullShare (chan x 33 d) -∗ wp frame (wpE (defs₀ (F := F)) Variants.none c none) E (k PUnit.unit) K))
    ⊢ wp frame (wpE (defs₀ (F := F)) Variants.none c none) E (Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v583) >>= k) K := by
  iintro ⟨HA, HB, Hk⟩
  iapply (Scf.wp_for_bind frame (wpE (defs₀ (F := F)) Variants.none c none) E k0_t2_loop.lb k0_t2_loop.ub k0_t2_loop.st k0_t2_ok
    PUnit.unit (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v583)
    (fun n _ => iprop(owns (c : Thread nD τ) arg15 fullShare (x) ∗ owns (c : Thread nD τ) arg16 fullShare (chan x n d))) (fun t a => by
      iintro ⟨HA, HB⟩
      iapply (trip2_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x d v583 t a)
      isplitl [HA]; · iexact HA
      isplitl [HB]; · iexact HB
      iintro HA HB
      isplitl [HA]; · iexact HA
      iexact HB)) $$ [HA HB]
  · isplitl [HA]; · iexact HA
    rw [chan_zero]
    iexact HB
  iintro %a ⟨HA, HB⟩
  iapply Hk $$ [HA] [HB]
  · iexact HA
  · iexact HB

/-- Part 28 stores pooled rows 11 and 12, copies the second convolution's operand and loads it. -/
theorem part28_run (E : Set ℕ) (sc : Vec F S416x3328 .f32) (b : Vec F S416x1 .f32) (d : Vec F S13x14x16x128 .f32) (d14 : Vec F S288x4224 .f32)
    (K : Vec F S288x4224 .f32 → sProp 𝕄) :
    iprop(owns (c : Thread nD τ) arg3 fullShare (b) ∗ owns (c : Thread nD τ) arg18 fullShare (sc) ∗ owns (c : Thread nD τ) arg13 fullShare (pool sc b 11 d) ∗ owns (c : Thread nD τ) arg14 fullShare (d14)
      ∗ (∀ v, ⌜v = gat (pool sc b 13 d) 594 d14⌝ -∗ owns (c : Thread nD τ) arg3 fullShare (b) -∗ owns (c : Thread nD τ) arg18 fullShare (sc) -∗ owns (c : Thread nD τ) arg13 fullShare (pool sc b 13 d) -∗ owns (c : Thread nD τ) arg14 fullShare (gat (pool sc b 13 d) 594 d14) -∗ K v))
    ⊢ wp frame (wpE (defs₀ (F := F)) Variants.none c none) E (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (colw sc 22 (by decide))) K := by
  simp only [k0_part28_eq_skeleton]; unfold k0_part28_skel
  unfold owns
  iintro ⟨⟨%f3, %hf3, H3⟩, ⟨%f18, %hf18, H18⟩, ⟨%f13, %hf13, H13⟩, ⟨%f14, %hf14, H14⟩, Hk⟩
  subst hf3 hf18
  sl_exec
  ihave H13 := (show _ ⊢ owns (c : Thread nD τ) arg13 fullShare (pool (arg18.view.read (Elt F) f18) (arg3.view.read (Elt F) f3) 13 d) from by
    iintro H13
    unfold owns
    iexists _; isplitr; swap; · iexact H13
    ipureintro
    try rw [View.readAt_full arg3.view f3]
    exact pool_step 12 (by decide) _ _ (by decide) rfl (pool_step 11 (by decide) _ _ (by decide) rfl (hf13))) $$ H13
  ihave H14 := (show _ ⊢ owns (c : Thread nD τ) arg14 fullShare d14 from by
    iintro H14
    unfold owns
    iexists _; isplitr; swap; · iexact H14
    ipureintro
    exact hf14) $$ H14
  iapply (loop1_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E (pool (arg18.view.read (Elt F) f18) (arg3.view.read (Elt F) f3) 13 d) d14 _)
  isplitl [H13]; · iexact H13
  isplitl [H14]; · iexact H14
  iintro H13 H14
  unfold owns
  icases H14 with ⟨%g14, %hg14, H14⟩
  sl_exec
  sl_step
  iapply Hk $$ [] [H3] [H18] [H13] [H14]
  · ipureintro
    rw [View.readAt_full arg14.view g14]
    exact hg14
  · iexists _; isplitr; swap; · iexact H3
    ipureintro; rfl
  · iexists _; isplitr; swap; · iexact H18
    ipureintro; rfl
  · iexact H13
  · iexists _; isplitr; swap; · iexact H14
    ipureintro; exact hg14

theorem put_all15 (d w : Vec F S128x4224 .f32) : VecWindow.put d ![0, 0] S128x4224.size w = w := by
  funext y
  unfold VecWindow.put
  rw [dif_pos (fun a => by
    match a with
    | 0 => exact (⟨Nat.zero_le _, by have : (y 0).val < 128 := (y 0).isLt; omega⟩ : 0 ≤ (y 0).val ∧ (y 0).val < 0 + 128)
    | 1 => exact (⟨Nat.zero_le _, by have : (y 1).val < 4224 := (y 1).isLt; omega⟩ : 0 ≤ (y 1).val ∧ (y 1).val < 0 + 4224))]
  congr 1
  funext a
  match a with
  | 0 => rfl
  | 1 => rfl

/-- Part 29 multiplies (the second convolution), moves its output by position and pools the first rows. -/
theorem part29_run (E : Set ℕ) (v : Vec F S288x4224 .f32) (w : Vec F S128x288 .f32) (b : Vec F S128x1 .f32)
    (d15 : Vec F S128x4224 .f32) (d16 : Vec F S11x12x32x128 .f32)
    (K : (Σ' (v605 : FVec F S160x128 .f32), FVec F S5x32x128 .f32) → sProp 𝕄) :
    iprop(owns (c : Thread nD τ) arg4 fullShare (w) ∗ owns (c : Thread nD τ) arg5 fullShare (b) ∗ owns (c : Thread nD τ) arg15 fullShare (d15) ∗ owns (c : Thread nD τ) arg16 fullShare (d16)
      ∗ (∀ r, ⌜r = ⟨k0_pay126 (row16 (chan (k0_pay124 v w b) 33 d16) 0 (by decide)) (row16 (chan (k0_pay124 v w b) 33 d16) 1 (by decide)), k0_pay127 (row16 (chan (k0_pay124 v w b) 33 d16) 2 (by decide)) (row16 (chan (k0_pay124 v w b) 33 d16) 3 (by decide))⟩⌝ -∗ owns (c : Thread nD τ) arg4 fullShare (w) -∗ owns (c : Thread nD τ) arg5 fullShare (b) -∗ owns (c : Thread nD τ) arg15 fullShare (k0_pay124 v w b) -∗ owns (c : Thread nD τ) arg16 fullShare (chan (k0_pay124 v w b) 33 d16) -∗ K r))
    ⊢ wp frame (wpE (defs₀ (F := F)) Variants.none c none) E (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v) K := by
  simp only [k0_part29_eq_skeleton]; unfold k0_part29_skel
  unfold owns
  iintro ⟨⟨%f4, %hf4, H4⟩, ⟨%f5, %hf5, H5⟩, ⟨%f15, %hf15, H15⟩, ⟨%f16, %hf16, H16⟩, Hk⟩
  subst hf4 hf5
  sl_exec
  ihave H15 := (show _ ⊢ owns (c : Thread nD τ) arg15 fullShare (k0_pay124 v (arg4.view.read (Elt F) f4) (arg5.view.read (Elt F) f5)) from by
    iintro H15
    unfold owns
    iexists _; isplitr; swap; · iexact H15
    ipureintro
    refine (View.read_writes_full arg15.view _ _ _ _).trans ?_
    rw [View.readAt_full arg4.view f4, View.readAt_full arg5.view f5]) $$ H15
  ihave H16 := (show _ ⊢ owns (c : Thread nD τ) arg16 fullShare d16 from by
    iintro H16
    unfold owns
    iexists _; isplitr; swap; · iexact H16
    ipureintro
    exact hf16) $$ H16
  iapply (loop2_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E (k0_pay124 v (arg4.view.read (Elt F) f4) (arg5.view.read (Elt F) f5)) d16 v)
  isplitl [H15]; · iexact H15
  isplitl [H16]; · iexact H16
  iintro H15 H16
  unfold owns
  icases H16 with ⟨%g16, %hg16, H16⟩
  sl_exec
  sl_step
  iapply Hk $$ [] [H4] [H5] [H15] [H16]
  · ipureintro
    rw [← hg16]
    rfl
  · iexists _; isplitr; swap; · iexact H4
    ipureintro; rfl
  · iexists _; isplitr; swap; · iexact H5
    ipureintro; rfl
  · iexact H15
  · iexists _; isplitr; swap; · iexact H16
    ipureintro; exact hg16

/-- The embedding: the second convolution's output, pooled, its rows in order. -/
def emb (x16 : Vec F S11x12x32x128 .f32) : FVec F S800x128 .f32 :=
  k0_pay128 (k0_pay126 (row16 x16 0 (by decide)) (row16 x16 1 (by decide))) (k0_pay127 (row16 x16 2 (by decide)) (row16 x16 3 (by decide))) (row16 x16 4 (by decide)) (row16 x16 5 (by decide)) (row16 x16 6 (by decide)) (row16 x16 7 (by decide)) (row16 x16 8 (by decide)) (row16 x16 9 (by decide))

/-- Part 30 pools the other rows. -/
theorem part30_run (E : Set ℕ) (x16 : Vec F S11x12x32x128 .f32) (w : Vec F S64x800 .f32)
    (K : (Σ' (v642 : FVec F S800x128 .f32), FVec F S64x800 .f32) → sProp 𝕄) :
    iprop(owns (c : Thread nD τ) arg16 fullShare (x16) ∗ owns (c : Thread nD τ) arg6 fullShare (w) ∗ (∀ r, ⌜r = ⟨emb x16, k0_pay129 w⟩⌝ -∗ owns (c : Thread nD τ) arg16 fullShare (x16) -∗ owns (c : Thread nD τ) arg6 fullShare (w) -∗ K r))
    ⊢ wp frame (wpE (defs₀ (F := F)) Variants.none c none) E (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay126 (row16 x16 0 (by decide)) (row16 x16 1 (by decide))) (k0_pay127 (row16 x16 2 (by decide)) (row16 x16 3 (by decide)))) K := by
  simp only [k0_part30_eq_skeleton]; unfold k0_part30_skel
  unfold owns
  iintro ⟨⟨%f16, %hf16, H16⟩, ⟨%f6, %hf6, H6⟩, Hk⟩
  subst hf16 hf6
  sl_exec
  sl_step
  iapply Hk $$ [] [H16] [H6]
  · ipureintro
    rw [View.readAt_full arg6.view f6]
    rfl
  · iexists _; isplitr; swap; · iexact H16
    ipureintro; rfl
  · iexists _; isplitr; swap; · iexact H6
    ipureintro; rfl

/-- Row 0 of the running sum of gates. -/
def row12 (x : Vec F S8x128 .f32) : Vec F S1x128 .f32 :=
  VecWindow.window x ![0, 0] S1x128.size (fun a => by
    match a with
    | 0 => exact (by decide : 0 + 1 ≤ 8)
    | 1 => exact Nat.le_refl 128)

theorem put_all11 (d w : Vec F S256x800 .f32) : VecWindow.put d ![0, 0] S256x800.size w = w := by
  funext y
  unfold VecWindow.put
  rw [dif_pos (fun a => by
    match a with
    | 0 => exact (⟨Nat.zero_le _, by have : (y 0).val < 256 := (y 0).isLt; omega⟩ : 0 ≤ (y 0).val ∧ (y 0).val < 0 + 256)
    | 1 => exact (⟨Nat.zero_le _, by have : (y 1).val < 800 := (y 1).isLt; omega⟩ : 0 ≤ (y 1).val ∧ (y 1).val < 0 + 800))]
  congr 1
  funext a
  match a with
  | 0 => rfl
  | 1 => rfl

theorem put_all12 (d w : Vec F S8x128 .f32) : VecWindow.put d ![0, 0] S8x128.size w = w := by
  funext y
  unfold VecWindow.put
  rw [dif_pos (fun a => by
    match a with
    | 0 => exact (⟨Nat.zero_le _, by have : (y 0).val < 8 := (y 0).isLt; omega⟩ : 0 ≤ (y 0).val ∧ (y 0).val < 0 + 8)
    | 1 => exact (⟨Nat.zero_le _, by have : (y 1).val < 128 := (y 1).isLt; omega⟩ : 0 ≤ (y 1).val ∧ (y 1).val < 0 + 128))]
  congr 1
  funext a
  match a with
  | 0 => rfl
  | 1 => rfl

theorem readCov_row12 {κ : Kind} {sp : Space} (v : View sig κ sp S8x128 .f32) (inb : ∀ a, (![0, 0] : Fin 2 → ℕ) a + S1x128.size a ≤ S8x128.size a)
    (inb' : ∀ a, (![0, 0] : Fin 2 → ℕ) a + S8x128.size a ≤ S8x128.size a) (w : Vec F S8x128 .f32) :
    v.readCov [⟨Rect.unit (s := S8x128) ![0, 0] S8x128.size inb', w⟩] (Rect.unit (s := S8x128) ![0, 0] S1x128.size inb).toLoadRect = row12 w := by
  unfold View.readCov
  rw [View.readAt_unit v _ inb rfl inb, View.read_writes_full]
  rfl

/-- Part 31 at the first grid point: both running sums are cleared first. -/
theorem part31_first (E : Set ℕ) (hc : first i) (e : FVec F S800x128 .f32) (aw : FVec F S64x800 .f32) (x7 : Vec F S64x1 .f32) (x8 : Vec F S1x64 .f32)
    (x9 : Vec F S1x1 .f32) (x10 : Vec F S1x1x128 .i32) (u : Vec F S256x800 .f32) (z : Vec F S8x128 .f32)
    (K : FVec F S1x128 .f32 → sProp 𝕄) :
    iprop(owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (u) ∗ owns (c : Thread nD τ) arg12 fullShare (z)
      ∗ (∀ r, ⌜r = k0_pay134 e aw x7 x8 x9 (row12 (k0_pay132))⌝ -∗ owns (c : Thread nD τ) arg7 fullShare (x7) -∗ owns (c : Thread nD τ) arg8 fullShare (x8) -∗ owns (c : Thread nD τ) arg9 fullShare (x9) -∗ owns (c : Thread nD τ) arg10 fullShare (x10) -∗ owns (c : Thread nD τ) arg11 fullShare (k0_pay133 e aw x7 x8 x9 x10 (k0_pay131)) -∗ owns (c : Thread nD τ) arg12 fullShare (k0_pay132) -∗ K r))
    ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) e aw) K := by
  simp only [k0_part31_eq_skeleton]; unfold k0_part31_skel
  unfold owns
  iintro ⟨⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf7 hf8 hf9 hf10 hf11 hf12
  sl_exec (disch := first | sl_exact hc)
  sl_step
  iapply Hk $$ [] [H7] [H8] [H9] [H10] [H11] [H12]
  · ipureintro
    rw [View.readAt_full arg7.view f7, View.readAt_full arg8.view f8, View.readAt_full arg9.view f9]
    exact congrArg (k0_pay134 e aw _ _ _) (readCov_row12 arg12.view _ _ _)
  · iexists _; isplitr; swap; · iexact H7
    ipureintro; rfl
  · iexists _; isplitr; swap; · iexact H8
    ipureintro; rfl
  · iexists _; isplitr; swap; · iexact H9
    ipureintro; rfl
  · iexists _; isplitr; swap; · iexact H10
    ipureintro; rfl
  · iexists _; isplitr; swap; · iexact H11
    ipureintro
    rw [View.read_writes_cons_put arg11.view f11 _ _ _ rfl, put_all11]
    rw [View.readAt_full arg7.view f7, View.readAt_full arg8.view f8, View.readAt_full arg9.view f9, View.readAt_full arg10.view f10]
    exact congrArg (k0_pay133 e aw _ _ _ _) (View.readCov_full arg11.view _ _ _ _)
  · iexists _; isplitr; swap; · iexact H12
    ipureintro
    exact View.read_writes_full arg12.view f12 _ _ _

/-- Part 31 at a later grid point. -/
theorem part31_later (E : Set ℕ) (hc : ¬ first i) (e : FVec F S800x128 .f32) (aw : FVec F S64x800 .f32) (x7 : Vec F S64x1 .f32) (x8 : Vec F S1x64 .f32)
    (x9 : Vec F S1x1 .f32) (x10 : Vec F S1x1x128 .i32) (u : Vec F S256x800 .f32) (z : Vec F S8x128 .f32)
    (K : FVec F S1x128 .f32 → sProp 𝕄) :
    iprop(owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (u) ∗ owns (c : Thread nD τ) arg12 fullShare (z)
      ∗ (∀ r, ⌜r = k0_pay134 e aw x7 x8 x9 (row12 (z))⌝ -∗ owns (c : Thread nD τ) arg7 fullShare (x7) -∗ owns (c : Thread nD τ) arg8 fullShare (x8) -∗ owns (c : Thread nD τ) arg9 fullShare (x9) -∗ owns (c : Thread nD τ) arg10 fullShare (x10) -∗ owns (c : Thread nD τ) arg11 fullShare (k0_pay133 e aw x7 x8 x9 x10 (u)) -∗ owns (c : Thread nD τ) arg12 fullShare (z) -∗ K r))
    ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) e aw) K := by
  simp only [k0_part31_eq_skeleton]; unfold k0_part31_skel
  unfold owns
  iintro ⟨⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf7 hf8 hf9 hf10 hf11 hf12
  sl_exec (disch := first | sl_exact hc)
  sl_step
  iapply Hk $$ [] [H7] [H8] [H9] [H10] [H11] [H12]
  · ipureintro
    rw [View.readAt_full arg7.view f7, View.readAt_full arg8.view f8, View.readAt_full arg9.view f9]
    rfl
  · iexists _; isplitr; swap; · iexact H7
    ipureintro; rfl
  · iexists _; isplitr; swap; · iexact H8
    ipureintro; rfl
  · iexists _; isplitr; swap; · iexact H9
    ipureintro; rfl
  · iexists _; isplitr; swap; · iexact H10
    ipureintro; rfl
  · iexists _; isplitr; swap; · iexact H11
    ipureintro
    rw [View.read_writes_cons_put arg11.view f11 _ _ _ rfl, put_all11]
    rw [View.readAt_full arg7.view f7, View.readAt_full arg8.view f8, View.readAt_full arg9.view f9, View.readAt_full arg10.view f10]
    rw [View.readAt_full arg11.view]
  · iexists _; isplitr; swap; · iexact H12
    ipureintro
    rfl

end Cert.KernelIdeal.Body

end
-- ==== Proof.BodyI.lean ====
module

public import proofs.«01_k».proof.Proof.Gen.KernelIdeal.Skeleton
public import proofs.«01_k».proof.Proof.GatherI

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Zero, as the kernel writes it. -/
abbrev zf : F .f32 := Scalar.ofBits .f32 0x00000000#32

theorem fill_pad (x0 : Vec F S1x28x28x128 .f32) (d : Vec F S96x3328 .f32) (hd : PadX d) :
    fill x0 78 d = fill x0 78 (fun _ => zf) := by
  funext y
  have h0 : (y 0).val < 96 := (y 0).isLt
  have h1 : (y 1).val < 3328 := (y 1).isLt
  unfold fill
  split
  · rfl
  · rename_i n
    exact hd y (by omega)

theorem padX_fill (x0 : Vec F S1x28x28x128 .f32) (d : Vec F S96x3328 .f32) (hd : PadX d) : PadX (fill x0 78 d) := by
  intro y hy
  unfold fill
  rw [dif_neg (by omega)]
  exact hd y hy

theorem pool_pad (sc : Vec F S416x3328 .f32) (b : Vec F S416x1 .f32) (d : Vec F S13x14x16x128 .f32) (hd : PadS d) :
    pool sc b 13 d = pool sc b 13 (fun _ => zf) := by
  funext y
  have h0 : (y 0).val < 13 := (y 0).isLt
  have h1 : (y 1).val < 14 := (y 1).isLt
  unfold pool
  split
  · rfl
  · rename_i n
    exact hd y (by omega)

theorem padS_pool (sc : Vec F S416x3328 .f32) (b : Vec F S416x1 .f32) (d : Vec F S13x14x16x128 .f32) (hd : PadS d) :
    PadS (pool sc b 13 d) := by
  intro y hy
  unfold pool
  rw [dif_neg (by omega)]
  exact hd y hy

theorem gat_full (s : Vec F S13x14x16x128 .f32) (d : Vec F S288x4224 .f32) : gat s 594 d = gat s 594 (fun _ => zf) := by
  funext y
  have h0 : (y 0).val < 288 := (y 0).isLt
  have h1 : (y 1).val < 4224 := (y 1).isLt
  unfold gat
  rw [if_pos (by omega), if_pos (by omega)]

theorem chan_full (x : Vec F S128x4224 .f32) (d : Vec F S11x12x32x128 .f32) : chan x 33 d = chan x 33 (fun _ => zf) := by
  funext y
  have h0 : (y 0).val < 11 := (y 0).isLt
  have h1 : (y 1).val < 12 := (y 1).isLt
  unfold chan
  rw [if_pos (by omega), if_pos (by omega)]

/-- The first stage of a block of images: convolved, pooled, biased, cut at zero. -/
def stage1 (x0 : Vec F S1x28x28x128 .f32) (w1 : Vec F S416x96 .f32) (b1 : Vec F S416x1 .f32) : Vec F S13x14x16x128 .f32 :=
  pool (k0_pay105 w1 (fill x0 78 (fun _ => zf))) b1 13 (fun _ => zf)

/-- The second convolution of a block, by position. -/
def stage2 (s : Vec F S13x14x16x128 .f32) (w2 : Vec F S128x288 .f32) (b2 : Vec F S128x1 .f32) : Vec F S11x12x32x128 .f32 :=
  chan (k0_pay124 (gat s 594 (fun _ => zf)) w2 b2) 33 (fun _ => zf)

/-- A block's embeddings. -/
def embOf (x0 : Vec F S1x28x28x128 .f32) (w1 : Vec F S416x96 .f32) (b1 : Vec F S416x1 .f32) (w2 : Vec F S128x288 .f32) (b2 : Vec F S128x1 .f32) :
    FVec F S800x128 .f32 := emb (stage2 (stage1 x0 w1 b1) w2 b2)

/-- The bags' weighted sums after a block. -/
def newU (e : FVec F S800x128 .f32) (x6 : Vec F S64x800 .f32) (x7 : Vec F S64x1 .f32) (x8 : Vec F S1x64 .f32) (x9 : Vec F S1x1 .f32)
    (x10 : Vec F S1x1x128 .i32) (u : Vec F S256x800 .f32) : Vec F S256x800 .f32 := k0_pay133 e (k0_pay129 x6) x7 x8 x9 x10 u

/-- The running sums of gates after a block. -/
def newZ (e : FVec F S800x128 .f32) (x6 : Vec F S64x800 .f32) (x7 : Vec F S64x1 .f32) (x8 : Vec F S1x64 .f32) (x9 : Vec F S1x1 .f32)
    (z : Vec F S8x128 .f32) : Vec F S8x128 .f32 :=
  VecWindow.put z ![0, 0] S1x128.size (k0_pay134 e (k0_pay129 x6) x7 x8 x9 (row12 z))

variable (c : Dev nD) (i : grid0.Coords) (arg1 : Memref sig .tc .vmem S1x28x28x128 .f32) (harg1 : arg1.IsWhole) (arg2 : Memref sig .tc .vmem S416x96 .f32) (harg2 : arg2.IsWhole) (arg3 : Memref sig .tc .vmem S416x1 .f32) (harg3 : arg3.IsWhole) (arg4 : Memref sig .tc .vmem S128x288 .f32) (harg4 : arg4.IsWhole) (arg5 : Memref sig .tc .vmem S128x1 .f32) (harg5 : arg5.IsWhole) (arg6 : Memref sig .tc .vmem S64x800 .f32) (harg6 : arg6.IsWhole) (arg7 : Memref sig .tc .vmem S64x1 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x1x128 .i32) (harg10 : arg10.IsWhole) (arg11 : Memref sig .tc .vmem S256x800 .f32) (harg11 : arg11.IsWhole) (arg12 : Memref sig .tc .vmem S8x128 .f32) (harg12 : arg12.IsWhole) (arg13 : Memref sig .tc .vmem S13x14x16x128 .f32) (harg13 : arg13.IsWhole) (arg14 : Memref sig .tc .vmem S288x4224 .f32) (harg14 : arg14.IsWhole) (arg15 : Memref sig .tc .vmem S128x4224 .f32) (harg15 : arg15.IsWhole) (arg16 : Memref sig .tc .vmem S11x12x32x128 .f32) (harg16 : arg16.IsWhole) (arg17 : Memref sig .tc .vmem S96x3328 .f32) (harg17 : arg17.IsWhole) (arg18 : Memref sig .tc .vmem S416x3328 .f32) (harg18 : arg18.IsWhole)

/-- Parts 8 to 21 in a row: tiles 4 to 73 are copied. -/
theorem chunkA (E : Set ℕ) (x1 : Vec F S1x28x28x128 .f32) (d : Vec F S96x3328 .f32) {β : Type}
    (k : Vec F S1x1x28x128 .f32 → Prog (TpuEff nD τ sig (Elt F) Λ₀ .tc) β) (K : β → sProp 𝕄) :
    iprop(owns (c : Thread nD τ) arg1 fullShare (x1) ∗ owns (c : Thread nD τ) arg17 fullShare (fill x1 4 d) ∗ (owns (c : Thread nD τ) arg1 fullShare (x1) -∗ owns (c : Thread nD τ) arg17 fullShare (fill x1 74 d) -∗ wp frame (wpE (defs₀ (F := F)) Variants.none c none) E (k (rowv x1 24 (by decide))) K))
    ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x1 4 (by decide)) >>= fun w8 => (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w8 >>= fun w9 => (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w9 >>= fun w10 => (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w10 >>= fun w11 => (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w11 >>= fun w12 => (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w12 >>= fun w13 => (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w13 >>= fun w14 => (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w14 >>= fun w15 => (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w15 >>= fun w16 => (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w16 >>= fun w17 => (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w17 >>= fun w18 => (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w18 >>= fun w19 => (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w19 >>= fun w20 => (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w20 >>= fun w21 => k w21)))))))))))))) K := by
  iintro ⟨H1, H17, Hk⟩
  rw [wp_bind_eq]
  iapply (part8_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part9_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part10_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part11_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part12_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part13_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part14_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part15_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part16_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part17_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part18_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part19_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part20_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  rw [wp_bind_eq]
  iapply (part21_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d)
  isplitl [H1]; · iexact H1
  isplitl [H17]; · iexact H17
  iintro %v %hv H1 H17
  subst hv
  beta_reduce
  iapply Hk $$ [H1] [H17]
  · iexact H1
  · iexact H17

/-- The last copies, the first convolution, and the first rows of its pooling. -/
theorem chunkB (E : Set ℕ) (x1 : Vec F S1x28x28x128 .f32) (x2 : Vec F S416x96 .f32) (x3 : Vec F S416x1 .f32) (d : Vec F S96x3328 .f32) (d13 : Vec F S13x14x16x128 .f32) (d18 : Vec F S416x3328 .f32) {β : Type}
    (k : (Σ' (v462 : FVec F S416x128 .f32), F .f32) → Prog (TpuEff nD τ sig (Elt F) Λ₀ .tc) β) (K : β → sProp 𝕄) :
    iprop(owns (c : Thread nD τ) arg1 fullShare (x1) ∗ owns (c : Thread nD τ) arg2 fullShare (x2) ∗ owns (c : Thread nD τ) arg3 fullShare (x3) ∗ owns (c : Thread nD τ) arg13 fullShare (d13) ∗ owns (c : Thread nD τ) arg17 fullShare (fill x1 74 d) ∗ owns (c : Thread nD τ) arg18 fullShare (d18) ∗ (owns (c : Thread nD τ) arg1 fullShare (x1) -∗ owns (c : Thread nD τ) arg2 fullShare (x2) -∗ owns (c : Thread nD τ) arg3 fullShare (x3) -∗ owns (c : Thread nD τ) arg13 fullShare (pool (k0_pay105 x2 (fill x1 78 d)) x3 4 d13) -∗ owns (c : Thread nD τ) arg17 fullShare (fill x1 78 d) -∗ owns (c : Thread nD τ) arg18 fullShare ((k0_pay105 x2 (fill x1 78 d))) -∗ wp frame (wpE (defs₀ (F := F)) Variants.none c none) E (k ⟨k0_pay111 (colw (k0_pay105 x2 (fill x1 78 d)) 8 (by decide)) (colw (k0_pay105 x2 (fill x1 78 d)) 9 (by decide)) x3, Scalar.ofBits .f32 0x00000000#32⟩) K))
    ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (rowv x1 24 (by decide)) >>= fun _ => (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun w23 => (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w23 >>= k))) K := by
  iintro ⟨H1, H2, H3, H13, H17, H18, Hk⟩
  rw [wp_bind_eq]
  iapply (part22_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 x2 d d18)
  isplitl [H1]; · iexact H1
  isplitl [H2]; · iexact H2
  isplitl [H17]; · iexact H17
  isplitl [H18]; · iexact H18
  iintro %v H1 H2 H17 H18
  beta_reduce
  rw [← pool_zero (k0_pay105 x2 (fill x1 78 d)) x3 d13]
  rw [wp_bind_eq]
  iapply (part23_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E (k0_pay105 x2 (fill x1 78 d)) x3 d13)
  isplitl [H3]; · iexact H3
  isplitl [H18]; · iexact H18
  isplitl [H13]; · iexact H13
  iintro %v %hv H3 H18 H13
  subst hv
  beta_reduce
  rw [wp_bind_eq]
  iapply (part24_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E (k0_pay105 x2 (fill x1 78 d)) x3 d13)
  isplitl [H3]; · iexact H3
  isplitl [H18]; · iexact H18
  isplitl [H13]; · iexact H13
  iintro %v %hv H3 H18 H13
  subst hv
  beta_reduce
  rw [pool_zero (k0_pay105 x2 (fill x1 78 d)) x3 d13]
  iapply Hk $$ [H1] [H2] [H3] [H13] [H17] [H18]
  · iexact H1
  · iexact H2
  · iexact H3
  · iexact H13
  · iexact H17
  · iexact H18

/-- The other rows of the pooling, the second convolution, and the first of its pooled rows. -/
theorem chunkC (E : Set ℕ) (sc : Vec F S416x3328 .f32) (x3 : Vec F S416x1 .f32) (d : Vec F S13x14x16x128 .f32) (x4 : Vec F S128x288 .f32) (x5 : Vec F S128x1 .f32) (d14 : Vec F S288x4224 .f32) (d15 : Vec F S128x4224 .f32) (d16 : Vec F S11x12x32x128 .f32) {β : Type}
    (k : (Σ' (v605 : FVec F S160x128 .f32), FVec F S5x32x128 .f32) → Prog (TpuEff nD τ sig (Elt F) Λ₀ .tc) β) (K : β → sProp 𝕄) :
    iprop(owns (c : Thread nD τ) arg3 fullShare (x3) ∗ owns (c : Thread nD τ) arg4 fullShare (x4) ∗ owns (c : Thread nD τ) arg5 fullShare (x5) ∗ owns (c : Thread nD τ) arg13 fullShare (pool sc x3 4 d) ∗ owns (c : Thread nD τ) arg14 fullShare (d14) ∗ owns (c : Thread nD τ) arg15 fullShare (d15) ∗ owns (c : Thread nD τ) arg16 fullShare (d16) ∗ owns (c : Thread nD τ) arg18 fullShare (sc) ∗ (owns (c : Thread nD τ) arg3 fullShare (x3) -∗ owns (c : Thread nD τ) arg4 fullShare (x4) -∗ owns (c : Thread nD τ) arg5 fullShare (x5) -∗ owns (c : Thread nD τ) arg13 fullShare (pool sc x3 13 d) -∗ owns (c : Thread nD τ) arg14 fullShare (gat (pool sc x3 13 d) 594 d14) -∗ owns (c : Thread nD τ) arg15 fullShare (k0_pay124 (gat (pool sc x3 13 d) 594 d14) x4 x5) -∗ owns (c : Thread nD τ) arg16 fullShare ((chan (k0_pay124 (gat (pool sc x3 13 d) 594 d14) x4 x5) 33 d16)) -∗ owns (c : Thread nD τ) arg18 fullShare (sc) -∗ wp frame (wpE (defs₀ (F := F)) Variants.none c none) E (k ⟨k0_pay126 (row16 (chan (k0_pay124 (gat (pool sc x3 13 d) 594 d14) x4 x5) 33 d16) 0 (by decide)) (row16 (chan (k0_pay124 (gat (pool sc x3 13 d) 594 d14) x4 x5) 33 d16) 1 (by decide)), k0_pay127 (row16 (chan (k0_pay124 (gat (pool sc x3 13 d) 594 d14) x4 x5) 33 d16) 2 (by decide)) (row16 (chan (k0_pay124 (gat (pool sc x3 13 d) 594 d14) x4 x5) 33 d16) 3 (by decide))⟩) K))
    ⊢ wp frame (wpE (defs₀ (F := F)) Variants.none c none) E (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay111 (colw sc 8 (by decide)) (colw sc 9 (by decide)) x3) (Scalar.ofBits .f32 0x00000000#32) >>= fun w25 => (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w25 >>= fun w26 => (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w26 >>= fun w27 => (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w27 >>= fun w28 => (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 w28 >>= k))))) K := by
  iintro ⟨H3, H4, H5, H13, H14, H15, H16, H18, Hk⟩
  rw [wp_bind_eq]
  iapply (part25_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E sc x3 d)
  isplitl [H3]; · iexact H3
  isplitl [H18]; · iexact H18
  isplitl [H13]; · iexact H13
  iintro %v %hv H3 H18 H13
  subst hv
  beta_reduce
  rw [wp_bind_eq]
  iapply (part26_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E sc x3 d)
  isplitl [H3]; · iexact H3
  isplitl [H18]; · iexact H18
  isplitl [H13]; · iexact H13
  iintro %v %hv H3 H18 H13
  subst hv
  beta_reduce
  rw [wp_bind_eq]
  iapply (part27_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E sc x3 d)
  isplitl [H3]; · iexact H3
  isplitl [H18]; · iexact H18
  isplitl [H13]; · iexact H13
  iintro %v %hv H3 H18 H13
  subst hv
  beta_reduce
  rw [wp_bind_eq]
  iapply (part28_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E sc x3 d d14)
  isplitl [H3]; · iexact H3
  isplitl [H18]; · iexact H18
  isplitl [H13]; · iexact H13
  isplitl [H14]; · iexact H14
  iintro %v %hv H3 H18 H13 H14
  subst hv
  beta_reduce
  rw [wp_bind_eq]
  iapply (part29_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E _ x4 x5 d15 d16)
  isplitl [H4]; · iexact H4
  isplitl [H5]; · iexact H5
  isplitl [H15]; · iexact H15
  isplitl [H16]; · iexact H16
  iintro %v %hv H4 H5 H15 H16
  subst hv
  beta_reduce
  iapply Hk $$ [H3] [H4] [H5] [H13] [H14] [H15] [H16] [H18]
  · iexact H3
  · iexact H4
  · iexact H5
  · iexact H13
  · iexact H14
  · iexact H15
  · iexact H16
  · iexact H18

/-- The padding and the first copies, at first point. -/
theorem chunk7_first (E : Set ℕ) (hc : first i) (x1 : Vec F S1x28x28x128 .f32) (d13 : Vec F S13x14x16x128 .f32) (d17 : Vec F S96x3328 .f32) {β : Type}
    (k : (Σ' (arg0 : BitVec 32), Vec F S1x1x28x128 .f32) → Prog (TpuEff nD τ sig (Elt F) Λ₀ .tc) β) (K : β → sProp 𝕄) :
    iprop(owns (c : Thread nD τ) arg1 fullShare (x1) ∗ owns (c : Thread nD τ) arg13 fullShare (d13) ∗ owns (c : Thread nD τ) arg17 fullShare (d17) ∗ (owns (c : Thread nD τ) arg1 fullShare (x1) -∗ owns (c : Thread nD τ) arg13 fullShare ((pad13 d13)) -∗ owns (c : Thread nD τ) arg17 fullShare (fill x1 4 (pad17 d17)) -∗ wp frame (wpE (defs₀ (F := F)) Variants.none c none) E (k ⟨BitVec.ofNat 32 (i 0).val, rowv x1 4 (by decide)⟩) K))
    ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= k) K := by
  iintro ⟨H1, H13, H17, Hk⟩
  rw [wp_bind_eq]
  iapply (part7_first (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc x1 d13 d17)
  isplitl [H1]; · iexact H1
  isplitl [H13]; · iexact H13
  isplitl [H17]; · iexact H17
  iintro %v %hv H1 H13 H17
  subst hv
  beta_reduce
  iapply Hk $$ [H1] [H13] [H17]
  · iexact H1
  · iexact H13
  · iexact H17

/-- Attention and the bags, at first point. -/
theorem chunk31_first (E : Set ℕ) (hc : first i) (e : FVec F S800x128 .f32) (aw : FVec F S64x800 .f32) (x7 : Vec F S64x1 .f32) (x8 : Vec F S1x64 .f32) (x9 : Vec F S1x1 .f32) (x10 : Vec F S1x1x128 .i32) (u : Vec F S256x800 .f32) (z : Vec F S8x128 .f32) {β : Type}
    (k : FVec F S1x128 .f32 → Prog (TpuEff nD τ sig (Elt F) Λ₀ .tc) β) (K : β → sProp 𝕄) :
    iprop(owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (u) ∗ owns (c : Thread nD τ) arg12 fullShare (z) ∗ (owns (c : Thread nD τ) arg7 fullShare (x7) -∗ owns (c : Thread nD τ) arg8 fullShare (x8) -∗ owns (c : Thread nD τ) arg9 fullShare (x9) -∗ owns (c : Thread nD τ) arg10 fullShare (x10) -∗ owns (c : Thread nD τ) arg11 fullShare (k0_pay133 e aw x7 x8 x9 x10 (k0_pay131)) -∗ owns (c : Thread nD τ) arg12 fullShare (k0_pay132) -∗ wp frame (wpE (defs₀ (F := F)) Variants.none c none) E (k (k0_pay134 e aw x7 x8 x9 (row12 (k0_pay132)))) K))
    ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) e aw >>= k) K := by
  iintro ⟨H7, H8, H9, H10, H11, H12, Hk⟩
  rw [wp_bind_eq]
  iapply (part31_first (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc e aw x7 x8 x9 x10 u z)
  isplitl [H7]; · iexact H7
  isplitl [H8]; · iexact H8
  isplitl [H9]; · iexact H9
  isplitl [H10]; · iexact H10
  isplitl [H11]; · iexact H11
  isplitl [H12]; · iexact H12
  iintro %v %hv H7 H8 H9 H10 H11 H12
  subst hv
  beta_reduce
  iapply Hk $$ [H7] [H8] [H9] [H10] [H11] [H12]
  · iexact H7
  · iexact H8
  · iexact H9
  · iexact H10
  · iexact H11
  · iexact H12

/-- The padding and the first copies, at later point. -/
theorem chunk7_later (E : Set ℕ) (hc : ¬ first i) (x1 : Vec F S1x28x28x128 .f32) (d13 : Vec F S13x14x16x128 .f32) (d17 : Vec F S96x3328 .f32) {β : Type}
    (k : (Σ' (arg0 : BitVec 32), Vec F S1x1x28x128 .f32) → Prog (TpuEff nD τ sig (Elt F) Λ₀ .tc) β) (K : β → sProp 𝕄) :
    iprop(owns (c : Thread nD τ) arg1 fullShare (x1) ∗ owns (c : Thread nD τ) arg13 fullShare (d13) ∗ owns (c : Thread nD τ) arg17 fullShare (d17) ∗ (owns (c : Thread nD τ) arg1 fullShare (x1) -∗ owns (c : Thread nD τ) arg13 fullShare (d13) -∗ owns (c : Thread nD τ) arg17 fullShare (fill x1 4 d17) -∗ wp frame (wpE (defs₀ (F := F)) Variants.none c none) E (k ⟨BitVec.ofNat 32 (i 0).val, rowv x1 4 (by decide)⟩) K))
    ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= k) K := by
  iintro ⟨H1, H13, H17, Hk⟩
  rw [wp_bind_eq]
  iapply (part7_later (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc x1 d13 d17)
  isplitl [H1]; · iexact H1
  isplitl [H13]; · iexact H13
  isplitl [H17]; · iexact H17
  iintro %v %hv H1 H13 H17
  subst hv
  beta_reduce
  iapply Hk $$ [H1] [H13] [H17]
  · iexact H1
  · iexact H13
  · iexact H17

/-- Attention and the bags, at later point. -/
theorem chunk31_later (E : Set ℕ) (hc : ¬ first i) (e : FVec F S800x128 .f32) (aw : FVec F S64x800 .f32) (x7 : Vec F S64x1 .f32) (x8 : Vec F S1x64 .f32) (x9 : Vec F S1x1 .f32) (x10 : Vec F S1x1x128 .i32) (u : Vec F S256x800 .f32) (z : Vec F S8x128 .f32) {β : Type}
    (k : FVec F S1x128 .f32 → Prog (TpuEff nD τ sig (Elt F) Λ₀ .tc) β) (K : β → sProp 𝕄) :
    iprop(owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (u) ∗ owns (c : Thread nD τ) arg12 fullShare (z) ∗ (owns (c : Thread nD τ) arg7 fullShare (x7) -∗ owns (c : Thread nD τ) arg8 fullShare (x8) -∗ owns (c : Thread nD τ) arg9 fullShare (x9) -∗ owns (c : Thread nD τ) arg10 fullShare (x10) -∗ owns (c : Thread nD τ) arg11 fullShare (k0_pay133 e aw x7 x8 x9 x10 (u)) -∗ owns (c : Thread nD τ) arg12 fullShare (z) -∗ wp frame (wpE (defs₀ (F := F)) Variants.none c none) E (k (k0_pay134 e aw x7 x8 x9 (row12 (z)))) K))
    ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) e aw >>= k) K := by
  iintro ⟨H7, H8, H9, H10, H11, H12, Hk⟩
  rw [wp_bind_eq]
  iapply (part31_later (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc e aw x7 x8 x9 x10 u z)
  isplitl [H7]; · iexact H7
  isplitl [H8]; · iexact H8
  isplitl [H9]; · iexact H9
  isplitl [H10]; · iexact H10
  isplitl [H11]; · iexact H11
  isplitl [H12]; · iexact H12
  iintro %v %hv H7 H8 H9 H10 H11 H12
  subst hv
  beta_reduce
  iapply Hk $$ [H7] [H8] [H9] [H10] [H11] [H12]
  · iexact H7
  · iexact H8
  · iexact H9
  · iexact H10
  · iexact H11
  · iexact H12

/-- The other pooled rows. -/
theorem chunk30 (E : Set ℕ) (x16 : Vec F S11x12x32x128 .f32) (w : Vec F S64x800 .f32) {β : Type}
    (k : (Σ' (v642 : FVec F S800x128 .f32), FVec F S64x800 .f32) → Prog (TpuEff nD τ sig (Elt F) Λ₀ .tc) β) (K : β → sProp 𝕄) :
    iprop(owns (c : Thread nD τ) arg16 fullShare (x16) ∗ owns (c : Thread nD τ) arg6 fullShare (w) ∗ (owns (c : Thread nD τ) arg16 fullShare (x16) -∗ owns (c : Thread nD τ) arg6 fullShare (w) -∗ wp frame (wpE (defs₀ (F := F)) Variants.none c none) E (k ⟨emb x16, k0_pay129 w⟩) K))
    ⊢ wp frame (wpE (defs₀ (F := F)) Variants.none c none) E (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay126 (row16 x16 0 (by decide)) (row16 x16 1 (by decide))) (k0_pay127 (row16 x16 2 (by decide)) (row16 x16 3 (by decide))) >>= k) K := by
  iintro ⟨H16, H6, Hk⟩
  rw [wp_bind_eq]
  iapply (part30_run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x16 w)
  isplitl [H16]; · iexact H16
  isplitl [H6]; · iexact H6
  iintro %v %hv H16 H6
  subst hv
  beta_reduce
  iapply Hk $$ [H16] [H6]
  · iexact H16
  · iexact H6

set_option maxHeartbeats 400000 in
/-- The body at the first grid point: the bags' weighted sums and the sums of gates one block further, the padding kept clear. -/
theorem body_first (E : Set ℕ) (hc : first i)  (x1 : Vec F S1x28x28x128 .f32) (x2 : Vec F S416x96 .f32) (x3 : Vec F S416x1 .f32) (x4 : Vec F S128x288 .f32) (x5 : Vec F S128x1 .f32) (x6 : Vec F S64x800 .f32) (x7 : Vec F S64x1 .f32) (x8 : Vec F S1x64 .f32) (x9 : Vec F S1x1 .f32) (x10 : Vec F S1x1x128 .i32) (x11 : Vec F S256x800 .f32) (x12 : Vec F S8x128 .f32) (d13 : Vec F S13x14x16x128 .f32) (d14 : Vec F S288x4224 .f32) (d15 : Vec F S128x4224 .f32) (d16 : Vec F S11x12x32x128 .f32) (d17 : Vec F S96x3328 .f32) (d18 : Vec F S416x3328 .f32)
    (K : PUnit → sProp 𝕄) :
    iprop(owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (d13) ∗ owns (c : Thread nD τ) arg14 fullShare (d14) ∗ owns (c : Thread nD τ) arg15 fullShare (d15) ∗ owns (c : Thread nD τ) arg16 fullShare (d16) ∗ owns (c : Thread nD τ) arg17 fullShare (d17) ∗ owns (c : Thread nD τ) arg18 fullShare (d18) ∗ (owns (c : Thread nD τ) arg1 fullShare (x1) -∗ owns (c : Thread nD τ) arg2 fullShare (x2) -∗ owns (c : Thread nD τ) arg3 fullShare (x3) -∗ owns (c : Thread nD τ) arg4 fullShare (x4) -∗ owns (c : Thread nD τ) arg5 fullShare (x5) -∗ owns (c : Thread nD τ) arg6 fullShare (x6) -∗ owns (c : Thread nD τ) arg7 fullShare (x7) -∗ owns (c : Thread nD τ) arg8 fullShare (x8) -∗ owns (c : Thread nD τ) arg9 fullShare (x9) -∗ owns (c : Thread nD τ) arg10 fullShare (x10) -∗ owns (c : Thread nD τ) arg11 fullShare (newU (embOf x1 x2 x3 x4 x5) x6 x7 x8 x9 x10 (k0_pay131)) -∗ owns (c : Thread nD τ) arg12 fullShare (newZ (embOf x1 x2 x3 x4 x5) x6 x7 x8 x9 (k0_pay132)) -∗ (∃ d, ⌜PadS d⌝ ∗ owns (c : Thread nD τ) arg13 fullShare d) -∗ (∃ d, owns (c : Thread nD τ) arg14 fullShare d) -∗ (∃ d, owns (c : Thread nD τ) arg15 fullShare d) -∗ (∃ d, owns (c : Thread nD τ) arg16 fullShare d) -∗ (∃ d, ⌜PadX d⌝ ∗ owns (c : Thread nD τ) arg17 fullShare d) -∗ (∃ d, owns (c : Thread nD τ) arg18 fullShare d) -∗ K PUnit.unit))
    ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h13 := pad13_padS d13
  have h17 := pad17_padX d17
  simp only [cc0__k1_body_eq_skeleton]; unfold cc0__k1_body_skel
  iintro ⟨H1, H2, H3, H4, H5, H6, H7, H8, H9, H10, H11, H12, H13, H14, H15, H16, H17, H18, Hk⟩
  iapply (chunk7_first (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc x1 d13 d17)
  isplitl [H1]; · iexact H1
  isplitl [H13]; · iexact H13
  isplitl [H17]; · iexact H17
  iintro H1 H13 H17
  dsimp only
  iapply (chunkA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 (pad17 d17))
  isplitl [H1]; · iexact H1
  isplitl [H17]; · iexact H17
  iintro H1 H17
  iapply (chunkB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 x2 x3 (pad17 d17) (pad13 d13) d18)
  isplitl [H1]; · iexact H1
  isplitl [H2]; · iexact H2
  isplitl [H3]; · iexact H3
  isplitl [H13]; · iexact H13
  isplitl [H17]; · iexact H17
  isplitl [H18]; · iexact H18
  iintro H1 H2 H3 H13 H17 H18
  dsimp only
  rw [fill_pad x1 _ h17]
  generalize hsc : (k0_pay105 x2 (fill x1 78 fun _ => zf)) = sc
  iapply (chunkC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E sc x3 (pad13 d13) x4 x5 d14 d15 d16)
  isplitl [H3]; · iexact H3
  isplitl [H4]; · iexact H4
  isplitl [H5]; · iexact H5
  isplitl [H13]; · iexact H13
  isplitl [H14]; · iexact H14
  isplitl [H15]; · iexact H15
  isplitl [H16]; · iexact H16
  isplitl [H18]; · iexact H18
  iintro H3 H4 H5 H13 H14 H15 H16 H18
  dsimp only
  rw [pool_pad sc x3 _ h13, gat_full, chan_full]
  generalize hs : pool sc x3 13 (fun _ => zf) = s
  generalize hx : chan (k0_pay124 (gat s 594 (fun _ => zf)) x4 x5) 33 (fun _ => zf) = x16
  iapply (chunk30 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x16 x6)
  isplitl [H16]; · iexact H16
  isplitl [H6]; · iexact H6
  iintro H16 H6
  dsimp only
  iapply (chunk31_first (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc (emb x16) (k0_pay129 x6) x7 x8 x9 x10 x11 x12)
  isplitl [H7]; · iexact H7
  isplitl [H8]; · iexact H8
  isplitl [H9]; · iexact H9
  isplitl [H10]; · iexact H10
  isplitl [H11]; · iexact H11
  isplitl [H12]; · iexact H12
  iintro H7 H8 H9 H10 H11 H12
  have he : embOf x1 x2 x3 x4 x5 = emb x16 := by unfold embOf stage1 stage2; rw [hsc, hs, hx]
  unfold owns
  icases H12 with ⟨%f12, %hf12, H12⟩
  sl_exec
  sl_step
  iapply Hk $$ [H1] [H2] [H3] [H4] [H5] [H6] [H7] [H8] [H9] [H10] [H11] [H12] [H13] [H14] [H15] [H16] [H17] [H18]
  · iexact H1
  · iexact H2
  · iexact H3
  · iexact H4
  · iexact H5
  · iexact H6
  · iexact H7
  · iexact H8
  · iexact H9
  · iexact H10
  · rw [he]; iexact H11
  · iexists _; isplitr; swap; · iexact H12
    ipureintro
    rw [View.read_writes_cons_put arg12.view f12 _ _ [] rfl, he]
    unfold newZ
    rw [← hf12]
    rfl
  · iexists _
    isplitr; swap; · iexact H13
    ipureintro; rw [← hs]; exact padS_pool _ _ _ (fun _ _ => rfl)
  · iexists _; iexact H14
  · iexists _; iexact H15
  · iexists _; iexact H16
  · iexists _
    isplitr; swap; · iexact H17
    ipureintro; exact padX_fill _ _ (fun _ _ => rfl)
  · iexists _; iexact H18

set_option maxHeartbeats 400000 in
/-- The body at a later grid point: the bags' weighted sums and the sums of gates one block further, the padding kept clear. -/
theorem body_later (E : Set ℕ) (hc : ¬ first i)  (x1 : Vec F S1x28x28x128 .f32) (x2 : Vec F S416x96 .f32) (x3 : Vec F S416x1 .f32) (x4 : Vec F S128x288 .f32) (x5 : Vec F S128x1 .f32) (x6 : Vec F S64x800 .f32) (x7 : Vec F S64x1 .f32) (x8 : Vec F S1x64 .f32) (x9 : Vec F S1x1 .f32) (x10 : Vec F S1x1x128 .i32) (x11 : Vec F S256x800 .f32) (x12 : Vec F S8x128 .f32) (d13 : Vec F S13x14x16x128 .f32) (d14 : Vec F S288x4224 .f32) (d15 : Vec F S128x4224 .f32) (d16 : Vec F S11x12x32x128 .f32) (d17 : Vec F S96x3328 .f32) (d18 : Vec F S416x3328 .f32) (h13 : PadS d13) (h17 : PadX d17)
    (K : PUnit → sProp 𝕄) :
    iprop(owns (c : Thread nD τ) arg1 fullShare (x1) ∗ owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg11 fullShare (x11) ∗ owns (c : Thread nD τ) arg12 fullShare (x12) ∗ owns (c : Thread nD τ) arg13 fullShare (d13) ∗ owns (c : Thread nD τ) arg14 fullShare (d14) ∗ owns (c : Thread nD τ) arg15 fullShare (d15) ∗ owns (c : Thread nD τ) arg16 fullShare (d16) ∗ owns (c : Thread nD τ) arg17 fullShare (d17) ∗ owns (c : Thread nD τ) arg18 fullShare (d18) ∗ (owns (c : Thread nD τ) arg1 fullShare (x1) -∗ owns (c : Thread nD τ) arg2 fullShare (x2) -∗ owns (c : Thread nD τ) arg3 fullShare (x3) -∗ owns (c : Thread nD τ) arg4 fullShare (x4) -∗ owns (c : Thread nD τ) arg5 fullShare (x5) -∗ owns (c : Thread nD τ) arg6 fullShare (x6) -∗ owns (c : Thread nD τ) arg7 fullShare (x7) -∗ owns (c : Thread nD τ) arg8 fullShare (x8) -∗ owns (c : Thread nD τ) arg9 fullShare (x9) -∗ owns (c : Thread nD τ) arg10 fullShare (x10) -∗ owns (c : Thread nD τ) arg11 fullShare (newU (embOf x1 x2 x3 x4 x5) x6 x7 x8 x9 x10 (x11)) -∗ owns (c : Thread nD τ) arg12 fullShare (newZ (embOf x1 x2 x3 x4 x5) x6 x7 x8 x9 (x12)) -∗ (∃ d, ⌜PadS d⌝ ∗ owns (c : Thread nD τ) arg13 fullShare d) -∗ (∃ d, owns (c : Thread nD τ) arg14 fullShare d) -∗ (∃ d, owns (c : Thread nD τ) arg15 fullShare d) -∗ (∃ d, owns (c : Thread nD τ) arg16 fullShare d) -∗ (∃ d, ⌜PadX d⌝ ∗ owns (c : Thread nD τ) arg17 fullShare d) -∗ (∃ d, owns (c : Thread nD τ) arg18 fullShare d) -∗ K PUnit.unit))
    ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__k1_body_eq_skeleton]; unfold cc0__k1_body_skel
  iintro ⟨H1, H2, H3, H4, H5, H6, H7, H8, H9, H10, H11, H12, H13, H14, H15, H16, H17, H18, Hk⟩
  iapply (chunk7_later (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc x1 d13 d17)
  isplitl [H1]; · iexact H1
  isplitl [H13]; · iexact H13
  isplitl [H17]; · iexact H17
  iintro H1 H13 H17
  dsimp only
  iapply (chunkA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 d17)
  isplitl [H1]; · iexact H1
  isplitl [H17]; · iexact H17
  iintro H1 H17
  iapply (chunkB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x1 x2 x3 d17 d13 d18)
  isplitl [H1]; · iexact H1
  isplitl [H2]; · iexact H2
  isplitl [H3]; · iexact H3
  isplitl [H13]; · iexact H13
  isplitl [H17]; · iexact H17
  isplitl [H18]; · iexact H18
  iintro H1 H2 H3 H13 H17 H18
  dsimp only
  rw [fill_pad x1 _ h17]
  generalize hsc : (k0_pay105 x2 (fill x1 78 fun _ => zf)) = sc
  iapply (chunkC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E sc x3 d13 x4 x5 d14 d15 d16)
  isplitl [H3]; · iexact H3
  isplitl [H4]; · iexact H4
  isplitl [H5]; · iexact H5
  isplitl [H13]; · iexact H13
  isplitl [H14]; · iexact H14
  isplitl [H15]; · iexact H15
  isplitl [H16]; · iexact H16
  isplitl [H18]; · iexact H18
  iintro H3 H4 H5 H13 H14 H15 H16 H18
  dsimp only
  rw [pool_pad sc x3 _ h13, gat_full, chan_full]
  generalize hs : pool sc x3 13 (fun _ => zf) = s
  generalize hx : chan (k0_pay124 (gat s 594 (fun _ => zf)) x4 x5) 33 (fun _ => zf) = x16
  iapply (chunk30 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E x16 x6)
  isplitl [H16]; · iexact H16
  isplitl [H6]; · iexact H6
  iintro H16 H6
  dsimp only
  iapply (chunk31_later (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 E hc (emb x16) (k0_pay129 x6) x7 x8 x9 x10 x11 x12)
  isplitl [H7]; · iexact H7
  isplitl [H8]; · iexact H8
  isplitl [H9]; · iexact H9
  isplitl [H10]; · iexact H10
  isplitl [H11]; · iexact H11
  isplitl [H12]; · iexact H12
  iintro H7 H8 H9 H10 H11 H12
  have he : embOf x1 x2 x3 x4 x5 = emb x16 := by unfold embOf stage1 stage2; rw [hsc, hs, hx]
  unfold owns
  icases H12 with ⟨%f12, %hf12, H12⟩
  sl_exec
  sl_step
  iapply Hk $$ [H1] [H2] [H3] [H4] [H5] [H6] [H7] [H8] [H9] [H10] [H11] [H12] [H13] [H14] [H15] [H16] [H17] [H18]
  · iexact H1
  · iexact H2
  · iexact H3
  · iexact H4
  · iexact H5
  · iexact H6
  · iexact H7
  · iexact H8
  · iexact H9
  · iexact H10
  · rw [he]; iexact H11
  · iexists _; isplitr; swap; · iexact H12
    ipureintro
    rw [View.read_writes_cons_put arg12.view f12 _ _ [] rfl, he]
    unfold newZ
    rw [← hf12]
    rfl
  · iexists _
    isplitr; swap; · iexact H13
    ipureintro; rw [← hs]; exact padS_pool _ _ _ (fun _ _ => rfl)
  · iexists _; iexact H14
  · iexists _; iexact H15
  · iexists _; iexact H16
  · iexists _
    isplitr; swap; · iexact H17
    ipureintro; exact padX_fill _ _ (fun _ _ => rfl)
  · iexists _; iexact H18

end Cert.KernelIdeal.Body

end
-- ==== Proof.HeadI.lean ====
module

public import proofs.«01_k».proof.Proof.Gen.KernelIdeal.Skeleton
public import proofs.«01_k».proof.Proof.BodyI
public import proofs.«01_k».proof.Proof.Gen.KernelIdeal.Regions
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg cellOf)
open Cert.KernelIdeal.Gen

variable {F : FTy → Type} [FloatOps F]

local notation "𝕄" => MT nD τ sig Unit (Elt F) ℕ (UR sig nD τ) ℕ

/-- The bag classifier's result, from what its ten operands hold. -/
def headv (y0 : Vec F S256x800 .f32) (y1 : Vec F S8x128 .f32) (y2 : Vec F S800x64 .f32) (y3 : Vec F S1x64 .f32) (y4 : Vec F S64x1 .f32) (y5 : Vec F S1x1 .f32) (y6 : Vec F S800x128 .f32) (y7 : Vec F S1x128 .f32) (y8 : Vec F S128x1 .f32) (y9 : Vec F S1x1 .f32) : FVec F S8x128 .f32 :=
  k1_pay1 (k1_pay2 y0 y1 y2 y3 y4 y5 y6) y7 y8 y9

/-- The second kernel's body: its result's block at `headv`, the operands' as they were. -/
theorem head_run (c : Dev nD) (arg0 : Memref sig .tc .vmem S256x800 .f32) (harg0 : arg0.IsWhole) (arg1 : Memref sig .tc .vmem S8x128 .f32) (harg1 : arg1.IsWhole) (arg2 : Memref sig .tc .vmem S800x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S800x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S8x128 .f32) (harg10 : arg10.IsWhole) (E : Set ℕ) (y0 : Vec F S256x800 .f32) (y1 : Vec F S8x128 .f32) (y2 : Vec F S800x64 .f32) (y3 : Vec F S1x64 .f32) (y4 : Vec F S64x1 .f32) (y5 : Vec F S1x1 .f32) (y6 : Vec F S800x128 .f32) (y7 : Vec F S1x128 .f32) (y8 : Vec F S128x1 .f32) (y9 : Vec F S1x1 .f32) (d : Vec F S8x128 .f32) (K : PUnit → sProp 𝕄) :
    iprop(owns (c : Thread nD τ) arg0 fullShare y0 ∗ owns (c : Thread nD τ) arg1 fullShare y1 ∗ owns (c : Thread nD τ) arg2 fullShare y2 ∗ owns (c : Thread nD τ) arg3 fullShare y3 ∗ owns (c : Thread nD τ) arg4 fullShare y4 ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare d ∗ (owns (c : Thread nD τ) arg0 fullShare y0 -∗ owns (c : Thread nD τ) arg1 fullShare y1 -∗ owns (c : Thread nD τ) arg2 fullShare y2 -∗ owns (c : Thread nD τ) arg3 fullShare y3 -∗ owns (c : Thread nD τ) arg4 fullShare y4 -∗ owns (c : Thread nD τ) arg5 fullShare y5 -∗ owns (c : Thread nD τ) arg6 fullShare y6 -∗ owns (c : Thread nD τ) arg7 fullShare y7 -∗ owns (c : Thread nD τ) arg8 fullShare y8 -∗ owns (c : Thread nD τ) arg9 fullShare y9 -∗ owns (c : Thread nD τ) arg10 fullShare (headv y0 y1 y2 y3 y4 y5 y6 y7 y8 y9) -∗ K PUnit.unit))
    ⊢ wp frame (wpE (defs₀ (F := F)) Variants.none c none) E (cc1__k3_body arg0 harg0 arg1 harg1 arg2 harg2 arg3 harg3 arg4 harg4 arg5 harg5 arg6 harg6 arg7 harg7 arg8 harg8 arg9 harg9 arg10 harg10) K := by
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, Hk⟩
  subst h0 h1 h2 h3 h4 h5 h6 h7 h8 h9
  simp only [cc1__k3_body_eq_skeleton]; unfold cc1__k3_body_skel
  simp only [k1_part1_eq_skeleton]; unfold k1_part1_skel
  sl_exec
  sl_step
  iapply Hk $$ [H0] [H1] [H2] [H3] [H4] [H5] [H6] [H7] [H8] [H9] [H10]
  · iexists _; isplitr; swap; (· iexact H0); ipureintro; rfl
  · iexists _; isplitr; swap; (· iexact H1); ipureintro; rfl
  · iexists _; isplitr; swap; (· iexact H2); ipureintro; rfl
  · iexists _; isplitr; swap; (· iexact H3); ipureintro; rfl
  · iexists _; isplitr; swap; (· iexact H4); ipureintro; rfl
  · iexists _; isplitr; swap; (· iexact H5); ipureintro; rfl
  · iexists _; isplitr; swap; (· iexact H6); ipureintro; rfl
  · iexists _; isplitr; swap; (· iexact H7); ipureintro; rfl
  · iexists _; isplitr; swap; (· iexact H8); ipureintro; rfl
  · iexists _; isplitr; swap; (· iexact H9); ipureintro; rfl
  · iexists _
    isplitr; swap; · iexact H10
    ipureintro
    refine (View.read_writes_full arg10.view f10 _ _ []).trans ?_
    show k1_pay1 (k1_pay2 _ _ _ _ _ _ _) _ _ _ = _
    rw [View.readAt_full arg0.view f0, View.readAt_full arg1.view f1, View.readAt_full arg2.view f2, View.readAt_full arg3.view f3, View.readAt_full arg4.view f4, View.readAt_full arg5.view f5, View.readAt_full arg6.view f6, View.readAt_full arg7.view f7]
    exact congrArg₂ (k1_pay1 _ _) (View.readAt_full arg8.view f8 _) (View.readAt_full arg9.view f9 _)

/-! ## The first kernel's grid -/

variable (V : Dev nD → Valuation τ sig (Elt F))

/-- Window `w`'s block at grid point `t`: its part of what the array holds when the region is entered. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings of the block of images at point `t`. -/
def eAt (c : Dev nD) (t : Fin cfg0.N) : FVec F S800x128 .f32 :=
  embOf (iblk V c 0 t) (iblk V c 1 t) (iblk V c 2 t) (iblk V c 3 t) (iblk V c 4 t)

/-- The bags' weighted sums after point `n`. -/
def uAt (c : Dev nD) : (n : ℕ) → n < cfg0.N → Vec F S256x800 .f32
  | 0, h => newU (eAt V c ⟨0, h⟩) (iblk V c 5 ⟨0, h⟩) (iblk V c 6 ⟨0, h⟩) (iblk V c 7 ⟨0, h⟩) (iblk V c 8 ⟨0, h⟩) (iblk V c 9 ⟨0, h⟩) k0_pay131
  | n + 1, h => newU (eAt V c ⟨n + 1, h⟩) (iblk V c 5 ⟨n + 1, h⟩) (iblk V c 6 ⟨n + 1, h⟩) (iblk V c 7 ⟨n + 1, h⟩) (iblk V c 8 ⟨n + 1, h⟩) (iblk V c 9 ⟨n + 1, h⟩)
      (uAt c n (Nat.lt_of_succ_lt h))

/-- The running sums of gates after point `n`. -/
def zAt (c : Dev nD) : (n : ℕ) → n < cfg0.N → Vec F S8x128 .f32
  | 0, h => newZ (eAt V c ⟨0, h⟩) (iblk V c 5 ⟨0, h⟩) (iblk V c 6 ⟨0, h⟩) (iblk V c 7 ⟨0, h⟩) (iblk V c 8 ⟨0, h⟩) k0_pay132
  | n + 1, h => newZ (eAt V c ⟨n + 1, h⟩) (iblk V c 5 ⟨n + 1, h⟩) (iblk V c 6 ⟨n + 1, h⟩) (iblk V c 7 ⟨n + 1, h⟩) (iblk V c 8 ⟨n + 1, h⟩)
      (zAt c n (Nat.lt_of_succ_lt h))

theorem uAt_first (c : Dev nD) (t : Fin cfg0.N) (h : t.val = 0) :
    uAt V c t.val t.isLt = newU (eAt V c t) (iblk V c 5 t) (iblk V c 6 t) (iblk V c 7 t) (iblk V c 8 t) (iblk V c 9 t) k0_pay131 := by
  obtain ⟨n, hn⟩ := t
  cases n with
  | zero => rfl
  | succ n => exact absurd h (Nat.succ_ne_zero n)

theorem uAt_later (c : Dev nD) (t : Fin cfg0.N) (h : t.val ≠ 0) :
    uAt V c t.val t.isLt = newU (eAt V c t) (iblk V c 5 t) (iblk V c 6 t) (iblk V c 7 t) (iblk V c 8 t) (iblk V c 9 t)
      (uAt V c (t.val - 1) (by have := t.isLt; omega)) := by
  obtain ⟨n, hn⟩ := t
  cases n with
  | zero => exact absurd rfl h
  | succ n => rfl

theorem zAt_first (c : Dev nD) (t : Fin cfg0.N) (h : t.val = 0) :
    zAt V c t.val t.isLt = newZ (eAt V c t) (iblk V c 5 t) (iblk V c 6 t) (iblk V c 7 t) (iblk V c 8 t) k0_pay132 := by
  obtain ⟨n, hn⟩ := t
  cases n with
  | zero => rfl
  | succ n => exact absurd h (Nat.succ_ne_zero n)

theorem zAt_later (c : Dev nD) (t : Fin cfg0.N) (h : t.val ≠ 0) :
    zAt V c t.val t.isLt = newZ (eAt V c t) (iblk V c 5 t) (iblk V c 6 t) (iblk V c 7 t) (iblk V c 8 t)
      (zAt V c (t.val - 1) (by have := t.isLt; omega)) := by
  obtain ⟨n, hn⟩ := t
  cases n with
  | zero => exact absurd rfl h
  | succ n => rfl

/-- The second kernel's staging buffers, at something: the first kernel leaves them alone. -/
def Rest (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f))

/-- What the first kernel may use beside its windows, its six scratch buffers and `Rest`, each at something. -/
theorem scoped_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ Rest c) := by
  rw [Gen.scopedRest0_eq]; unfold Rest; simp only [owns_whole]; try rfl

/-- Between grid points: at first the scratch buffers at something, later with the padding that the first point cleared. -/
def Phi (c : Dev nD) (n : ℕ) : sProp 𝕄 :=
  match n with
  | 0 => Pipeline.scopedRest spec0 c
  | _ + 1 => iprop((∃ d, ⌜PadS d⌝ ∗ owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, ⌜PadX d⌝ ∗ owns (c : Thread nD τ) (Memref.whole cc0_scratch4) fullShare d) ∗ (∃ d, owns (c : Thread nD τ) (Memref.whole cc0_scratch5) fullShare d) ∗ Rest c)

/-- The first kernel's proof data, entered at the valuation `V`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => uAt V c t.val t.isLt
    | ⟨11, _⟩ => zAt V c t.val t.isLt
  Φ t := Phi c t.val
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]
theorem after0_8 (c : Dev nD) (t : Fin cfg0.N) : (dat0 V c).after 8 t = iblk V c 8 t := by dsimp only [dat0]
theorem after0_9 (c : Dev nD) (t : Fin cfg0.N) : (dat0 V c).after 9 t = iblk V c 9 t := by dsimp only [dat0]
theorem after0_10 (c : Dev nD) (t : Fin cfg0.N) : (dat0 V c).after 10 t = uAt V c t.val t.isLt := by dsimp only [dat0]
theorem after0_11 (c : Dev nD) (t : Fin cfg0.N) : (dat0 V c).after 11 t = zAt V c t.val t.isLt := by dsimp only [dat0]

theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A0_eq]; try rfl) t d).trans
    (by unfold Dat.fetched Dat.blockOf iblk; rw [A0_eq]; try rfl)
theorem before0_4 (c : Dev nD) (t : Fin cfg0.N) (d) : (dat0 V c).before 4 t d = iblk V c 4 t :=
  ((dat0 V c).before_in_eq_fetched 4 rfl (fun _ => rfl) (fun _ _ _ => rfl) (fun t => by rw [after0_4]; unfold Dat.blockOf iblk; rw [A0_eq]; try rfl) t d).trans
    (by unfold Dat.fetched Dat.blockOf iblk; rw [A0_eq]; try rfl)
theorem before0_5 (c : Dev nD) (t : Fin cfg0.N) (d) : (dat0 V c).before 5 t d = iblk V c 5 t :=
  ((dat0 V c).before_in_eq_fetched 5 rfl (fun _ => rfl) (fun _ _ _ => rfl) (fun t => by rw [after0_5]; unfold Dat.blockOf iblk; rw [A0_eq]; try rfl) t d).trans
    (by unfold Dat.fetched Dat.blockOf iblk; rw [A0_eq]; try rfl)
theorem before0_6 (c : Dev nD) (t : Fin cfg0.N) (d) : (dat0 V c).before 6 t d = iblk V c 6 t :=
  ((dat0 V c).before_in_eq_fetched 6 rfl (fun _ => rfl) (fun _ _ _ => rfl) (fun t => by rw [after0_6]; unfold Dat.blockOf iblk; rw [A0_eq]; try rfl) t d).trans
    (by unfold Dat.fetched Dat.blockOf iblk; rw [A0_eq]; try rfl)
theorem before0_7 (c : Dev nD) (t : Fin cfg0.N) (d) : (dat0 V c).before 7 t d = iblk V c 7 t :=
  ((dat0 V c).before_in_eq_fetched 7 rfl (fun _ => rfl) (fun _ _ _ => rfl) (fun t => by rw [after0_7]; unfold Dat.blockOf iblk; rw [A0_eq]; try rfl) t d).trans
    (by unfold Dat.fetched Dat.blockOf iblk; rw [A0_eq]; try rfl)
theorem before0_8 (c : Dev nD) (t : Fin cfg0.N) (d) : (dat0 V c).before 8 t d = iblk V c 8 t :=
  ((dat0 V c).before_in_eq_fetched 8 rfl (fun _ => rfl) (fun _ _ _ => rfl) (fun t => by rw [after0_8]; unfold Dat.blockOf iblk; rw [A0_eq]; try rfl) t d).trans
    (by unfold Dat.fetched Dat.blockOf iblk; rw [A0_eq]; try rfl)
theorem before0_9 (c : Dev nD) (t : Fin cfg0.N) (d) : (dat0 V c).before 9 t d = iblk V c 9 t :=
  ((dat0 V c).before_in_eq_fetched 9 rfl (fun _ => rfl) (fun _ _ _ => rfl) (fun t => by rw [after0_9]; unfold Dat.blockOf iblk; rw [A0_eq]; try rfl) t d).trans
    (by unfold Dat.fetched Dat.blockOf iblk; rw [A0_eq]; try rfl)

/-- At a later point the window's buffer holds what the point before left. -/
theorem before0_10 (c : Dev nD) (t : Fin cfg0.N) (ht : t.val ≠ 0) (d) :
    (dat0 V c).before 10 t d = uAt V c (t.val - 1) (by have := t.isLt; omega) := by
  have hN : t.val < 64 := lt_of_lt_of_eq t.isLt (show cfg0.N = 64 from Gen.N_0)
  unfold Dat.before
  rw [if_neg (by rw [(cfg0.win 10).fetch_out rfl]; exact Bool.false_ne_true), if_neg ht]
  dsimp only
  rw [if_neg (fun h => by have := (Gen.flush0_10 _).mp h; dsimp only at this; omega)]
  rfl

/-- At a later point the window's buffer holds what the point before left. -/
theorem before0_11 (c : Dev nD) (t : Fin cfg0.N) (ht : t.val ≠ 0) (d) :
    (dat0 V c).before 11 t d = zAt V c (t.val - 1) (by have := t.isLt; omega) := by
  have hN : t.val < 64 := lt_of_lt_of_eq t.isLt (show cfg0.N = 64 from Gen.N_0)
  unfold Dat.before
  rw [if_neg (by rw [(cfg0.win 11).fetch_out rfl]; exact Bool.false_ne_true), if_neg ht]
  dsimp only
  rw [if_neg (fun h => by have := (Gen.flush0_11 _).mp h; dsimp only at this; omega)]
  rfl

/-- The first point is the one numbered zero. -/
theorem first_iff : ∀ t : Fin cfg0.N, first (grid0.coords t) ↔ t.val = 0 :=
  (fun t => by
    have ht : t.val < 64 := Nat.lt_of_lt_of_eq t.isLt Gen.N_0
    have e0 : (grid0.coords t 0).val = t.val / 1 % 64 := Pipeline.Grid.coords_val t 0 (by decide) rfl
    unfold first
    simp only [e0]
    have hh : t.val / 1 % 64 = t.val := by omega
    rw [hh]
    word_cmp
   : ∀ t : Fin grid0.N, first (grid0.coords t) ↔ t.val = 0)

/-- The body at any point: the windows' blocks in, the two results' blocks out one point further. -/
theorem sound0 (c : Dev nD) (t : Fin cfg0.N) :
    iprop((dat0 V c).Φ t.castSucc ∗ (dat0 V c).owesAt () t.castSucc ∗ (∃ d, owns (c : Thread nD τ) (Gen.st0_0 t) fullShare ((dat0 V c).before 0 t d)) ∗ (∃ d, owns (c : Thread nD τ) (Gen.st0_1 t) fullShare ((dat0 V c).before 1 t d)) ∗ (∃ d, owns (c : Thread nD τ) (Gen.st0_2 t) fullShare ((dat0 V c).before 2 t d)) ∗ (∃ d, owns (c : Thread nD τ) (Gen.st0_3 t) fullShare ((dat0 V c).before 3 t d)) ∗ (∃ d, owns (c : Thread nD τ) (Gen.st0_4 t) fullShare ((dat0 V c).before 4 t d)) ∗ (∃ d, owns (c : Thread nD τ) (Gen.st0_5 t) fullShare ((dat0 V c).before 5 t d)) ∗ (∃ d, owns (c : Thread nD τ) (Gen.st0_6 t) fullShare ((dat0 V c).before 6 t d)) ∗ (∃ d, owns (c : Thread nD τ) (Gen.st0_7 t) fullShare ((dat0 V c).before 7 t d)) ∗ (∃ d, owns (c : Thread nD τ) (Gen.st0_8 t) fullShare ((dat0 V c).before 8 t d)) ∗ (∃ d, owns (c : Thread nD τ) (Gen.st0_9 t) fullShare ((dat0 V c).before 9 t d)) ∗ (∃ d, owns (c : Thread nD τ) (Gen.st0_10 t) fullShare ((dat0 V c).before 10 t d)) ∗ (∃ d, owns (c : Thread nD τ) (Gen.st0_11 t) fullShare ((dat0 V c).before 11 t d)))
    ⊢ wp frame (wpE (defs₀ (F := F)) Variants.none c none) Set.univ (Gen.bodyAt0 t)
      (fun _ => iprop((dat0 V c).Φ t.succ ∗ (dat0 V c).owesAt () t.succ ∗ owns (c : Thread nD τ) (Gen.st0_0 t) fullShare ((dat0 V c).after 0 t) ∗ owns (c : Thread nD τ) (Gen.st0_1 t) fullShare ((dat0 V c).after 1 t) ∗ owns (c : Thread nD τ) (Gen.st0_2 t) fullShare ((dat0 V c).after 2 t) ∗ owns (c : Thread nD τ) (Gen.st0_3 t) fullShare ((dat0 V c).after 3 t) ∗ owns (c : Thread nD τ) (Gen.st0_4 t) fullShare ((dat0 V c).after 4 t) ∗ owns (c : Thread nD τ) (Gen.st0_5 t) fullShare ((dat0 V c).after 5 t) ∗ owns (c : Thread nD τ) (Gen.st0_6 t) fullShare ((dat0 V c).after 6 t) ∗ owns (c : Thread nD τ) (Gen.st0_7 t) fullShare ((dat0 V c).after 7 t) ∗ owns (c : Thread nD τ) (Gen.st0_8 t) fullShare ((dat0 V c).after 8 t) ∗ owns (c : Thread nD τ) (Gen.st0_9 t) fullShare ((dat0 V c).after 9 t) ∗ owns (c : Thread nD τ) (Gen.st0_10 t) fullShare ((dat0 V c).after 10 t) ∗ owns (c : Thread nD τ) (Gen.st0_11 t) fullShare ((dat0 V c).after 11 t))) := by
  unfold Gen.bodyAt0
  simp only [before0_0, before0_1, before0_2, before0_3, before0_4, before0_5, before0_6, before0_7, before0_8, before0_9]
  rw [show (dat0 V c).owesAt () t.succ = (dat0 V c).owesAt () t.castSucc from rfl, after0_0, after0_1, after0_2, after0_3, after0_4, after0_5, after0_6, after0_7, after0_8, after0_9, after0_10, after0_11]
  rw [show (dat0 V c).Φ t.succ = Phi c (t.val + 1) from rfl, show (dat0 V c).Φ t.castSucc = Phi c t.val from rfl]
  by_cases hz : t.val = 0
  · rw [uAt_first V c t hz, zAt_first V c t hz, hz]
    rw [show (Phi c 0 : sProp 𝕄) = Pipeline.scopedRest spec0 c from rfl, scoped_eq]
    unfold eAt
    generalize hd10 : (dat0 V c).before 10 t = b10
    generalize hd11 : (dat0 V c).before 11 t = b11
    iintro ⟨⟨⟨%d13, H13⟩, ⟨%d14, H14⟩, ⟨%d15, H15⟩, ⟨%d16, H16⟩, ⟨%d17, H17⟩, ⟨%d18, H18⟩, HR⟩, Ho, ⟨%dw0, H1⟩, ⟨%dw1, H2⟩, ⟨%dw2, H3⟩, ⟨%dw3, H4⟩, ⟨%dw4, H5⟩, ⟨%dw5, H6⟩, ⟨%dw6, H7⟩, ⟨%dw7, H8⟩, ⟨%dw8, H9⟩, ⟨%dw9, H10⟩, ⟨%d10, H11⟩, ⟨%d11, H12⟩⟩
    iapply (body_first (F := F) c (grid0.coords t) _ _ _ _ _ _ _ _ _ _ _ _ _ _ _ _ _ _ _ _ _ _ _ _ _ _ _ _ _ _ _ _ _ _ _ _ Set.univ ((first_iff t).mpr hz) (iblk V c 0 t) (iblk V c 1 t) (iblk V c 2 t) (iblk V c 3 t) (iblk V c 4 t) (iblk V c 5 t) (iblk V c 6 t) (iblk V c 7 t) (iblk V c 8 t) (iblk V c 9 t) _ _ d13 d14 d15 d16 d17 d18)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro H1 H2 H3 H4 H5 H6 H7 H8 H9 H10 H11 H12 ⟨%e13, %he13, H13⟩ H14 H15 H16 ⟨%e17, %he17, H17⟩ H18
    isplitl [H13 H14 H15 H16 H17 H18 HR]
    · unfold Phi
      isplitl [H13]; · iexists e13; isplitr; (· ipureintro; exact he13); iexact H13
      isplitl [H14]; · iexact H14
      isplitl [H15]; · iexact H15
      isplitl [H16]; · iexact H16
      isplitl [H17]; · iexists e17; isplitr; (· ipureintro; exact he17); iexact H17
      isplitl [H18]; · iexact H18
      iexact HR
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [uAt_later V c t hz, zAt_later V c t hz]
    simp only [before0_10 V c t hz, before0_11 V c t hz]
    rw [show (Phi c t.val : sProp 𝕄) = Phi c ((t.val - 1) + 1) from by rw [Nat.sub_add_cancel (Nat.pos_of_ne_zero hz)]]
    rw [show (Phi c ((t.val - 1) + 1) : sProp 𝕄) = Phi c (t.val + 1) from rfl]
    unfold eAt
    conv => lhs; unfold Phi
    iintro ⟨⟨⟨%d13, %h13, H13⟩, ⟨%d14, H14⟩, ⟨%d15, H15⟩, ⟨%d16, H16⟩, ⟨%d17, %h17, H17⟩, ⟨%d18, H18⟩, HR⟩, Ho, ⟨%dw0, H1⟩, ⟨%dw1, H2⟩, ⟨%dw2, H3⟩, ⟨%dw3, H4⟩, ⟨%dw4, H5⟩, ⟨%dw5, H6⟩, ⟨%dw6, H7⟩, ⟨%dw7, H8⟩, ⟨%dw8, H9⟩, ⟨%dw9, H10⟩, ⟨%dw10, H11⟩, ⟨%dw11, H12⟩⟩
    iapply (body_later (F := F) c (grid0.coords t) _ _ _ _ _ _ _ _ _ _ _ _ _ _ _ _ _ _ _ _ _ _ _ _ _ _ _ _ _ _ _ _ _ _ _ _ Set.univ (fun h => hz ((first_iff t).mp h)) (iblk V c 0 t) (iblk V c 1 t) (iblk V c 2 t) (iblk V c 3 t) (iblk V c 4 t) (iblk V c 5 t) (iblk V c 6 t) (iblk V c 7 t) (iblk V c 8 t) (iblk V c 9 t) (uAt V c (t.val - 1) (by have := t.isLt; omega)) (zAt V c (t.val - 1) (by have := t.isLt; omega)) d13 d14 d15 d16 d17 d18 h13 h17)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro H1 H2 H3 H4 H5 H6 H7 H8 H9 H10 H11 H12 ⟨%e13, %he13, H13⟩ H14 H15 H16 ⟨%e17, %he17, H17⟩ H18
    isplitl [H13 H14 H15 H16 H17 H18 HR]
    · unfold Phi
      isplitl [H13]; · iexists e13; isplitr; (· ipureintro; exact he13); iexact H13
      isplitl [H14]; · iexact H14
      isplitl [H15]; · iexact H15
      isplitl [H16]; · iexact H16
      isplitl [H17]; · iexists e17; isplitr; (· ipureintro; exact he17); iexact H17
      isplitl [H18]; · iexact H18
      iexact HR
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem row0 (t : Fin cfg0.N) : defs₀ (F := F) .tc cfg0.body (cfg0.bodyArgs t (cfg0.slots t)) = Gen.bodyAt0 t := by
  unfold defs₀; rw [Defs.onTc_tc]

theorem obligation0 (c : Dev nD) : BodyObligation (dat0 V c) (defs₀ (F := F)) Variants.none () Set.univ := fun t => by
  rw [Gen.bigSep_W0, Gen.bigSep_W0, row0]
  exact triple_restated (sound0 V c t) rfl .rfl fun _ => .rfl

end Cert.KernelIdeal.Body

end
-- ==== Proof.RunI.lean ====
module

public import proofs.«01_k».proof.Proof.Gen.KernelIdeal.Skeleton
public import proofs.«01_k».proof.Proof.HeadI
public import Idealize.ShloMosaic.Lib.Pipeline.RegionArraysS
public import proofs.«01_k».proof.Proof.Gen.KernelIdeal.Regions
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg cellOf)
open Cert.KernelIdeal.Gen

variable {F : FTy → Type} [FloatOps F]

local notation "𝕄" => MT nD τ sig Unit (Elt F) ℕ (UR sig nD τ) ℕ

/-! ## The second kernel -/

variable (V : Dev nD → Valuation τ sig (Elt F))

/-- The second kernel's operand `w`: the whole of its array as the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's result. -/
def headAt (c : Dev nD) (t : Fin cfg1.N) : Vec F S8x128 .f32 :=
  headv (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

/-- The second kernel's proof data, entered at the valuation `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => headAt V c t
  Φ _ := Pipeline.scopedRest spec1 c
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = headAt V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A1_eq]; try rfl) t d).trans
    (by unfold Dat.fetched Dat.blockOf iblk1; rw [A1_eq]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A1_eq]; try rfl) t d).trans
    (by unfold Dat.fetched Dat.blockOf iblk1; rw [A1_eq]; try rfl)

/-- The second kernel's body at its one point. -/
theorem sound1 (c : Dev nD) (t : Fin cfg1.N) :
    iprop((dat1 V c).Φ t.castSucc ∗ (dat1 V c).owesAt () t.castSucc ∗ (∃ d, owns (c : Thread nD τ) (Gen.st1_0 t) fullShare ((dat1 V c).before 0 t d)) ∗ (∃ d, owns (c : Thread nD τ) (Gen.st1_1 t) fullShare ((dat1 V c).before 1 t d)) ∗ (∃ d, owns (c : Thread nD τ) (Gen.st1_2 t) fullShare ((dat1 V c).before 2 t d)) ∗ (∃ d, owns (c : Thread nD τ) (Gen.st1_3 t) fullShare ((dat1 V c).before 3 t d)) ∗ (∃ d, owns (c : Thread nD τ) (Gen.st1_4 t) fullShare ((dat1 V c).before 4 t d)) ∗ (∃ d, owns (c : Thread nD τ) (Gen.st1_5 t) fullShare ((dat1 V c).before 5 t d)) ∗ (∃ d, owns (c : Thread nD τ) (Gen.st1_6 t) fullShare ((dat1 V c).before 6 t d)) ∗ (∃ d, owns (c : Thread nD τ) (Gen.st1_7 t) fullShare ((dat1 V c).before 7 t d)) ∗ (∃ d, owns (c : Thread nD τ) (Gen.st1_8 t) fullShare ((dat1 V c).before 8 t d)) ∗ (∃ d, owns (c : Thread nD τ) (Gen.st1_9 t) fullShare ((dat1 V c).before 9 t d)) ∗ (∃ d, owns (c : Thread nD τ) (Gen.st1_10 t) fullShare ((dat1 V c).before 10 t d)))
    ⊢ wp frame (wpE (defs₀ (F := F)) Variants.none c none) Set.univ (Gen.bodyAt1 t)
      (fun _ => iprop((dat1 V c).Φ t.succ ∗ (dat1 V c).owesAt () t.succ ∗ owns (c : Thread nD τ) (Gen.st1_0 t) fullShare ((dat1 V c).after 0 t) ∗ owns (c : Thread nD τ) (Gen.st1_1 t) fullShare ((dat1 V c).after 1 t) ∗ owns (c : Thread nD τ) (Gen.st1_2 t) fullShare ((dat1 V c).after 2 t) ∗ owns (c : Thread nD τ) (Gen.st1_3 t) fullShare ((dat1 V c).after 3 t) ∗ owns (c : Thread nD τ) (Gen.st1_4 t) fullShare ((dat1 V c).after 4 t) ∗ owns (c : Thread nD τ) (Gen.st1_5 t) fullShare ((dat1 V c).after 5 t) ∗ owns (c : Thread nD τ) (Gen.st1_6 t) fullShare ((dat1 V c).after 6 t) ∗ owns (c : Thread nD τ) (Gen.st1_7 t) fullShare ((dat1 V c).after 7 t) ∗ owns (c : Thread nD τ) (Gen.st1_8 t) fullShare ((dat1 V c).after 8 t) ∗ owns (c : Thread nD τ) (Gen.st1_9 t) fullShare ((dat1 V c).after 9 t) ∗ owns (c : Thread nD τ) (Gen.st1_10 t) fullShare ((dat1 V c).after 10 t))) := by
  unfold Gen.bodyAt1
  simp only [before1_0, before1_1, before1_2, before1_3, before1_4, before1_5, before1_6, before1_7, before1_8, before1_9]
  rw [show (dat1 V c).owesAt () t.succ = (dat1 V c).owesAt () t.castSucc from rfl, after1_0, after1_1, after1_2, after1_3, after1_4, after1_5, after1_6, after1_7, after1_8, after1_9, after1_10]
  rw [show (dat1 V c).Φ t.succ = (dat1 V c).Φ t.castSucc from rfl]
  unfold headAt
  iintro ⟨HR, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (head_run (F := F) c _ _ _ _ _ _ _ _ _ _ _ _ _ _ _ _ _ _ _ _ _ _ Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro H0 H1 H2 H3 H4 H5 H6 H7 H8 H9 H10
  isplitl [HR]; · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at the point's slots is the body as `bodyAt1` spells it. -/
theorem row1 (t : Fin cfg1.N) : defs₀ (F := F) .tc cfg1.body (cfg1.bodyArgs t (cfg1.slots t)) = Gen.bodyAt1 t := by
  unfold defs₀; rw [Defs.onTc_tc]

theorem obligation1 (c : Dev nD) : BodyObligation (dat1 V c) (defs₀ (F := F)) Variants.none () Set.univ := fun t => by
  rw [Gen.bigSep_W1, Gen.bigSep_W1, row1]
  exact triple_restated (sound1 V c t) rfl .rfl fun _ => .rfl

omit V in
/-- After the last point the scratch buffers are given back at something. -/
theorem Phi_out (c : Dev nD) (n : ℕ) : (Phi c n : sProp 𝕄) ⊢ Pipeline.scopedRest spec0 c := by
  cases n with
  | zero => exact .rfl
  | succ n =>
    rw [scoped_eq]
    unfold Phi
    iintro ⟨⟨%d0, -, H0⟩, H1, H2, H3, ⟨%d4, -, H4⟩, H5, HR⟩
    isplitl [H0]; · iexists _; iexact H0
    isplitl [H1]; · iexact H1
    isplitl [H2]; · iexact H2
    isplitl [H3]; · iexact H3
    isplitl [H4]; · iexists _; iexact H4
    isplitl [H5]; · iexact H5
    iexact HR

/-! ## The run -/

omit V
variable (m : (ℓ : Loc nD τ sig) → Buf (Elt F) ℓ) (ρ : Dev nD → PrngReg)

/-- What the first kernel leaves, as contents of every buffer. -/
def outsA : Outs (F := F) := fun _ r c => Pipeline.afterRegion (dat0 (V61 m) c) (V61 m c) r

/-- What each kernel leaves in the buffers it may change. -/
def outs : Outs (F := F) := fun J r c =>
  if J = 62 then outsA m 62 r c else Pipeline.afterRegion (dat1 (V63 m (outsA m)) c) (V63 m (outsA m) c) r

/-- The two kernels' proof data. -/
def pdats : (p : Fin 2) → (c : Dev nD) → Dat τ (Elt F) Unit ℕ (UR sig nD τ) ℕ (cfgs p) c
  | 0 => fun c => dat0 (V61 m) c
  | 1 => fun c => dat1 (V63 m (outsA m)) c

omit ρ in
theorem outs_first (r : Ref sig .tc) (c : Dev nD) : outs m 62 r c = Pipeline.afterRegion (dat0 (V61 m) c) (V61 m c) r := by
  unfold outs outsA; rw [if_pos rfl]

omit ρ in
theorem outs_second (r : Ref sig .tc) (c : Dev nD) : outs m 64 r c = Pipeline.afterRegion (dat1 (V63 m (outsA m)) c) (V63 m (outsA m) c) r := by
  unfold outs; rw [if_neg (by decide)]

omit ρ in
theorem V62_eq (c : Dev nD) : V62 m (outs m) c = V62 m (outsA m) c := by
  unfold V62; rw [outs_first, outs_first]; rfl

omit ρ in
theorem V63_eq (c : Dev nD) : V63 m (outs m) c = V63 m (outsA m) c := by
  unfold V63; rw [V62_eq]

/-- The staging semaphores' index: one, on the TensorCores. -/
def L : GSem nD τ sig → Finset Unit := fun g => if g.1.2 = .tc then {()} else ∅
/-- Every level is the least. -/
abbrev lv : GSem nD τ sig → Unit → ℕ := fun _ _ => 0

theorem cut (p : Fin 2) : Pipeline.LevelCut (pcfgs (F := F)) adm () L lv p (fun _ => 0) (fun _ => 0) where
  hι c w s := by unfold L; rw [if_pos rfl]; exact Finset.mem_singleton_self ()
  hιb c w s := Nat.le_refl 0
  hD c g i h := absurd h (Nat.lt_irrefl 0)

theorem hin0 (c : Dev nD) : iprop(Pipeline.scopedRest spec0 c ∗ emp) ⊢ (dat0 (V61 m) c).Φ 0 := by
  rw [show (dat0 (V61 m) c).Φ 0 = (Pipeline.scopedRest spec0 c : sProp 𝕄) from rfl]
  iintro ⟨H, -⟩; iexact H

theorem hout0 (c : Dev nD) : (dat0 (V61 m) c).Φ (Fin.last cfg0.N) ⊢ iprop(Pipeline.scopedRest spec0 c ∗ emp) := by
  rw [show (dat0 (V61 m) c).Φ (Fin.last cfg0.N) = Phi c (Fin.last cfg0.N).val from rfl]
  refine (Phi_out c _).trans ?_
  iintro H; isplitl [H]; (· iexact H); iempintro

theorem hin1 (c : Dev nD) : iprop(Pipeline.scopedRest spec1 c ∗ emp) ⊢ (dat1 (V63 m (outsA m)) c).Φ 0 := by
  rw [show (dat1 (V63 m (outsA m)) c).Φ 0 = (Pipeline.scopedRest spec1 c : sProp 𝕄) from rfl]
  iintro ⟨H, -⟩; iexact H

theorem hout1 (c : Dev nD) : (dat1 (V63 m (outsA m)) c).Φ (Fin.last cfg1.N) ⊢ iprop(Pipeline.scopedRest spec1 c ∗ emp) := by
  rw [show (dat1 (V63 m (outsA m)) c).Φ (Fin.last cfg1.N) = (Pipeline.scopedRest spec1 c : sProp 𝕄) from rfl]
  iintro H; isplitl [H]; (· iexact H); iempintro

-- the records' implicit arguments are found by unfolding plain definitions in a metavariable's type
set_option backward.isDefEq.respectTransparency.types false in
/-- The first kernel's region. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => iprop(emp)) (fun _ => iprop(emp)) launch0.toP rfl (fun c => (obligation0 (V61 m) c).loose) (fun _ _ => rfl) (fun _ => rfl)
    (fun c => (dat0 (V61 m) c).share_full fun _ => rfl) (hin0 m) (hout0 m)
    (fun _ => 0) (cut 0) (fun _ => iprop(emp)) (V61 m) (fun c w => A0_eq (V61 m) c w)

set_option backward.isDefEq.respectTransparency.types false in
/-- The second kernel's region. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => iprop(emp)) (fun _ => iprop(emp)) launch1.toP rfl (fun c => (obligation1 (V63 m (outsA m)) c).loose) (fun _ _ => rfl) (fun _ => rfl)
    (fun c => (dat1 (V63 m (outsA m)) c).share_full fun _ => rfl) (hin1 m) (hout1 m)
    (fun _ => 0) (cut 1) (fun _ => iprop(emp)) (V63 m (outsA m)) (fun c w => A1_eq (V63 m (outsA m)) c w)

/-- Beside the buffers a core carries what it owes: nothing. -/
def Ecarry (_ : Fin 3) (c : Dev nD) : sProp 𝕄 := iprop(∃ W, owes (c : Thread nD τ) (0 : CellTallies nD τ sig Unit) W)

theorem arr_sub0 : Pipeline.arrRefs spec0 ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

theorem arr_sub1 : Pipeline.arrRefs spec1 ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

omit ρ in
/-- After the first region every buffer is where the run's account puts it. -/
theorem after0_V (c : Dev nD) (b : DevRef τ sig) (hb : b ∈ Pipeline.ucRefs τ sig) :
    Pipeline.afterRegion (dat0 (V61 m) c) (V61 m c) b = V62 m (outs m) c b := by
  obtain ⟨r, -, rfl⟩ := Finset.mem_map.mp (Finset.mem_filter.mp hb).1
  change Pipeline.afterRegion (dat0 (V61 m) c) (V61 m c) (Proc.devRef .tc r) = V62 m (outs m) c (Proc.devRef .tc r)
  unfold V62
  rw [outs_first, outs_first]
  by_cases h1 : r = main_v141_1
  · subst h1; rw [Function.update_self]
  rw [Function.update_of_ne (StableHlo.devRef_ne_of_ne h1)]
  by_cases h0 : r = main_v141_0
  · subst h0; rw [Function.update_self]
  rw [Function.update_of_ne (StableHlo.devRef_ne_of_ne h0)]
  refine Pipeline.afterRegion_keeps _ _ winFacts0.arr_inj (A0_eq (V61 m) c) r fun w hw => ?_
  subst hw
  revert h0 h1 w; decide

omit ρ in
/-- After the second region every buffer is where the run's account puts it. -/
theorem after1_V (c : Dev nD) (b : DevRef τ sig) (hb : b ∈ Pipeline.ucRefs τ sig) :
    Pipeline.afterRegion (dat1 (V63 m (outsA m)) c) (V63 m (outsA m) c) b = V64 m (outs m) c b := by
  obtain ⟨r, -, rfl⟩ := Finset.mem_map.mp (Finset.mem_filter.mp hb).1
  change Pipeline.afterRegion (dat1 (V63 m (outsA m)) c) (V63 m (outsA m) c) (Proc.devRef .tc r) = V64 m (outs m) c (Proc.devRef .tc r)
  unfold V64
  rw [outs_second, V63_eq]
  by_cases h0 : r = main_v146
  · subst h0; rw [Function.update_self]
  rw [Function.update_of_ne (StableHlo.devRef_ne_of_ne h0)]
  refine Pipeline.afterRegion_keeps _ _ winFacts1.arr_inj (A1_eq (V63 m (outsA m)) c) r fun w hw => ?_
  subst hw
  revert h0 w; decide

theorem pre0 (c : Dev nD) : iprop(StableHlo.held (c : Thread nD τ) (Pipeline.ucRefs τ sig) (V61 m c) ∗ Ecarry 0 c) ⊢ (reg0 m).pre c := by
  unfold reg0
  refine BIBase.Entails.trans ?_ (RegionSeg.ofHeldIn_pre (pcs := pcfgs (F := F)) (a := adm) (pdats := pdats m) (p := 0) (S := Pipeline.ucRefs τ sig) (show Pipeline.arrRefs (pcfgs (F := F) 0).spec ⊆ Pipeline.ucRefs τ sig from arr_sub0) c)
  unfold Ecarry
  iintro ⟨Hh, HO⟩
  isplitl [Hh]; · iexact Hh
  isplitl [HO]; · iexact HO
  isplitl <;> iempintro

theorem post0 (c : Dev nD) : (reg0 m).post c ⊢ iprop(StableHlo.held (c : Thread nD τ) (Pipeline.ucRefs τ sig) (V62 m (outs m) c) ∗ Ecarry 1 c) := by
  unfold reg0
  refine BIBase.Entails.trans (RegionSeg.ofHeldIn_post (pcs := pcfgs (F := F)) (a := adm) (pdats := pdats m) (p := 0) (S := Pipeline.ucRefs τ sig) (show Pipeline.arrRefs (pcfgs (F := F) 0).spec ⊆ Pipeline.ucRefs τ sig from arr_sub0) c) ?_
  rw [show StableHlo.held (c.tc : Thread nD τ) (Pipeline.ucRefs τ sig) (Pipeline.afterRegion (pdats m 0 c) (V61 m c)) = (StableHlo.held (c.tc : Thread nD τ) (Pipeline.ucRefs τ sig) (V62 m (outs m) c) : sProp 𝕄)
    from StableHlo.held_congr _ (after0_V m c)]
  unfold Ecarry
  iintro ⟨Hh, HO, -, -⟩
  isplitl [Hh]; · iexact Hh
  iexact HO

theorem pre1 (c : Dev nD) : iprop(StableHlo.held (c : Thread nD τ) (Pipeline.ucRefs τ sig) (V63 m (outs m) c) ∗ Ecarry 1 c) ⊢ (reg1 m).pre c := by
  unfold reg1
  refine BIBase.Entails.trans ?_ (RegionSeg.ofHeldIn_pre (pcs := pcfgs (F := F)) (a := adm) (pdats := pdats m) (p := 1) (S := Pipeline.ucRefs τ sig) (show Pipeline.arrRefs (pcfgs (F := F) 1).spec ⊆ Pipeline.ucRefs τ sig from arr_sub1) c)
  rw [V63_eq]
  unfold Ecarry
  iintro ⟨Hh, HO⟩
  isplitl [Hh]; · iexact Hh
  isplitl [HO]; · iexact HO
  isplitl <;> iempintro

theorem post1 (c : Dev nD) : (reg1 m).post c ⊢ iprop(StableHlo.held (c : Thread nD τ) (Pipeline.ucRefs τ sig) (V64 m (outs m) c) ∗ Ecarry 2 c) := by
  unfold reg1
  refine BIBase.Entails.trans (RegionSeg.ofHeldIn_post (pcs := pcfgs (F := F)) (a := adm) (pdats := pdats m) (p := 1) (S := Pipeline.ucRefs τ sig) (show Pipeline.arrRefs (pcfgs (F := F) 1).spec ⊆ Pipeline.ucRefs τ sig from arr_sub1) c) ?_
  rw [show StableHlo.held (c.tc : Thread nD τ) (Pipeline.ucRefs τ sig) (Pipeline.afterRegion (pdats m 1 c) (V63 m (outsA m) c)) = (StableHlo.held (c.tc : Thread nD τ) (Pipeline.ucRefs τ sig) (V64 m (outs m) c) : sProp 𝕄)
    from StableHlo.held_congr _ (after1_V m c)]
  unfold Ecarry
  iintro ⟨Hh, HO, -, -⟩
  isplitl [Hh]; · iexact Hh
  iexact HO

/-- The launch's tokens, split for the library's account. -/
theorem launch_tokens : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu
  imodintro
  isplitl [Hu]
  · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

end Cert.KernelIdeal.Body

end
-- ==== Proof.AllI.lean ====
module

public import proofs.«01_k».proof.Proof.Gen.KernelIdeal.Skeleton
public import proofs.«01_k».proof.Proof.RunI
public import Idealize.ShloMosaic.Lib.Pipeline.RegionArraysS
public import proofs.«01_k».proof.Proof.Gen.KernelIdeal.Regions
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch a core owes nothing. -/
theorem launch_owes :
    iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts L lv)
      ⊢ (|={Set.univ}=> bigSep Finset.univ (Ecarry (F := F) 0) : sProp 𝕄) := by
  refine Pipeline.initEach L lv fun c => ?_
  iintro ⟨⟨-, HO, -, -, -⟩, -⟩
  imodintro
  unfold Ecarry
  iexists _
  iexact HO

theorem carry_end (c : Dev nD) : Ecarry (F := F) 2 c ⊢ (iprop(∃ W, owes (c : Thread nD τ) (0 : CellTallies nD τ sig Unit) W) : sProp 𝕄) := by
  unfold Ecarry
  iintro H
  iexact H

-- the implicit arguments are found by unfolding plain definitions in a metavariable's type
set_option backward.isDefEq.respectTransparency.types false in
/-- Every run of the program ends, with every counter at zero and every buffer of the program holding what the account
    `V65` of the run says: the launch's contents pushed through the host's operations and the two kernels. -/
theorem run_all :
    θ_run defs (onTc (τ := τ) (main (F := F))) ⟨m, fun _ => 0, ρ⟩ (fun r => (∀ c : Dev nD,
      ∀ b ∈ Pipeline.ucRefs τ sig, r.2.mem ((c.tc : Thread nD τ).1, b) = V65 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv Ecarry () (pdats m) (reg0 m) (reg1 m))
    (fun c Q => by
      rewrite [main_chain c, Seg.run_eq_chain,
        show (segs m (outs m) Variants.none L lv Ecarry () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          StableHlo.seq hostOps0_29,
          StableHlo.seq hostOps0_30,
          StableHlo.seq hostOps0_31,
          StableHlo.seq hostOps0_32,
          StableHlo.seq hostOps0_33,
          StableHlo.seq hostOps0_34,
          StableHlo.seq hostOps0_35,
          StableHlo.seq hostOps0_36,
          StableHlo.seq hostOps0_37,
          StableHlo.seq hostOps0_38,
          StableHlo.seq hostOps0_39,
          StableHlo.seq hostOps0_40,
          StableHlo.seq hostOps0_41,
          StableHlo.seq hostOps0_42,
          StableHlo.seq hostOps0_43,
          StableHlo.seq hostOps0_44,
          StableHlo.seq hostOps0_45,
          StableHlo.seq hostOps0_46,
          StableHlo.seq hostOps0_47,
          StableHlo.seq hostOps0_48,
          StableHlo.seq hostOps0_49,
          StableHlo.seq hostOps0_50,
          StableHlo.seq hostOps0_51,
          StableHlo.seq hostOps0_52,
          StableHlo.seq hostOps0_53,
          StableHlo.seq hostOps0_54,
          StableHlo.seq hostOps0_55,
          StableHlo.seq hostOps0_56,
          StableHlo.seq hostOps0_57,
          StableHlo.seq hostOps0_58,
          StableHlo.seq hostOps0_59,
          StableHlo.seq hostOps0_60,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => by unfold L; exact if_neg h) (fun _ => iprop(emp))
    (initOf (Pipeline.cells cfgs cellOf_inj) (Pipeline.launchToks cfgs cellOf_inj)) launch_tokens
    (T₀ := fun c => iprop(StableHlo.held (c : Thread nD τ) (Pipeline.ucRefs τ sig) (V0 m c) ∗ Ecarry 0 c))
    (Tₙ := fun c => StableHlo.held (c : Thread nD τ) (Pipeline.ucRefs τ sig) (V65 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, pre0 m c, post0 m c, pre1 m c, post1 m c, sep_mono .rfl (carry_end c)⟩)
    (hinit := ?_) (QY := fun c s => ∀ b ∈ Pipeline.ucRefs τ sig, s.mem ((c.tc : Thread nD τ).1, b) = V65 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_owes ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V65 m (outs m) c) s') $$ [Hh HSI]
    · isplitl [Hh] <;> iassumption
    icases Hr with ⟨%h, HSI⟩
    imodintro
    isplitr
    · ipureintro
      exact h
    · iexact HSI

theorem mem_uc (r : Ref sig .tc) (h : r.isScoped = false) : Proc.devRef .tc r ∈ Pipeline.ucRefs τ sig :=
  Finset.mem_filter.mpr ⟨StableHlo.devRef_mem_tcRefs r, by simpa using h⟩

/-- Every run ends, leaves each of the eighteen arguments as it was, and leaves every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  refine (θ_run _ _ _).mono (fun r h => ⟨fun c => ?_, h.2⟩) (run_all m ρ)
  exact ⟨(h.1 c _ (mem_uc main_arg0 (by decide))).trans (V65_main_arg0 m (outs m) c),
    (h.1 c _ (mem_uc main_arg1 (by decide))).trans (V65_main_arg1 m (outs m) c),
    (h.1 c _ (mem_uc main_arg2 (by decide))).trans (V65_main_arg2 m (outs m) c),
    (h.1 c _ (mem_uc main_arg3 (by decide))).trans (V65_main_arg3 m (outs m) c),
    (h.1 c _ (mem_uc main_arg4 (by decide))).trans (V65_main_arg4 m (outs m) c),
    (h.1 c _ (mem_uc main_arg5 (by decide))).trans (V65_main_arg5 m (outs m) c),
    (h.1 c _ (mem_uc main_arg6 (by decide))).trans (V65_main_arg6 m (outs m) c),
    (h.1 c _ (mem_uc main_arg7 (by decide))).trans (V65_main_arg7 m (outs m) c),
    (h.1 c _ (mem_uc main_arg8 (by decide))).trans (V65_main_arg8 m (outs m) c),
    (h.1 c _ (mem_uc main_arg9 (by decide))).trans (V65_main_arg9 m (outs m) c),
    (h.1 c _ (mem_uc main_arg10 (by decide))).trans (V65_main_arg10 m (outs m) c),
    (h.1 c _ (mem_uc main_arg11 (by decide))).trans (V65_main_arg11 m (outs m) c),
    (h.1 c _ (mem_uc main_arg12 (by decide))).trans (V65_main_arg12 m (outs m) c),
    (h.1 c _ (mem_uc main_arg13 (by decide))).trans (V65_main_arg13 m (outs m) c),
    (h.1 c _ (mem_uc main_arg14 (by decide))).trans (V65_main_arg14 m (outs m) c),
    (h.1 c _ (mem_uc main_arg15 (by decide))).trans (V65_main_arg15 m (outs m) c),
    (h.1 c _ (mem_uc main_arg16 (by decide))).trans (V65_main_arg16 m (outs m) c),
    (h.1 c _ (mem_uc main_arg17 (by decide))).trans (V65_main_arg17 m (outs m) c)⟩

end Cert.KernelIdeal.Body

end
-- ==== Proof.Algebra.lean ====
module

public import Idealize.ShloMosaic.Lib.Pointwise

@[expose] public section

set_option maxRecDepth 16384

noncomputable section

namespace Cert.Alg

open Idealize.ShloMosaic

/-- A sum over an axis whose terms vanish outside three neighbours is the sum of the three. -/
theorem sum_band {N x : ℕ} (h : x + 3 ≤ N) (f : Fin N → EReal) :
    (∑ k : Fin N, if x ≤ k.val ∧ k.val < x + 3 then f k else 0) = ∑ d : Fin 3, f ⟨x + d.val, by omega⟩ := by
  rw [← Finset.sum_filter]
  symm
  refine Finset.sum_bij (fun (d : Fin 3) _ => (⟨x + d.val, by omega⟩ : Fin N)) ?_ ?_ ?_ ?_
  · intro d _
    simp only [Finset.mem_filter, Finset.mem_univ, true_and]
    omega
  · intro a _ b _ hab
    simp only [Fin.mk.injEq] at hab
    exact Fin.ext (by omega)
  · intro k hk
    simp only [Finset.mem_filter, Finset.mem_univ, true_and] at hk
    exact ⟨⟨k.val - x, by omega⟩, Finset.mem_univ _, Fin.ext (by simp only; omega)⟩
  · intro d _
    rfl

/-- A real number at least zero distributes over a sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- A sum of real numbers, taken in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The two convolutions, each followed by a maximum over two by two places -/

/-- A filter's rectified response at a place of a 28 by 28 picture. -/
def conv1 (x : Fin 28 → Fin 28 → EReal) (w : Fin 3 → Fin 3 → EReal) (b : EReal) (y z : Fin 26) : EReal :=
  max ((∑ i : Fin 3, ∑ j : Fin 3, x ⟨y.val + i.val, by omega⟩ ⟨z.val + j.val, by omega⟩ * w i j) + b) 0

/-- A filter's rectified response at a place of the sixteen channels of the first convolution's result. -/
def conv2 (x : Fin 13 → Fin 13 → Fin 16 → EReal) (w : Fin 3 → Fin 3 → Fin 16 → EReal) (b : EReal) (y z : Fin 11) : EReal :=
  max ((∑ i : Fin 3, ∑ j : Fin 3, ∑ k : Fin 16, x ⟨y.val + i.val, by omega⟩ ⟨z.val + j.val, by omega⟩ k * w i j k) + b) 0

/-- The largest of four neighbours. -/
def pool {n m : ℕ} (h : 2 * m ≤ n) (c : Fin n → Fin n → EReal) (y z : Fin m) : EReal :=
  max (max (c ⟨2 * y.val, by omega⟩ ⟨2 * z.val, by omega⟩) (c ⟨2 * y.val, by omega⟩ ⟨2 * z.val + 1, by omega⟩))
    (max (c ⟨2 * y.val + 1, by omega⟩ ⟨2 * z.val, by omega⟩) (c ⟨2 * y.val + 1, by omega⟩ ⟨2 * z.val + 1, by omega⟩))

/-- The first convolution's pooled result. -/
def layer1 (x : Fin 28 → Fin 28 → EReal) (w : Fin 3 → Fin 3 → Fin 16 → EReal) (b : Fin 16 → EReal) (y z : Fin 13) (d : Fin 16) : EReal :=
  pool (n := 26) (by decide) (conv1 x (fun i j => w i j d) (b d)) y z

/-- The second convolution's pooled result. -/
def layer2 (x : Fin 13 → Fin 13 → Fin 16 → EReal) (w : Fin 3 → Fin 3 → Fin 16 → Fin 32 → EReal) (b : Fin 32 → EReal) (y z : Fin 5) (o : Fin 32) : EReal :=
  pool (n := 11) (by decide) (conv2 x (fun i j k => w i j k o) (b o)) y z

/-- A picture's 800 features. -/
def feat (x : Fin 28 → Fin 28 → EReal) (w1 : Fin 3 → Fin 3 → Fin 16 → EReal) (b1 : Fin 16 → EReal)
    (w2 : Fin 3 → Fin 3 → Fin 16 → Fin 32 → EReal) (b2 : Fin 32 → EReal) (f : Fin 800) : EReal :=
  layer2 (layer1 x w1 b1) w2 b2 ⟨f.val / 160, by omega⟩ ⟨f.val / 32 % 5, by omega⟩ ⟨f.val % 32, by omega⟩

/-- The maximum with zero after adding a bias, of the larger of two responses. -/
theorem max_bias (a c b : EReal) : max (max a c + b) 0 = max (max (a + b) 0) (max (c + b) 0) := by
  rw [← max_add_add_right]
  exact sup_sup_distrib_right _ _ _

/-! ## The attention scores -/

/-- The sigmoid of the extended reals. -/
def sigm (x : EReal) : EReal := Ideal.div 1 (1 + Ideal.exp (-x))

/-- The score of a row of 800 features: a hidden layer of 64 and a sigmoid. -/
def score (e : Fin 800 → EReal) (a : Fin 800 → Fin 64 → EReal) (ab : Fin 64 → EReal) (o : Fin 64 → EReal) (ob : EReal) : EReal :=
  sigm ((∑ h : Fin 64, Ideal.tanh ((∑ f : Fin 800, e f * a f h) + ab h) * o h) + ob)

/-- A sigmoid is a real number. -/
theorem sigm_real (x : EReal) : ∃ r : ℝ, sigm x = (r : EReal) := by
  unfold sigm
  induction x using EReal.rec with
  | bot =>
    have h : (1 : EReal) + Ideal.exp (-⊥) = ⊤ := by
      rw [EReal.neg_bot]; exact EReal.add_top_of_ne_bot (by decide)
    exact ⟨0, by rw [h]; simp [Ideal.div]⟩
  | top =>
    have h : (1 : EReal) + Ideal.exp (-⊤) = ((1 : ℝ) : EReal) := by
      rw [EReal.neg_top]; exact add_zero _
    exact ⟨1, by rw [h, Ideal.div_coe one_ne_zero]; simp⟩
  | coe r =>
    have h : (1 : EReal) + Ideal.exp (-(r : EReal)) = ((1 + Real.exp (-r) : ℝ) : EReal) := by
      rw [← EReal.coe_neg]; rfl
    have h0 : (1 + Real.exp (-r) : ℝ) ≠ 0 := by positivity
    rw [h, Ideal.div_coe h0]
    exact ⟨1 / (1 + Real.exp (-r)), by rw [one_mul]⟩

/-- A score is a real number. -/
theorem score_real (e a ab o ob) : ∃ r : ℝ, score e a ab o ob = (r : EReal) := sigm_real _

/-- The largest of finitely many reals, from minus infinity on, is a real. -/
theorem fold_real {n : ℕ} (hn : 0 < n) (a : Fin n → ℝ) (f : Fin n → EReal) (hf : ∀ k, f k = (a k : EReal)) :
    ∃ μ : ℝ, Finset.univ.fold max (⊥ : EReal) f = (μ : EReal) := by
  have h1 : Finset.univ.fold max (⊥ : EReal) f ≠ ⊤ := by
    apply ne_of_lt
    rw [Finset.fold_max_lt]
    exact ⟨bot_lt_top, fun k _ => by rw [hf]; exact EReal.coe_lt_top _⟩
  have h2 : Finset.univ.fold max (⊥ : EReal) f ≠ ⊥ := by
    apply ne_of_gt
    rw [Finset.lt_fold_max]
    exact .inr ⟨⟨0, hn⟩, Finset.mem_univ _, by rw [hf]; exact EReal.bot_lt_coe _⟩
  exact ⟨_, (EReal.coe_toReal h1 h2).symm⟩

/-- The exponential of a real, as an extended real. -/
theorem exp_coe (r : ℝ) : Ideal.exp (r : EReal) = ((Real.exp r : ℝ) : EReal) := rfl

/-- A softmax over reals, the largest taken off first, is the quotient of the plain exponentials. -/
theorem softmax {n : ℕ} (hn : 0 < n) (a : Fin n → ℝ) (f : Fin n → EReal) (hf : ∀ k, f k = (a k : EReal)) (k : Fin n) :
    Ideal.div (Ideal.exp (f k - max ⊥ (Finset.univ.fold max (⊥ : EReal) f)))
        (0 + ∑ j : Fin n, Ideal.exp (f j - max ⊥ (Finset.univ.fold max (⊥ : EReal) f)))
      = ((Real.exp (a k) * (1 / ∑ j : Fin n, Real.exp (a j)) : ℝ) : EReal) := by
  obtain ⟨μ, hμ⟩ := fold_real hn a f hf
  have hM : max (⊥ : EReal) (Finset.univ.fold max (⊥ : EReal) f) = (μ : EReal) := by rw [hμ]; exact max_eq_right bot_le
  have he : ∀ j, Ideal.exp (f j - max ⊥ (Finset.univ.fold max (⊥ : EReal) f)) = ((Real.exp (a j - μ) : ℝ) : EReal) := fun j => by
    rw [hM, hf, ← EReal.coe_sub, exp_coe]
  haveI : Nonempty (Fin n) := ⟨⟨0, hn⟩⟩
  have hp : 0 < ∑ j : Fin n, Real.exp (a j) := Finset.sum_pos (fun j _ => Real.exp_pos _) Finset.univ_nonempty
  have hs : ∑ j : Fin n, Real.exp (a j - μ) = (∑ j : Fin n, Real.exp (a j)) / Real.exp μ := by
    rw [Finset.sum_div]; exact Finset.sum_congr rfl fun j _ => Real.exp_sub _ _
  have hq : ∑ j : Fin n, Real.exp (a j - μ) ≠ 0 := by
    rw [hs]; exact (div_pos hp (Real.exp_pos _)).ne'
  rw [Finset.sum_congr rfl fun j _ => he j, he, coe_sum, zero_add, Ideal.div_coe hq, ← EReal.coe_mul]
  congr 1
  rw [hs, Real.exp_sub]
  have := (Real.exp_pos μ).ne'
  field_simp

/-! ## From the plain exponentials' sums to the two softmaxes -/

/-- A weighted mean of rows, the weights normalised first, is the plain weighted sum scaled once. -/
theorem mean_eq {n : ℕ} (hn : 0 < n) (a : Fin n → ℝ) (p : Fin n → Prop) [DecidablePred p] (e : Fin n → EReal) :
    (∑ k : Fin n, if p k then ((Real.exp (a k) * (1 / ∑ j : Fin n, Real.exp (a j)) : ℝ) : EReal) * e k else 0)
      = ((1 / ∑ j : Fin n, Real.exp (a j) : ℝ) : EReal) * ∑ k : Fin n, (if p k then ((Real.exp (a k) : ℝ) : EReal) else 0) * e k := by
  have h : 0 ≤ 1 / ∑ j : Fin n, Real.exp (a j) := by positivity
  rw [coe_mul_sum _ _ h]
  refine Finset.sum_congr rfl fun k _ => ?_
  by_cases hk : p k
  · rw [if_pos hk, if_pos hk, EReal.coe_mul, mul_comm ((Real.exp (a k) : ℝ) : EReal), mul_assoc]
  · rw [if_neg hk, if_neg hk, zero_mul, mul_zero]

/-- The bags' weighted mean row, weights and rows scaled last, is the one with both scaled first. -/
theorem bag_eq (u : Fin 256 → Fin 800 → EReal) (s : ℝ) (hs : 0 < s) (a : Fin 256 → ℝ) (f : Fin 800) :
    (∑ b : Fin 256, ((Real.exp (a b) : ℝ) : EReal) * u b f)
        * Ideal.div ((1 / s : ℝ) : EReal) ((∑ b : Fin 256, Real.exp (a b) : ℝ) : EReal)
      = ∑ b : Fin 256, ((Real.exp (a b) * (1 / ∑ j : Fin 256, Real.exp (a j)) : ℝ) : EReal) * (((1 / s : ℝ) : EReal) * u b f) := by
  have hp : 0 < ∑ j : Fin 256, Real.exp (a j) := Finset.sum_pos (fun j _ => Real.exp_pos _) Finset.univ_nonempty
  rw [Ideal.div_coe hp.ne', ← EReal.coe_mul, mul_comm, coe_mul_sum _ _ (by positivity)]
  refine Finset.sum_congr rfl fun b _ => ?_
  rw [← mul_assoc, ← mul_assoc, ← EReal.coe_mul, ← EReal.coe_mul]
  congr 2
  ring

/-- Scaling the rows before a score's hidden layer, or its products after. -/
theorem scaled_dot (u : Fin 800 → EReal) (r : ℝ) (hr : 0 ≤ r) (a : Fin 800 → EReal) :
    (∑ f : Fin 800, u f * a f) * (r : EReal) = ∑ f : Fin 800, ((r : EReal) * u f) * a f := by
  rw [mul_comm, coe_mul_sum _ _ hr]
  exact Finset.sum_congr rfl fun f _ => (mul_assoc _ _ _).symm

end Cert.Alg

end
-- ==== Proof.Stack.lean ====
module

public import proofs.«01_k».proof.Proof.Gen.KernelIdeal.Regions
public import proofs.«01_k».proof.Proof.Algebra
public import Idealize.ShloMosaic.Lib.Pipeline.ValueKit
public import Idealize.ShloMosaic.Lib.StableHlo.Run

@[expose] public section

set_option maxRecDepth 16384

noncomputable section

namespace Cert.KernelIdeal.Alg

open Idealize.ShloMosaic Idealize.ShloMosaic.TcCoe Idealize.SL.Sem Idealize.ShloMosaic.StableHlo
open Cert.KernelIdeal Cert.KernelIdeal.Gen

/-- A filter's rows, laid at an offset along an axis of 32, as 16 rows of 96. -/
def rows (lo hi : ℕ) (h : S3x3x16.Pads ![0, lo, 0] ![0, hi, 0] ![0, 0, 0] S3x32x16) (x : FVec Ideal S3x3x16 .f32) : FVec Ideal S16x96 .f32 :=
  shapeCast S16x96 (transpose S16x3x32 [2, 0, 1] (pad S3x32x16 ![0, lo, 0] ![0, hi, 0] ![0, 0, 0] x (sitofp .f32 (constantI S_ 32 0#32)) h h_S_) transposes_S3x32x16_S16x3x32_2_0_1) shapeCasts_S16x3x32_S16x96

/-- The integer zero, as a real. -/
theorem sitofp_zero : (FloatOps.sitofp FTy.f32 0#32 : Ideal .f32) = (0 : EReal) := by
  simp [FloatOps.sitofp]

/-- Such a row at a column. -/
theorem rows_at (lo hi : ℕ) (h : S3x3x16.Pads ![0, lo, 0] ![0, hi, 0] ![0, 0, 0] S3x32x16) (x : FVec Ideal S3x3x16 .f32) (d : Fin 16) (r : Fin 3) (k : Fin 32) :
    rows lo hi h x (ix2 d ⟨r.val * 32 + k.val, by omega⟩) = if hk : lo ≤ k.val ∧ k.val < lo + 3 then x (ix3 r ⟨k.val - lo, by omega⟩ d) else 0 := by
  pointwise [rows]
  by_cases hk : lo ≤ k.val ∧ k.val < lo + 3
  · rw [dif_pos hk, dif_pos (by omega)]
  · rw [dif_neg hk, dif_neg (by omega)]
    exact sitofp_zero

/-- A filter, laid at an offset along an axis of 6, as 32 rows of 288. -/
def rows2 (lo hi : ℕ) (h : S32x3x3x16.Pads ![0, 0, lo, 0] ![0, 0, hi, 0] ![0, 0, 0, 0] S32x3x6x16) (x : FVec Ideal S32x3x3x16 .f32) : FVec Ideal S32x288 .f32 :=
  shapeCast S32x288 (pad S32x3x6x16 ![0, 0, lo, 0] ![0, 0, hi, 0] ![0, 0, 0, 0] x (sitofp .f32 (constantI S_ 32 0#32)) h h_S_) shapeCasts_S32x3x6x16_S32x288

/-- Such a row at a column. -/
theorem rows2_at (lo hi : ℕ) (h : S32x3x3x16.Pads ![0, 0, lo, 0] ![0, 0, hi, 0] ![0, 0, 0, 0] S32x3x6x16) (x : FVec Ideal S32x3x3x16 .f32)
    (o : Fin 32) (r : Fin 3) (k : Fin 6) (i : Fin 16) :
    rows2 lo hi h x (ix2 o ⟨r.val * 96 + k.val * 16 + i.val, by omega⟩) = if hk : lo ≤ k.val ∧ k.val < lo + 3 then x (ix4 o r ⟨k.val - lo, by omega⟩ i) else 0 := by
  have hs : ∀ q : FVec Ideal S32x3x6x16 .f32, shapeCast S32x288 q shapeCasts_S32x3x6x16_S32x288 (ix2 o ⟨r.val * 96 + k.val * 16 + i.val, by omega⟩) = q (ix4 o r k i) := fun q => by
    pointwise []
  unfold rows2
  rw [hs]
  pointwise []
  by_cases hk : lo ≤ k.val ∧ k.val < lo + 3
  · rw [dif_pos hk, dif_pos (by omega)]
  · rw [dif_neg hk, dif_neg (by omega)]
    exact sitofp_zero

/-- 26 such blocks of 16 rows, one above another. -/
def stack26 (f : Fin 26 → FVec Ideal S16x96 .f32) : FVec Ideal S416x96 .f32 :=
  shapeCast S416x96 (concatenate S26x16x96 0 [⟨S16x16x96, concatenate S16x16x96 0 [⟨S1x16x96, broadcastInDim S1x16x96 ![1, 2] bcast_S16x96_S1x16x96_1_2 (f 0)⟩, ⟨S1x16x96, broadcastInDim S1x16x96 ![1, 2] bcast_S16x96_S1x16x96_1_2 (f 1)⟩, ⟨S1x16x96, broadcastInDim S1x16x96 ![1, 2] bcast_S16x96_S1x16x96_1_2 (f 2)⟩, ⟨S1x16x96, broadcastInDim S1x16x96 ![1, 2] bcast_S16x96_S1x16x96_1_2 (f 3)⟩, ⟨S1x16x96, broadcastInDim S1x16x96 ![1, 2] bcast_S16x96_S1x16x96_1_2 (f 4)⟩, ⟨S1x16x96, broadcastInDim S1x16x96 ![1, 2] bcast_S16x96_S1x16x96_1_2 (f 5)⟩, ⟨S1x16x96, broadcastInDim S1x16x96 ![1, 2] bcast_S16x96_S1x16x96_1_2 (f 6)⟩, ⟨S1x16x96, broadcastInDim S1x16x96 ![1, 2] bcast_S16x96_S1x16x96_1_2 (f 7)⟩, ⟨S1x16x96, broadcastInDim S1x16x96 ![1, 2] bcast_S16x96_S1x16x96_1_2 (f 8)⟩, ⟨S1x16x96, broadcastInDim S1x16x96 ![1, 2] bcast_S16x96_S1x16x96_1_2 (f 9)⟩, ⟨S1x16x96, broadcastInDim S1x16x96 ![1, 2] bcast_S16x96_S1x16x96_1_2 (f 10)⟩, ⟨S1x16x96, broadcastInDim S1x16x96 ![1, 2] bcast_S16x96_S1x16x96_1_2 (f 11)⟩, ⟨S1x16x96, broadcastInDim S1x16x96 ![1, 2] bcast_S16x96_S1x16x96_1_2 (f 12)⟩, ⟨S1x16x96, broadcastInDim S1x16x96 ![1, 2] bcast_S16x96_S1x16x96_1_2 (f 13)⟩, ⟨S1x16x96, broadcastInDim S1x16x96 ![1, 2] bcast_S16x96_S1x16x96_1_2 (f 14)⟩, ⟨S1x16x96, broadcastInDim S1x16x96 ![1, 2] bcast_S16x96_S1x16x96_1_2 (f 15)⟩] concatenates_S1x16x96_S1x16x96_S1x16x96_S1x16x96_S1x16x96_S1x16x96_S1x16x96_S1x16x96_S1x16x96_S1x16x96_S1x16x96_S1x16x96_S1x16x96_S1x16x96_S1x16x96_S1x16x96_S16x16x96_d0⟩, ⟨S10x16x96, concatenate S10x16x96 0 [⟨S1x16x96, broadcastInDim S1x16x96 ![1, 2] bcast_S16x96_S1x16x96_1_2 (f 16)⟩, ⟨S1x16x96, broadcastInDim S1x16x96 ![1, 2] bcast_S16x96_S1x16x96_1_2 (f 17)⟩, ⟨S1x16x96, broadcastInDim S1x16x96 ![1, 2] bcast_S16x96_S1x16x96_1_2 (f 18)⟩, ⟨S1x16x96, broadcastInDim S1x16x96 ![1, 2] bcast_S16x96_S1x16x96_1_2 (f 19)⟩, ⟨S1x16x96, broadcastInDim S1x16x96 ![1, 2] bcast_S16x96_S1x16x96_1_2 (f 20)⟩, ⟨S1x16x96, broadcastInDim S1x16x96 ![1, 2] bcast_S16x96_S1x16x96_1_2 (f 21)⟩, ⟨S1x16x96, broadcastInDim S1x16x96 ![1, 2] bcast_S16x96_S1x16x96_1_2 (f 22)⟩, ⟨S1x16x96, broadcastInDim S1x16x96 ![1, 2] bcast_S16x96_S1x16x96_1_2 (f 23)⟩, ⟨S1x16x96, broadcastInDim S1x16x96 ![1, 2] bcast_S16x96_S1x16x96_1_2 (f 24)⟩, ⟨S1x16x96, broadcastInDim S1x16x96 ![1, 2] bcast_S16x96_S1x16x96_1_2 (f 25)⟩] concatenates_S1x16x96_S1x16x96_S1x16x96_S1x16x96_S1x16x96_S1x16x96_S1x16x96_S1x16x96_S1x16x96_S1x16x96_S10x16x96_d0⟩] concatenates_S16x16x96_S10x16x96_S26x16x96_d0) shapeCasts_S26x16x96_S416x96

/-- A block's row in the stack. -/
theorem stack26_at (f : Fin 26 → FVec Ideal S16x96 .f32) (x : Fin 26) (d : Fin 16) (k : Fin 96) :
    stack26 f (ix2 ⟨x.val * 16 + d.val, by omega⟩ k) = f x (ix2 d k) := by
  have hs : ∀ q : FVec Ideal S26x16x96 .f32, shapeCast S416x96 q shapeCasts_S26x16x96_S416x96 (ix2 ⟨x.val * 16 + d.val, by omega⟩ k) = q (ix3 x d k) := fun q => by
    pointwise []
    try (congr 1; idx_ext <;> omega)
  unfold stack26
  rw [hs]
  pointwise []
  fin_vals x with hx
  all_goals simp [hx]
  all_goals exact congrArg (fun q => f q (ix2 d k)) (Fin.ext hx.symm)

/-- Four blocks of 32 rows, one above another. -/
def stack4 (f : Fin 4 → FVec Ideal S32x288 .f32) : FVec Ideal S128x288 .f32 :=
  shapeCast S128x288 (concatenate S4x32x288 0 [⟨S1x32x288, broadcastInDim S1x32x288 ![1, 2] bcast_S32x288_S1x32x288_1_2 (f 0)⟩, ⟨S1x32x288, broadcastInDim S1x32x288 ![1, 2] bcast_S32x288_S1x32x288_1_2 (f 1)⟩, ⟨S1x32x288, broadcastInDim S1x32x288 ![1, 2] bcast_S32x288_S1x32x288_1_2 (f 2)⟩, ⟨S1x32x288, broadcastInDim S1x32x288 ![1, 2] bcast_S32x288_S1x32x288_1_2 (f 3)⟩] concatenates_S1x32x288_S1x32x288_S1x32x288_S1x32x288_S4x32x288_d0) shapeCasts_S4x32x288_S128x288

/-- A block's row in the stack. -/
theorem stack4_at (f : Fin 4 → FVec Ideal S32x288 .f32) (x : Fin 4) (d : Fin 32) (k : Fin 288) :
    stack4 f (ix2 ⟨x.val * 32 + d.val, by omega⟩ k) = f x (ix2 d k) := by
  have hs : ∀ q : FVec Ideal S4x32x288 .f32, shapeCast S128x288 q shapeCasts_S4x32x288_S128x288 (ix2 ⟨x.val * 32 + d.val, by omega⟩ k) = q (ix3 x d k) := fun q => by
    pointwise []
    try (congr 1; idx_ext <;> omega)
  unfold stack4
  rw [hs]
  pointwise []
  fin_vals x with hx
  all_goals simp [hx]
  all_goals exact congrArg (fun q => f q (ix2 d k)) (Fin.ext hx.symm)

end Cert.KernelIdeal.Alg

end
-- ==== Proof.HostI.lean ====
module

public import proofs.«01_k».proof.Proof.Gen.KernelIdeal.Regions
public import proofs.«01_k».proof.Proof.Stack
public import Idealize.ShloMosaic.Lib.Pipeline.ValueKit
public import Idealize.ShloMosaic.Lib.StableHlo.Run

@[expose] public section

set_option maxRecDepth 16384

noncomputable section

namespace Cert.KernelIdeal.Alg

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- What the stretches from here to stretch 52 write. -/
abbrev Wa52 : List (Ref sig .tc) := []
/-- A buffer none of those writes. -/
theorem keepa52 (c : Dev nD) (r : Ref sig .tc) (h : r ∉ Wa52) : V52 m c r = V52 m c r := rfl

/-- What the stretches from here to stretch 52 write. -/
abbrev Wa51 : List (Ref sig .tc) := hostOps0_51_W ++ Wa52
/-- A buffer none of those writes. -/
theorem keepa51 (c : Dev nD) (r : Ref sig .tc) (h : r ∉ Wa51) : V52 m c r = V51 m c r :=
  (keepa52 m c r fun q => h (List.mem_append_right _ q)).trans (V52_of m c r fun q => h (List.mem_append_left _ q))

/-- What the stretches from here to stretch 52 write. -/
abbrev Wa50 : List (Ref sig .tc) := hostOps0_50_W ++ Wa51
/-- A buffer none of those writes. -/
theorem keepa50 (c : Dev nD) (r : Ref sig .tc) (h : r ∉ Wa50) : V52 m c r = V50 m c r :=
  (keepa51 m c r fun q => h (List.mem_append_right _ q)).trans (V51_of m c r fun q => h (List.mem_append_left _ q))

/-- What the stretches from here to stretch 52 write. -/
abbrev Wa49 : List (Ref sig .tc) := hostOps0_49_W ++ Wa50
/-- A buffer none of those writes. -/
theorem keepa49 (c : Dev nD) (r : Ref sig .tc) (h : r ∉ Wa49) : V52 m c r = V49 m c r :=
  (keepa50 m c r fun q => h (List.mem_append_right _ q)).trans (V50_of m c r fun q => h (List.mem_append_left _ q))

/-- What the stretches from here to stretch 52 write. -/
abbrev Wa48 : List (Ref sig .tc) := hostOps0_48_W ++ Wa49
/-- A buffer none of those writes. -/
theorem keepa48 (c : Dev nD) (r : Ref sig .tc) (h : r ∉ Wa48) : V52 m c r = V48 m c r :=
  (keepa49 m c r fun q => h (List.mem_append_right _ q)).trans (V49_of m c r fun q => h (List.mem_append_left _ q))

/-- What the stretches from here to stretch 52 write. -/
abbrev Wa47 : List (Ref sig .tc) := hostOps0_47_W ++ Wa48
/-- A buffer none of those writes. -/
theorem keepa47 (c : Dev nD) (r : Ref sig .tc) (h : r ∉ Wa47) : V52 m c r = V47 m c r :=
  (keepa48 m c r fun q => h (List.mem_append_right _ q)).trans (V48_of m c r fun q => h (List.mem_append_left _ q))

/-- What the stretches from here to stretch 52 write. -/
abbrev Wa46 : List (Ref sig .tc) := hostOps0_46_W ++ Wa47
/-- A buffer none of those writes. -/
theorem keepa46 (c : Dev nD) (r : Ref sig .tc) (h : r ∉ Wa46) : V52 m c r = V46 m c r :=
  (keepa47 m c r fun q => h (List.mem_append_right _ q)).trans (V47_of m c r fun q => h (List.mem_append_left _ q))

/-- What the stretches from here to stretch 52 write. -/
abbrev Wa45 : List (Ref sig .tc) := hostOps0_45_W ++ Wa46
/-- A buffer none of those writes. -/
theorem keepa45 (c : Dev nD) (r : Ref sig .tc) (h : r ∉ Wa45) : V52 m c r = V45 m c r :=
  (keepa46 m c r fun q => h (List.mem_append_right _ q)).trans (V46_of m c r fun q => h (List.mem_append_left _ q))

/-- What the stretches from here to stretch 52 write. -/
abbrev Wa44 : List (Ref sig .tc) := hostOps0_44_W ++ Wa45
/-- A buffer none of those writes. -/
theorem keepa44 (c : Dev nD) (r : Ref sig .tc) (h : r ∉ Wa44) : V52 m c r = V44 m c r :=
  (keepa45 m c r fun q => h (List.mem_append_right _ q)).trans (V45_of m c r fun q => h (List.mem_append_left _ q))

/-- What the stretches from here to stretch 52 write. -/
abbrev Wa43 : List (Ref sig .tc) := hostOps0_43_W ++ Wa44
/-- A buffer none of those writes. -/
theorem keepa43 (c : Dev nD) (r : Ref sig .tc) (h : r ∉ Wa43) : V52 m c r = V43 m c r :=
  (keepa44 m c r fun q => h (List.mem_append_right _ q)).trans (V44_of m c r fun q => h (List.mem_append_left _ q))

/-- What the stretches from here to stretch 52 write. -/
abbrev Wa42 : List (Ref sig .tc) := hostOps0_42_W ++ Wa43
/-- A buffer none of those writes. -/
theorem keepa42 (c : Dev nD) (r : Ref sig .tc) (h : r ∉ Wa42) : V52 m c r = V42 m c r :=
  (keepa43 m c r fun q => h (List.mem_append_right _ q)).trans (V43_of m c r fun q => h (List.mem_append_left _ q))

/-- What the stretches from here to stretch 52 write. -/
abbrev Wa41 : List (Ref sig .tc) := hostOps0_41_W ++ Wa42
/-- A buffer none of those writes. -/
theorem keepa41 (c : Dev nD) (r : Ref sig .tc) (h : r ∉ Wa41) : V52 m c r = V41 m c r :=
  (keepa42 m c r fun q => h (List.mem_append_right _ q)).trans (V42_of m c r fun q => h (List.mem_append_left _ q))

/-- What the stretches from here to stretch 52 write. -/
abbrev Wa40 : List (Ref sig .tc) := hostOps0_40_W ++ Wa41
/-- A buffer none of those writes. -/
theorem keepa40 (c : Dev nD) (r : Ref sig .tc) (h : r ∉ Wa40) : V52 m c r = V40 m c r :=
  (keepa41 m c r fun q => h (List.mem_append_right _ q)).trans (V41_of m c r fun q => h (List.mem_append_left _ q))

/-- What the stretches from here to stretch 52 write. -/
abbrev Wa39 : List (Ref sig .tc) := hostOps0_39_W ++ Wa40
/-- A buffer none of those writes. -/
theorem keepa39 (c : Dev nD) (r : Ref sig .tc) (h : r ∉ Wa39) : V52 m c r = V39 m c r :=
  (keepa40 m c r fun q => h (List.mem_append_right _ q)).trans (V40_of m c r fun q => h (List.mem_append_left _ q))

/-- What the stretches from here to stretch 52 write. -/
abbrev Wa38 : List (Ref sig .tc) := hostOps0_38_W ++ Wa39
/-- A buffer none of those writes. -/
theorem keepa38 (c : Dev nD) (r : Ref sig .tc) (h : r ∉ Wa38) : V52 m c r = V38 m c r :=
  (keepa39 m c r fun q => h (List.mem_append_right _ q)).trans (V39_of m c r fun q => h (List.mem_append_left _ q))

/-- What the stretches from here to stretch 52 write. -/
abbrev Wa37 : List (Ref sig .tc) := hostOps0_37_W ++ Wa38
/-- A buffer none of those writes. -/
theorem keepa37 (c : Dev nD) (r : Ref sig .tc) (h : r ∉ Wa37) : V52 m c r = V37 m c r :=
  (keepa38 m c r fun q => h (List.mem_append_right _ q)).trans (V38_of m c r fun q => h (List.mem_append_left _ q))

/-- What the stretches from here to stretch 52 write. -/
abbrev Wa36 : List (Ref sig .tc) := hostOps0_36_W ++ Wa37
/-- A buffer none of those writes. -/
theorem keepa36 (c : Dev nD) (r : Ref sig .tc) (h : r ∉ Wa36) : V52 m c r = V36 m c r :=
  (keepa37 m c r fun q => h (List.mem_append_right _ q)).trans (V37_of m c r fun q => h (List.mem_append_left _ q))

/-- What the stretches from here to stretch 52 write. -/
abbrev Wa35 : List (Ref sig .tc) := hostOps0_35_W ++ Wa36
/-- A buffer none of those writes. -/
theorem keepa35 (c : Dev nD) (r : Ref sig .tc) (h : r ∉ Wa35) : V52 m c r = V35 m c r :=
  (keepa36 m c r fun q => h (List.mem_append_right _ q)).trans (V36_of m c r fun q => h (List.mem_append_left _ q))

/-- What the stretches from here to stretch 52 write. -/
abbrev Wa34 : List (Ref sig .tc) := hostOps0_34_W ++ Wa35
/-- A buffer none of those writes. -/
theorem keepa34 (c : Dev nD) (r : Ref sig .tc) (h : r ∉ Wa34) : V52 m c r = V34 m c r :=
  (keepa35 m c r fun q => h (List.mem_append_right _ q)).trans (V35_of m c r fun q => h (List.mem_append_left _ q))

/-- What the stretches from here to stretch 52 write. -/
abbrev Wa33 : List (Ref sig .tc) := hostOps0_33_W ++ Wa34
/-- A buffer none of those writes. -/
theorem keepa33 (c : Dev nD) (r : Ref sig .tc) (h : r ∉ Wa33) : V52 m c r = V33 m c r :=
  (keepa34 m c r fun q => h (List.mem_append_right _ q)).trans (V34_of m c r fun q => h (List.mem_append_left _ q))

/-- What the stretches from here to stretch 52 write. -/
abbrev Wa32 : List (Ref sig .tc) := hostOps0_32_W ++ Wa33
/-- A buffer none of those writes. -/
theorem keepa32 (c : Dev nD) (r : Ref sig .tc) (h : r ∉ Wa32) : V52 m c r = V32 m c r :=
  (keepa33 m c r fun q => h (List.mem_append_right _ q)).trans (V33_of m c r fun q => h (List.mem_append_left _ q))

/-- What the stretches from here to stretch 52 write. -/
abbrev Wa31 : List (Ref sig .tc) := hostOps0_31_W ++ Wa32
/-- A buffer none of those writes. -/
theorem keepa31 (c : Dev nD) (r : Ref sig .tc) (h : r ∉ Wa31) : V52 m c r = V31 m c r :=
  (keepa32 m c r fun q => h (List.mem_append_right _ q)).trans (V32_of m c r fun q => h (List.mem_append_left _ q))

/-- What the stretches from here to stretch 52 write. -/
abbrev Wa30 : List (Ref sig .tc) := hostOps0_30_W ++ Wa31
/-- A buffer none of those writes. -/
theorem keepa30 (c : Dev nD) (r : Ref sig .tc) (h : r ∉ Wa30) : V52 m c r = V30 m c r :=
  (keepa31 m c r fun q => h (List.mem_append_right _ q)).trans (V31_of m c r fun q => h (List.mem_append_left _ q))

/-- What the stretches from here to stretch 52 write. -/
abbrev Wa29 : List (Ref sig .tc) := hostOps0_29_W ++ Wa30
/-- A buffer none of those writes. -/
theorem keepa29 (c : Dev nD) (r : Ref sig .tc) (h : r ∉ Wa29) : V52 m c r = V29 m c r :=
  (keepa30 m c r fun q => h (List.mem_append_right _ q)).trans (V30_of m c r fun q => h (List.mem_append_left _ q))

/-- What the stretches from here to stretch 52 write. -/
abbrev Wa28 : List (Ref sig .tc) := hostOps0_28_W ++ Wa29
/-- A buffer none of those writes. -/
theorem keepa28 (c : Dev nD) (r : Ref sig .tc) (h : r ∉ Wa28) : V52 m c r = V28 m c r :=
  (keepa29 m c r fun q => h (List.mem_append_right _ q)).trans (V29_of m c r fun q => h (List.mem_append_left _ q))

/-- What the stretches from here to stretch 52 write. -/
abbrev Wa27 : List (Ref sig .tc) := hostOps0_27_W ++ Wa28
/-- A buffer none of those writes. -/
theorem keepa27 (c : Dev nD) (r : Ref sig .tc) (h : r ∉ Wa27) : V52 m c r = V27 m c r :=
  (keepa28 m c r fun q => h (List.mem_append_right _ q)).trans (V28_of m c r fun q => h (List.mem_append_left _ q))

/-- What the stretches from here to stretch 52 write. -/
abbrev Wa26 : List (Ref sig .tc) := hostOps0_26_W ++ Wa27
/-- A buffer none of those writes. -/
theorem keepa26 (c : Dev nD) (r : Ref sig .tc) (h : r ∉ Wa26) : V52 m c r = V26 m c r :=
  (keepa27 m c r fun q => h (List.mem_append_right _ q)).trans (V27_of m c r fun q => h (List.mem_append_left _ q))

/-- What the stretches from here to stretch 52 write. -/
abbrev Wa25 : List (Ref sig .tc) := hostOps0_25_W ++ Wa26
/-- A buffer none of those writes. -/
theorem keepa25 (c : Dev nD) (r : Ref sig .tc) (h : r ∉ Wa25) : V52 m c r = V25 m c r :=
  (keepa26 m c r fun q => h (List.mem_append_right _ q)).trans (V26_of m c r fun q => h (List.mem_append_left _ q))

/-- What the stretches from here to stretch 52 write. -/
abbrev Wa24 : List (Ref sig .tc) := hostOps0_24_W ++ Wa25
/-- A buffer none of those writes. -/
theorem keepa24 (c : Dev nD) (r : Ref sig .tc) (h : r ∉ Wa24) : V52 m c r = V24 m c r :=
  (keepa25 m c r fun q => h (List.mem_append_right _ q)).trans (V25_of m c r fun q => h (List.mem_append_left _ q))

/-- What the stretches from here to stretch 52 write. -/
abbrev Wa23 : List (Ref sig .tc) := hostOps0_23_W ++ Wa24
/-- A buffer none of those writes. -/
theorem keepa23 (c : Dev nD) (r : Ref sig .tc) (h : r ∉ Wa23) : V52 m c r = V23 m c r :=
  (keepa24 m c r fun q => h (List.mem_append_right _ q)).trans (V24_of m c r fun q => h (List.mem_append_left _ q))

/-- What the stretches from here to stretch 52 write. -/
abbrev Wa22 : List (Ref sig .tc) := hostOps0_22_W ++ Wa23
/-- A buffer none of those writes. -/
theorem keepa22 (c : Dev nD) (r : Ref sig .tc) (h : r ∉ Wa22) : V52 m c r = V22 m c r :=
  (keepa23 m c r fun q => h (List.mem_append_right _ q)).trans (V23_of m c r fun q => h (List.mem_append_left _ q))

/-- What the stretches from here to stretch 52 write. -/
abbrev Wa21 : List (Ref sig .tc) := hostOps0_21_W ++ Wa22
/-- A buffer none of those writes. -/
theorem keepa21 (c : Dev nD) (r : Ref sig .tc) (h : r ∉ Wa21) : V52 m c r = V21 m c r :=
  (keepa22 m c r fun q => h (List.mem_append_right _ q)).trans (V22_of m c r fun q => h (List.mem_append_left _ q))

/-- What the stretches from here to stretch 52 write. -/
abbrev Wa20 : List (Ref sig .tc) := hostOps0_20_W ++ Wa21
/-- A buffer none of those writes. -/
theorem keepa20 (c : Dev nD) (r : Ref sig .tc) (h : r ∉ Wa20) : V52 m c r = V20 m c r :=
  (keepa21 m c r fun q => h (List.mem_append_right _ q)).trans (V21_of m c r fun q => h (List.mem_append_left _ q))

/-- What the stretches from here to stretch 52 write. -/
abbrev Wa19 : List (Ref sig .tc) := hostOps0_19_W ++ Wa20
/-- A buffer none of those writes. -/
theorem keepa19 (c : Dev nD) (r : Ref sig .tc) (h : r ∉ Wa19) : V52 m c r = V19 m c r :=
  (keepa20 m c r fun q => h (List.mem_append_right _ q)).trans (V20_of m c r fun q => h (List.mem_append_left _ q))

/-- What the stretches from here to stretch 52 write. -/
abbrev Wa18 : List (Ref sig .tc) := hostOps0_18_W ++ Wa19
/-- A buffer none of those writes. -/
theorem keepa18 (c : Dev nD) (r : Ref sig .tc) (h : r ∉ Wa18) : V52 m c r = V18 m c r :=
  (keepa19 m c r fun q => h (List.mem_append_right _ q)).trans (V19_of m c r fun q => h (List.mem_append_left _ q))

/-- What the stretches from here to stretch 52 write. -/
abbrev Wa17 : List (Ref sig .tc) := hostOps0_17_W ++ Wa18
/-- A buffer none of those writes. -/
theorem keepa17 (c : Dev nD) (r : Ref sig .tc) (h : r ∉ Wa17) : V52 m c r = V17 m c r :=
  (keepa18 m c r fun q => h (List.mem_append_right _ q)).trans (V18_of m c r fun q => h (List.mem_append_left _ q))

/-- What the stretches from here to stretch 52 write. -/
abbrev Wa16 : List (Ref sig .tc) := hostOps0_16_W ++ Wa17
/-- A buffer none of those writes. -/
theorem keepa16 (c : Dev nD) (r : Ref sig .tc) (h : r ∉ Wa16) : V52 m c r = V16 m c r :=
  (keepa17 m c r fun q => h (List.mem_append_right _ q)).trans (V17_of m c r fun q => h (List.mem_append_left _ q))

/-- What the stretches from here to stretch 52 write. -/
abbrev Wa15 : List (Ref sig .tc) := hostOps0_15_W ++ Wa16
/-- A buffer none of those writes. -/
theorem keepa15 (c : Dev nD) (r : Ref sig .tc) (h : r ∉ Wa15) : V52 m c r = V15 m c r :=
  (keepa16 m c r fun q => h (List.mem_append_right _ q)).trans (V16_of m c r fun q => h (List.mem_append_left _ q))

/-- What the stretches from here to stretch 52 write. -/
abbrev Wa14 : List (Ref sig .tc) := hostOps0_14_W ++ Wa15
/-- A buffer none of those writes. -/
theorem keepa14 (c : Dev nD) (r : Ref sig .tc) (h : r ∉ Wa14) : V52 m c r = V14 m c r :=
  (keepa15 m c r fun q => h (List.mem_append_right _ q)).trans (V15_of m c r fun q => h (List.mem_append_left _ q))

/-- What the stretches from here to stretch 52 write. -/
abbrev Wa13 : List (Ref sig .tc) := hostOps0_13_W ++ Wa14
/-- A buffer none of those writes. -/
theorem keepa13 (c : Dev nD) (r : Ref sig .tc) (h : r ∉ Wa13) : V52 m c r = V13 m c r :=
  (keepa14 m c r fun q => h (List.mem_append_right _ q)).trans (V14_of m c r fun q => h (List.mem_append_left _ q))

/-- What the stretches from here to stretch 52 write. -/
abbrev Wa12 : List (Ref sig .tc) := hostOps0_12_W ++ Wa13
/-- A buffer none of those writes. -/
theorem keepa12 (c : Dev nD) (r : Ref sig .tc) (h : r ∉ Wa12) : V52 m c r = V12 m c r :=
  (keepa13 m c r fun q => h (List.mem_append_right _ q)).trans (V13_of m c r fun q => h (List.mem_append_left _ q))

/-- What the stretches from here to stretch 52 write. -/
abbrev Wa11 : List (Ref sig .tc) := hostOps0_11_W ++ Wa12
/-- A buffer none of those writes. -/
theorem keepa11 (c : Dev nD) (r : Ref sig .tc) (h : r ∉ Wa11) : V52 m c r = V11 m c r :=
  (keepa12 m c r fun q => h (List.mem_append_right _ q)).trans (V12_of m c r fun q => h (List.mem_append_left _ q))

/-- What the stretches from here to stretch 52 write. -/
abbrev Wa10 : List (Ref sig .tc) := hostOps0_10_W ++ Wa11
/-- A buffer none of those writes. -/
theorem keepa10 (c : Dev nD) (r : Ref sig .tc) (h : r ∉ Wa10) : V52 m c r = V10 m c r :=
  (keepa11 m c r fun q => h (List.mem_append_right _ q)).trans (V11_of m c r fun q => h (List.mem_append_left _ q))

/-- What the stretches from here to stretch 52 write. -/
abbrev Wa9 : List (Ref sig .tc) := hostOps0_9_W ++ Wa10
/-- A buffer none of those writes. -/
theorem keepa9 (c : Dev nD) (r : Ref sig .tc) (h : r ∉ Wa9) : V52 m c r = V9 m c r :=
  (keepa10 m c r fun q => h (List.mem_append_right _ q)).trans (V10_of m c r fun q => h (List.mem_append_left _ q))

/-- What the stretches from here to stretch 52 write. -/
abbrev Wa8 : List (Ref sig .tc) := hostOps0_8_W ++ Wa9
/-- A buffer none of those writes. -/
theorem keepa8 (c : Dev nD) (r : Ref sig .tc) (h : r ∉ Wa8) : V52 m c r = V8 m c r :=
  (keepa9 m c r fun q => h (List.mem_append_right _ q)).trans (V9_of m c r fun q => h (List.mem_append_left _ q))

/-- What the stretches from here to stretch 52 write. -/
abbrev Wa7 : List (Ref sig .tc) := hostOps0_7_W ++ Wa8
/-- A buffer none of those writes. -/
theorem keepa7 (c : Dev nD) (r : Ref sig .tc) (h : r ∉ Wa7) : V52 m c r = V7 m c r :=
  (keepa8 m c r fun q => h (List.mem_append_right _ q)).trans (V8_of m c r fun q => h (List.mem_append_left _ q))

/-- What the stretches from here to stretch 52 write. -/
abbrev Wa6 : List (Ref sig .tc) := hostOps0_6_W ++ Wa7
/-- A buffer none of those writes. -/
theorem keepa6 (c : Dev nD) (r : Ref sig .tc) (h : r ∉ Wa6) : V52 m c r = V6 m c r :=
  (keepa7 m c r fun q => h (List.mem_append_right _ q)).trans (V7_of m c r fun q => h (List.mem_append_left _ q))

/-- What the stretches from here to stretch 52 write. -/
abbrev Wa5 : List (Ref sig .tc) := hostOps0_5_W ++ Wa6
/-- A buffer none of those writes. -/
theorem keepa5 (c : Dev nD) (r : Ref sig .tc) (h : r ∉ Wa5) : V52 m c r = V5 m c r :=
  (keepa6 m c r fun q => h (List.mem_append_right _ q)).trans (V6_of m c r fun q => h (List.mem_append_left _ q))

/-- What the stretches from here to stretch 52 write. -/
abbrev Wa4 : List (Ref sig .tc) := hostOps0_4_W ++ Wa5
/-- A buffer none of those writes. -/
theorem keepa4 (c : Dev nD) (r : Ref sig .tc) (h : r ∉ Wa4) : V52 m c r = V4 m c r :=
  (keepa5 m c r fun q => h (List.mem_append_right _ q)).trans (V5_of m c r fun q => h (List.mem_append_left _ q))

/-- What the stretches from here to stretch 52 write. -/
abbrev Wa3 : List (Ref sig .tc) := hostOps0_3_W ++ Wa4
/-- A buffer none of those writes. -/
theorem keepa3 (c : Dev nD) (r : Ref sig .tc) (h : r ∉ Wa3) : V52 m c r = V3 m c r :=
  (keepa4 m c r fun q => h (List.mem_append_right _ q)).trans (V4_of m c r fun q => h (List.mem_append_left _ q))

/-- What the stretches from here to stretch 52 write. -/
abbrev Wa2 : List (Ref sig .tc) := hostOps0_2_W ++ Wa3
/-- A buffer none of those writes. -/
theorem keepa2 (c : Dev nD) (r : Ref sig .tc) (h : r ∉ Wa2) : V52 m c r = V2 m c r :=
  (keepa3 m c r fun q => h (List.mem_append_right _ q)).trans (V3_of m c r fun q => h (List.mem_append_left _ q))

/-- What the stretches from here to stretch 52 write. -/
abbrev Wa1 : List (Ref sig .tc) := hostOps0_1_W ++ Wa2
/-- A buffer none of those writes. -/
theorem keepa1 (c : Dev nD) (r : Ref sig .tc) (h : r ∉ Wa1) : V52 m c r = V1 m c r :=
  (keepa2 m c r fun q => h (List.mem_append_right _ q)).trans (V2_of m c r fun q => h (List.mem_append_left _ q))

/-- What the stretches from here to stretch 61 write. -/
abbrev Wb61 : List (Ref sig .tc) := []
/-- A buffer none of those writes. -/
theorem keepb61 (c : Dev nD) (r : Ref sig .tc) (h : r ∉ Wb61) : V61 m c r = V61 m c r := rfl

/-- What the stretches from here to stretch 61 write. -/
abbrev Wb60 : List (Ref sig .tc) := hostOps0_60_W ++ Wb61
/-- A buffer none of those writes. -/
theorem keepb60 (c : Dev nD) (r : Ref sig .tc) (h : r ∉ Wb60) : V61 m c r = V60 m c r :=
  (keepb61 m c r fun q => h (List.mem_append_right _ q)).trans (V61_of m c r fun q => h (List.mem_append_left _ q))

/-- What the stretches from here to stretch 61 write. -/
abbrev Wb59 : List (Ref sig .tc) := hostOps0_59_W ++ Wb60
/-- A buffer none of those writes. -/
theorem keepb59 (c : Dev nD) (r : Ref sig .tc) (h : r ∉ Wb59) : V61 m c r = V59 m c r :=
  (keepb60 m c r fun q => h (List.mem_append_right _ q)).trans (V60_of m c r fun q => h (List.mem_append_left _ q))

/-- What the stretches from here to stretch 61 write. -/
abbrev Wb58 : List (Ref sig .tc) := hostOps0_58_W ++ Wb59
/-- A buffer none of those writes. -/
theorem keepb58 (c : Dev nD) (r : Ref sig .tc) (h : r ∉ Wb58) : V61 m c r = V58 m c r :=
  (keepb59 m c r fun q => h (List.mem_append_right _ q)).trans (V59_of m c r fun q => h (List.mem_append_left _ q))

/-- What the stretches from here to stretch 61 write. -/
abbrev Wb57 : List (Ref sig .tc) := hostOps0_57_W ++ Wb58
/-- A buffer none of those writes. -/
theorem keepb57 (c : Dev nD) (r : Ref sig .tc) (h : r ∉ Wb57) : V61 m c r = V57 m c r :=
  (keepb58 m c r fun q => h (List.mem_append_right _ q)).trans (V58_of m c r fun q => h (List.mem_append_left _ q))

/-- What the stretches from here to stretch 61 write. -/
abbrev Wb56 : List (Ref sig .tc) := hostOps0_56_W ++ Wb57
/-- A buffer none of those writes. -/
theorem keepb56 (c : Dev nD) (r : Ref sig .tc) (h : r ∉ Wb56) : V61 m c r = V56 m c r :=
  (keepb57 m c r fun q => h (List.mem_append_right _ q)).trans (V57_of m c r fun q => h (List.mem_append_left _ q))

/-- What the stretches from here to stretch 61 write. -/
abbrev Wb55 : List (Ref sig .tc) := hostOps0_55_W ++ Wb56
/-- A buffer none of those writes. -/
theorem keepb55 (c : Dev nD) (r : Ref sig .tc) (h : r ∉ Wb55) : V61 m c r = V55 m c r :=
  (keepb56 m c r fun q => h (List.mem_append_right _ q)).trans (V56_of m c r fun q => h (List.mem_append_left _ q))

/-- What the stretches from here to stretch 61 write. -/
abbrev Wb54 : List (Ref sig .tc) := hostOps0_54_W ++ Wb55
/-- A buffer none of those writes. -/
theorem keepb54 (c : Dev nD) (r : Ref sig .tc) (h : r ∉ Wb54) : V61 m c r = V54 m c r :=
  (keepb55 m c r fun q => h (List.mem_append_right _ q)).trans (V55_of m c r fun q => h (List.mem_append_left _ q))

/-- What the stretches from here to stretch 61 write. -/
abbrev Wb53 : List (Ref sig .tc) := hostOps0_53_W ++ Wb54
/-- A buffer none of those writes. -/
theorem keepb53 (c : Dev nD) (r : Ref sig .tc) (h : r ∉ Wb53) : V61 m c r = V53 m c r :=
  (keepb54 m c r fun q => h (List.mem_append_right _ q)).trans (V54_of m c r fun q => h (List.mem_append_left _ q))

/-- What the stretches from here to stretch 61 write. -/
abbrev Wb52 : List (Ref sig .tc) := hostOps0_52_W ++ Wb53
/-- A buffer none of those writes. -/
theorem keepb52 (c : Dev nD) (r : Ref sig .tc) (h : r ∉ Wb52) : V61 m c r = V52 m c r :=
  (keepb53 m c r fun q => h (List.mem_append_right _ q)).trans (V53_of m c r fun q => h (List.mem_append_left _ q))

/-- The first filters, their unit axis dropped. -/
abbrev w1 (c : Dev nD) : FVec Ideal S3x3x16 .f32 := shapeCast S3x3x16 (m ((c : Thread nD τ).loc main_arg2)) shapeCasts_S3x3x1x16_S3x3x16

/-- They are in their buffer from the first stretch on. -/
theorem V1_v2 (c : Dev nD) : V1 m c main_v2 = w1 m c := by
  show StableHlo.after hostOps0 (V0 m c) (Proc.devRef .tc main_v2) = _
  after_results_simp
  rfl

/-- The block at offset 0. -/
theorem pad0 (c : Dev nD) : V3 m c main_v5 = rows 0 29 pads_S3x3x16_S3x32x16_000_0290_000 (w1 m c) := by
  show StableHlo.after hostOps0_2 (StableHlo.after hostOps0_1 (StableHlo.after hostOps0 (V0 m c))) (Proc.devRef .tc main_v5) = _
  after_results_simp
  rfl

/-- The block at offset 1, over any contents. -/
theorem pad1_of (V : Valuation τ sig (Elt Ideal)) :
    StableHlo.after hostOps0_4 (StableHlo.after hostOps0_3 (StableHlo.after hostOps0_2 V)) (Proc.devRef .tc main_v8)
      = rows 1 28 pads_S3x3x16_S3x32x16_000_1280_000 (V (Proc.devRef .tc main_v2)) := by
  after_results_simp
  rfl
/-- The block at offset 1. -/
theorem pad1 (c : Dev nD) : V5 m c main_v8 = rows 1 28 pads_S3x3x16_S3x32x16_000_1280_000 (w1 m c) :=
  (pad1_of (V2 m c)).trans (congrArg (rows 1 28 pads_S3x3x16_S3x32x16_000_1280_000) (((keepa2 m c main_v2 (by decide)).symm.trans (keepa1 m c main_v2 (by decide))).trans (V1_v2 m c)))

/-- The block at offset 2, over any contents. -/
theorem pad2_of (V : Valuation τ sig (Elt Ideal)) :
    StableHlo.after hostOps0_6 (StableHlo.after hostOps0_5 (StableHlo.after hostOps0_4 V)) (Proc.devRef .tc main_v11)
      = rows 2 27 pads_S3x3x16_S3x32x16_000_2270_000 (V (Proc.devRef .tc main_v2)) := by
  after_results_simp
  rfl
/-- The block at offset 2. -/
theorem pad2 (c : Dev nD) : V7 m c main_v11 = rows 2 27 pads_S3x3x16_S3x32x16_000_2270_000 (w1 m c) :=
  (pad2_of (V4 m c)).trans (congrArg (rows 2 27 pads_S3x3x16_S3x32x16_000_2270_000) (((keepa4 m c main_v2 (by decide)).symm.trans (keepa1 m c main_v2 (by decide))).trans (V1_v2 m c)))

/-- The block at offset 3, over any contents. -/
theorem pad3_of (V : Valuation τ sig (Elt Ideal)) :
    StableHlo.after hostOps0_8 (StableHlo.after hostOps0_7 (StableHlo.after hostOps0_6 V)) (Proc.devRef .tc main_v14)
      = rows 3 26 pads_S3x3x16_S3x32x16_000_3260_000 (V (Proc.devRef .tc main_v2)) := by
  after_results_simp
  rfl
/-- The block at offset 3. -/
theorem pad3 (c : Dev nD) : V9 m c main_v14 = rows 3 26 pads_S3x3x16_S3x32x16_000_3260_000 (w1 m c) :=
  (pad3_of (V6 m c)).trans (congrArg (rows 3 26 pads_S3x3x16_S3x32x16_000_3260_000) (((keepa6 m c main_v2 (by decide)).symm.trans (keepa1 m c main_v2 (by decide))).trans (V1_v2 m c)))

/-- The block at offset 4, over any contents. -/
theorem pad4_of (V : Valuation τ sig (Elt Ideal)) :
    StableHlo.after hostOps0_10 (StableHlo.after hostOps0_9 (StableHlo.after hostOps0_8 V)) (Proc.devRef .tc main_v17)
      = rows 4 25 pads_S3x3x16_S3x32x16_000_4250_000 (V (Proc.devRef .tc main_v2)) := by
  after_results_simp
  rfl
/-- The block at offset 4. -/
theorem pad4 (c : Dev nD) : V11 m c main_v17 = rows 4 25 pads_S3x3x16_S3x32x16_000_4250_000 (w1 m c) :=
  (pad4_of (V8 m c)).trans (congrArg (rows 4 25 pads_S3x3x16_S3x32x16_000_4250_000) (((keepa8 m c main_v2 (by decide)).symm.trans (keepa1 m c main_v2 (by decide))).trans (V1_v2 m c)))

/-- The block at offset 5, over any contents. -/
theorem pad5_of (V : Valuation τ sig (Elt Ideal)) :
    StableHlo.after hostOps0_12 (StableHlo.after hostOps0_11 (StableHlo.after hostOps0_10 V)) (Proc.devRef .tc main_v20)
      = rows 5 24 pads_S3x3x16_S3x32x16_000_5240_000 (V (Proc.devRef .tc main_v2)) := by
  after_results_simp
  rfl
/-- The block at offset 5. -/
theorem pad5 (c : Dev nD) : V13 m c main_v20 = rows 5 24 pads_S3x3x16_S3x32x16_000_5240_000 (w1 m c) :=
  (pad5_of (V10 m c)).trans (congrArg (rows 5 24 pads_S3x3x16_S3x32x16_000_5240_000) (((keepa10 m c main_v2 (by decide)).symm.trans (keepa1 m c main_v2 (by decide))).trans (V1_v2 m c)))

/-- The block at offset 6, over any contents. -/
theorem pad6_of (V : Valuation τ sig (Elt Ideal)) :
    StableHlo.after hostOps0_14 (StableHlo.after hostOps0_13 (StableHlo.after hostOps0_12 V)) (Proc.devRef .tc main_v23)
      = rows 6 23 pads_S3x3x16_S3x32x16_000_6230_000 (V (Proc.devRef .tc main_v2)) := by
  after_results_simp
  rfl
/-- The block at offset 6. -/
theorem pad6 (c : Dev nD) : V15 m c main_v23 = rows 6 23 pads_S3x3x16_S3x32x16_000_6230_000 (w1 m c) :=
  (pad6_of (V12 m c)).trans (congrArg (rows 6 23 pads_S3x3x16_S3x32x16_000_6230_000) (((keepa12 m c main_v2 (by decide)).symm.trans (keepa1 m c main_v2 (by decide))).trans (V1_v2 m c)))

/-- The block at offset 7, over any contents. -/
theorem pad7_of (V : Valuation τ sig (Elt Ideal)) :
    StableHlo.after hostOps0_16 (StableHlo.after hostOps0_15 (StableHlo.after hostOps0_14 V)) (Proc.devRef .tc main_v26)
      = rows 7 22 pads_S3x3x16_S3x32x16_000_7220_000 (V (Proc.devRef .tc main_v2)) := by
  after_results_simp
  rfl
/-- The block at offset 7. -/
theorem pad7 (c : Dev nD) : V17 m c main_v26 = rows 7 22 pads_S3x3x16_S3x32x16_000_7220_000 (w1 m c) :=
  (pad7_of (V14 m c)).trans (congrArg (rows 7 22 pads_S3x3x16_S3x32x16_000_7220_000) (((keepa14 m c main_v2 (by decide)).symm.trans (keepa1 m c main_v2 (by decide))).trans (V1_v2 m c)))

/-- The block at offset 8, over any contents. -/
theorem pad8_of (V : Valuation τ sig (Elt Ideal)) :
    StableHlo.after hostOps0_18 (StableHlo.after hostOps0_17 (StableHlo.after hostOps0_16 V)) (Proc.devRef .tc main_v29)
      = rows 8 21 pads_S3x3x16_S3x32x16_000_8210_000 (V (Proc.devRef .tc main_v2)) := by
  after_results_simp
  rfl
/-- The block at offset 8. -/
theorem pad8 (c : Dev nD) : V19 m c main_v29 = rows 8 21 pads_S3x3x16_S3x32x16_000_8210_000 (w1 m c) :=
  (pad8_of (V16 m c)).trans (congrArg (rows 8 21 pads_S3x3x16_S3x32x16_000_8210_000) (((keepa16 m c main_v2 (by decide)).symm.trans (keepa1 m c main_v2 (by decide))).trans (V1_v2 m c)))

/-- The block at offset 9, over any contents. -/
theorem pad9_of (V : Valuation τ sig (Elt Ideal)) :
    StableHlo.after hostOps0_20 (StableHlo.after hostOps0_19 (StableHlo.after hostOps0_18 V)) (Proc.devRef .tc main_v32)
      = rows 9 20 pads_S3x3x16_S3x32x16_000_9200_000 (V (Proc.devRef .tc main_v2)) := by
  after_results_simp
  rfl
/-- The block at offset 9. -/
theorem pad9 (c : Dev nD) : V21 m c main_v32 = rows 9 20 pads_S3x3x16_S3x32x16_000_9200_000 (w1 m c) :=
  (pad9_of (V18 m c)).trans (congrArg (rows 9 20 pads_S3x3x16_S3x32x16_000_9200_000) (((keepa18 m c main_v2 (by decide)).symm.trans (keepa1 m c main_v2 (by decide))).trans (V1_v2 m c)))

/-- The block at offset 10, over any contents. -/
theorem pad10_of (V : Valuation τ sig (Elt Ideal)) :
    StableHlo.after hostOps0_22 (StableHlo.after hostOps0_21 (StableHlo.after hostOps0_20 V)) (Proc.devRef .tc main_v35)
      = rows 10 19 pads_S3x3x16_S3x32x16_000_10190_000 (V (Proc.devRef .tc main_v2)) := by
  after_results_simp
  rfl
/-- The block at offset 10. -/
theorem pad10 (c : Dev nD) : V23 m c main_v35 = rows 10 19 pads_S3x3x16_S3x32x16_000_10190_000 (w1 m c) :=
  (pad10_of (V20 m c)).trans (congrArg (rows 10 19 pads_S3x3x16_S3x32x16_000_10190_000) (((keepa20 m c main_v2 (by decide)).symm.trans (keepa1 m c main_v2 (by decide))).trans (V1_v2 m c)))

/-- The block at offset 11, over any contents. -/
theorem pad11_of (V : Valuation τ sig (Elt Ideal)) :
    StableHlo.after hostOps0_24 (StableHlo.after hostOps0_23 (StableHlo.after hostOps0_22 V)) (Proc.devRef .tc main_v38)
      = rows 11 18 pads_S3x3x16_S3x32x16_000_11180_000 (V (Proc.devRef .tc main_v2)) := by
  after_results_simp
  rfl
/-- The block at offset 11. -/
theorem pad11 (c : Dev nD) : V25 m c main_v38 = rows 11 18 pads_S3x3x16_S3x32x16_000_11180_000 (w1 m c) :=
  (pad11_of (V22 m c)).trans (congrArg (rows 11 18 pads_S3x3x16_S3x32x16_000_11180_000) (((keepa22 m c main_v2 (by decide)).symm.trans (keepa1 m c main_v2 (by decide))).trans (V1_v2 m c)))

/-- The block at offset 12, over any contents. -/
theorem pad12_of (V : Valuation τ sig (Elt Ideal)) :
    StableHlo.after hostOps0_26 (StableHlo.after hostOps0_25 (StableHlo.after hostOps0_24 V)) (Proc.devRef .tc main_v41)
      = rows 12 17 pads_S3x3x16_S3x32x16_000_12170_000 (V (Proc.devRef .tc main_v2)) := by
  after_results_simp
  rfl
/-- The block at offset 12. -/
theorem pad12 (c : Dev nD) : V27 m c main_v41 = rows 12 17 pads_S3x3x16_S3x32x16_000_12170_000 (w1 m c) :=
  (pad12_of (V24 m c)).trans (congrArg (rows 12 17 pads_S3x3x16_S3x32x16_000_12170_000) (((keepa24 m c main_v2 (by decide)).symm.trans (keepa1 m c main_v2 (by decide))).trans (V1_v2 m c)))

/-- The block at offset 13, over any contents. -/
theorem pad13_of (V : Valuation τ sig (Elt Ideal)) :
    StableHlo.after hostOps0_28 (StableHlo.after hostOps0_27 (StableHlo.after hostOps0_26 V)) (Proc.devRef .tc main_v44)
      = rows 13 16 pads_S3x3x16_S3x32x16_000_13160_000 (V (Proc.devRef .tc main_v2)) := by
  after_results_simp
  rfl
/-- The block at offset 13. -/
theorem pad13 (c : Dev nD) : V29 m c main_v44 = rows 13 16 pads_S3x3x16_S3x32x16_000_13160_000 (w1 m c) :=
  (pad13_of (V26 m c)).trans (congrArg (rows 13 16 pads_S3x3x16_S3x32x16_000_13160_000) (((keepa26 m c main_v2 (by decide)).symm.trans (keepa1 m c main_v2 (by decide))).trans (V1_v2 m c)))

/-- The block at offset 14, over any contents. -/
theorem pad14_of (V : Valuation τ sig (Elt Ideal)) :
    StableHlo.after hostOps0_30 (StableHlo.after hostOps0_29 (StableHlo.after hostOps0_28 V)) (Proc.devRef .tc main_v47)
      = rows 14 15 pads_S3x3x16_S3x32x16_000_14150_000 (V (Proc.devRef .tc main_v2)) := by
  after_results_simp
  rfl
/-- The block at offset 14. -/
theorem pad14 (c : Dev nD) : V31 m c main_v47 = rows 14 15 pads_S3x3x16_S3x32x16_000_14150_000 (w1 m c) :=
  (pad14_of (V28 m c)).trans (congrArg (rows 14 15 pads_S3x3x16_S3x32x16_000_14150_000) (((keepa28 m c main_v2 (by decide)).symm.trans (keepa1 m c main_v2 (by decide))).trans (V1_v2 m c)))

/-- The block at offset 15, over any contents. -/
theorem pad15_of (V : Valuation τ sig (Elt Ideal)) :
    StableHlo.after hostOps0_32 (StableHlo.after hostOps0_31 (StableHlo.after hostOps0_30 V)) (Proc.devRef .tc main_v50)
      = rows 15 14 pads_S3x3x16_S3x32x16_000_15140_000 (V (Proc.devRef .tc main_v2)) := by
  after_results_simp
  rfl
/-- The block at offset 15. -/
theorem pad15 (c : Dev nD) : V33 m c main_v50 = rows 15 14 pads_S3x3x16_S3x32x16_000_15140_000 (w1 m c) :=
  (pad15_of (V30 m c)).trans (congrArg (rows 15 14 pads_S3x3x16_S3x32x16_000_15140_000) (((keepa30 m c main_v2 (by decide)).symm.trans (keepa1 m c main_v2 (by decide))).trans (V1_v2 m c)))

/-- The block at offset 16, over any contents. -/
theorem pad16_of (V : Valuation τ sig (Elt Ideal)) :
    StableHlo.after hostOps0_34 (StableHlo.after hostOps0_33 (StableHlo.after hostOps0_32 V)) (Proc.devRef .tc main_v53)
      = rows 16 13 pads_S3x3x16_S3x32x16_000_16130_000 (V (Proc.devRef .tc main_v2)) := by
  after_results_simp
  rfl
/-- The block at offset 16. -/
theorem pad16 (c : Dev nD) : V35 m c main_v53 = rows 16 13 pads_S3x3x16_S3x32x16_000_16130_000 (w1 m c) :=
  (pad16_of (V32 m c)).trans (congrArg (rows 16 13 pads_S3x3x16_S3x32x16_000_16130_000) (((keepa32 m c main_v2 (by decide)).symm.trans (keepa1 m c main_v2 (by decide))).trans (V1_v2 m c)))

/-- The block at offset 17, over any contents. -/
theorem pad17_of (V : Valuation τ sig (Elt Ideal)) :
    StableHlo.after hostOps0_36 (StableHlo.after hostOps0_35 (StableHlo.after hostOps0_34 V)) (Proc.devRef .tc main_v56)
      = rows 17 12 pads_S3x3x16_S3x32x16_000_17120_000 (V (Proc.devRef .tc main_v2)) := by
  after_results_simp
  rfl
/-- The block at offset 17. -/
theorem pad17 (c : Dev nD) : V37 m c main_v56 = rows 17 12 pads_S3x3x16_S3x32x16_000_17120_000 (w1 m c) :=
  (pad17_of (V34 m c)).trans (congrArg (rows 17 12 pads_S3x3x16_S3x32x16_000_17120_000) (((keepa34 m c main_v2 (by decide)).symm.trans (keepa1 m c main_v2 (by decide))).trans (V1_v2 m c)))

/-- The block at offset 18, over any contents. -/
theorem pad18_of (V : Valuation τ sig (Elt Ideal)) :
    StableHlo.after hostOps0_38 (StableHlo.after hostOps0_37 (StableHlo.after hostOps0_36 V)) (Proc.devRef .tc main_v59)
      = rows 18 11 pads_S3x3x16_S3x32x16_000_18110_000 (V (Proc.devRef .tc main_v2)) := by
  after_results_simp
  rfl
/-- The block at offset 18. -/
theorem pad18 (c : Dev nD) : V39 m c main_v59 = rows 18 11 pads_S3x3x16_S3x32x16_000_18110_000 (w1 m c) :=
  (pad18_of (V36 m c)).trans (congrArg (rows 18 11 pads_S3x3x16_S3x32x16_000_18110_000) (((keepa36 m c main_v2 (by decide)).symm.trans (keepa1 m c main_v2 (by decide))).trans (V1_v2 m c)))

/-- The block at offset 19, over any contents. -/
theorem pad19_of (V : Valuation τ sig (Elt Ideal)) :
    StableHlo.after hostOps0_40 (StableHlo.after hostOps0_39 (StableHlo.after hostOps0_38 V)) (Proc.devRef .tc main_v62)
      = rows 19 10 pads_S3x3x16_S3x32x16_000_19100_000 (V (Proc.devRef .tc main_v2)) := by
  after_results_simp
  rfl
/-- The block at offset 19. -/
theorem pad19 (c : Dev nD) : V41 m c main_v62 = rows 19 10 pads_S3x3x16_S3x32x16_000_19100_000 (w1 m c) :=
  (pad19_of (V38 m c)).trans (congrArg (rows 19 10 pads_S3x3x16_S3x32x16_000_19100_000) (((keepa38 m c main_v2 (by decide)).symm.trans (keepa1 m c main_v2 (by decide))).trans (V1_v2 m c)))

/-- The block at offset 20, over any contents. -/
theorem pad20_of (V : Valuation τ sig (Elt Ideal)) :
    StableHlo.after hostOps0_42 (StableHlo.after hostOps0_41 (StableHlo.after hostOps0_40 V)) (Proc.devRef .tc main_v65)
      = rows 20 9 pads_S3x3x16_S3x32x16_000_2090_000 (V (Proc.devRef .tc main_v2)) := by
  after_results_simp
  rfl
/-- The block at offset 20. -/
theorem pad20 (c : Dev nD) : V43 m c main_v65 = rows 20 9 pads_S3x3x16_S3x32x16_000_2090_000 (w1 m c) :=
  (pad20_of (V40 m c)).trans (congrArg (rows 20 9 pads_S3x3x16_S3x32x16_000_2090_000) (((keepa40 m c main_v2 (by decide)).symm.trans (keepa1 m c main_v2 (by decide))).trans (V1_v2 m c)))

/-- The block at offset 21, over any contents. -/
theorem pad21_of (V : Valuation τ sig (Elt Ideal)) :
    StableHlo.after hostOps0_44 (StableHlo.after hostOps0_43 (StableHlo.after hostOps0_42 V)) (Proc.devRef .tc main_v68)
      = rows 21 8 pads_S3x3x16_S3x32x16_000_2180_000 (V (Proc.devRef .tc main_v2)) := by
  after_results_simp
  rfl
/-- The block at offset 21. -/
theorem pad21 (c : Dev nD) : V45 m c main_v68 = rows 21 8 pads_S3x3x16_S3x32x16_000_2180_000 (w1 m c) :=
  (pad21_of (V42 m c)).trans (congrArg (rows 21 8 pads_S3x3x16_S3x32x16_000_2180_000) (((keepa42 m c main_v2 (by decide)).symm.trans (keepa1 m c main_v2 (by decide))).trans (V1_v2 m c)))

/-- The block at offset 22, over any contents. -/
theorem pad22_of (V : Valuation τ sig (Elt Ideal)) :
    StableHlo.after hostOps0_46 (StableHlo.after hostOps0_45 (StableHlo.after hostOps0_44 V)) (Proc.devRef .tc main_v71)
      = rows 22 7 pads_S3x3x16_S3x32x16_000_2270_000_2 (V (Proc.devRef .tc main_v2)) := by
  after_results_simp
  rfl
/-- The block at offset 22. -/
theorem pad22 (c : Dev nD) : V47 m c main_v71 = rows 22 7 pads_S3x3x16_S3x32x16_000_2270_000_2 (w1 m c) :=
  (pad22_of (V44 m c)).trans (congrArg (rows 22 7 pads_S3x3x16_S3x32x16_000_2270_000_2) (((keepa44 m c main_v2 (by decide)).symm.trans (keepa1 m c main_v2 (by decide))).trans (V1_v2 m c)))

/-- The block at offset 23, over any contents. -/
theorem pad23_of (V : Valuation τ sig (Elt Ideal)) :
    StableHlo.after hostOps0_48 (StableHlo.after hostOps0_47 (StableHlo.after hostOps0_46 V)) (Proc.devRef .tc main_v74)
      = rows 23 6 pads_S3x3x16_S3x32x16_000_2360_000 (V (Proc.devRef .tc main_v2)) := by
  after_results_simp
  rfl
/-- The block at offset 23. -/
theorem pad23 (c : Dev nD) : V49 m c main_v74 = rows 23 6 pads_S3x3x16_S3x32x16_000_2360_000 (w1 m c) :=
  (pad23_of (V46 m c)).trans (congrArg (rows 23 6 pads_S3x3x16_S3x32x16_000_2360_000) (((keepa46 m c main_v2 (by decide)).symm.trans (keepa1 m c main_v2 (by decide))).trans (V1_v2 m c)))

/-- The block at offset 24, over any contents. -/
theorem pad24_of (V : Valuation τ sig (Elt Ideal)) :
    StableHlo.after hostOps0_50 (StableHlo.after hostOps0_49 (StableHlo.after hostOps0_48 V)) (Proc.devRef .tc main_v77)
      = rows 24 5 pads_S3x3x16_S3x32x16_000_2450_000 (V (Proc.devRef .tc main_v2)) := by
  after_results_simp
  rfl
/-- The block at offset 24. -/
theorem pad24 (c : Dev nD) : V51 m c main_v77 = rows 24 5 pads_S3x3x16_S3x32x16_000_2450_000 (w1 m c) :=
  (pad24_of (V48 m c)).trans (congrArg (rows 24 5 pads_S3x3x16_S3x32x16_000_2450_000) (((keepa48 m c main_v2 (by decide)).symm.trans (keepa1 m c main_v2 (by decide))).trans (V1_v2 m c)))

/-- The block at offset 25, before its rows are laid out, over any contents. -/
theorem pad25_of (V : Valuation τ sig (Elt Ideal)) :
    StableHlo.after hostOps0_51 (StableHlo.after hostOps0_50 V) (Proc.devRef .tc main_v78)
      = pad S3x32x16 ![0, 25, 0] ![0, 4, 0] ![0, 0, 0] (show FVec Ideal S3x3x16 .f32 from V (Proc.devRef .tc main_v2)) (sitofp (F := Ideal) .f32 (constantI S_ 32 0#32)) pads_S3x3x16_S3x32x16_000_2540_000 h_S_ := by
  after_results_simp
  rfl
/-- The block at offset 25, before its rows are laid out. -/
theorem pad25 (c : Dev nD) : V52 m c main_v78 = pad S3x32x16 ![0, 25, 0] ![0, 4, 0] ![0, 0, 0] (w1 m c) (sitofp (F := Ideal) .f32 (constantI S_ 32 0#32)) pads_S3x3x16_S3x32x16_000_2540_000 h_S_ :=
  (pad25_of (V50 m c)).trans (congrArg (fun q : FVec Ideal S3x3x16 .f32 => pad S3x32x16 ![0, 25, 0] ![0, 4, 0] ![0, 0, 0] q (sitofp (F := Ideal) .f32 (constantI S_ 32 0#32)) pads_S3x3x16_S3x32x16_000_2540_000 h_S_) (((keepa50 m c main_v2 (by decide)).symm.trans (keepa1 m c main_v2 (by decide))).trans (V1_v2 m c)))

/-- Every offset fits. -/
theorem fits : ∀ x : Fin 26, S3x3x16.Pads ![0, x.val, 0] ![0, 29 - x.val, 0] ![0, 0, 0] S3x32x16 := by decide +kernel

/-- The stacked blocks, over any contents. -/
theorem v110_of (V : Valuation τ sig (Elt Ideal)) :
    StableHlo.after hostOps0_52 V (Proc.devRef .tc main_v110)
      = stack26 ![V (Proc.devRef .tc main_v5), V (Proc.devRef .tc main_v8), V (Proc.devRef .tc main_v11), V (Proc.devRef .tc main_v14), V (Proc.devRef .tc main_v17), V (Proc.devRef .tc main_v20), V (Proc.devRef .tc main_v23), V (Proc.devRef .tc main_v26), V (Proc.devRef .tc main_v29), V (Proc.devRef .tc main_v32), V (Proc.devRef .tc main_v35), V (Proc.devRef .tc main_v38), V (Proc.devRef .tc main_v41), V (Proc.devRef .tc main_v44), V (Proc.devRef .tc main_v47), V (Proc.devRef .tc main_v50), V (Proc.devRef .tc main_v53), V (Proc.devRef .tc main_v56), V (Proc.devRef .tc main_v59), V (Proc.devRef .tc main_v62), V (Proc.devRef .tc main_v65), V (Proc.devRef .tc main_v68), V (Proc.devRef .tc main_v71), V (Proc.devRef .tc main_v74), V (Proc.devRef .tc main_v77), shapeCast S16x96 (transpose S16x3x32 [2, 0, 1] (show FVec Ideal S3x32x16 .f32 from V (Proc.devRef .tc main_v78)) transposes_S3x32x16_S16x3x32_2_0_1) shapeCasts_S16x3x32_S16x96] := by
  after_results_simp
  rfl

/-- The block at an offset. -/
def blk1 (q : FVec Ideal S3x3x16 .f32) (x : Fin 26) : FVec Ideal S16x96 .f32 := rows x.val (29 - x.val) (fits x) q

/-- Twenty-six values listed are a function when each is the function's. -/
theorem list26 {A : Type} (f : Fin 26 → A) {a0 a1 a2 a3 a4 a5 a6 a7 a8 a9 a10 a11 a12 a13 a14 a15 a16 a17 a18 a19 a20 a21 a22 a23 a24 a25 : A} (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) (h16 : a16 = f 16) (h17 : a17 = f 17) (h18 : a18 = f 18) (h19 : a19 = f 19) (h20 : a20 = f 20) (h21 : a21 = f 21) (h22 : a22 = f 22) (h23 : a23 = f 23) (h24 : a24 = f 24) (h25 : a25 = f 25) : ![a0, a1, a2, a3, a4, a5, a6, a7, a8, a9, a10, a11, a12, a13, a14, a15, a16, a17, a18, a19, a20, a21, a22, a23, a24, a25] = f := by
  funext x
  fin_cases x
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18
  · exact h19
  · exact h20
  · exact h21
  · exact h22
  · exact h23
  · exact h24
  · exact h25

/-- The first kernel's stacked filters. -/
theorem V53_v110 (c : Dev nD) : V53 m c main_v110 = stack26 (blk1 (w1 m c)) := by
  refine (v110_of (V52 m c)).trans (congrArg stack26 (list26 (blk1 (w1 m c))
   (((keepa3 m c main_v5 (by decide)).trans (pad0 m c)).trans (rfl : rows 0 29 _ (w1 m c) = blk1 (w1 m c) 0))
   (((keepa5 m c main_v8 (by decide)).trans (pad1 m c)).trans (rfl : rows 1 28 _ (w1 m c) = blk1 (w1 m c) 1))
   (((keepa7 m c main_v11 (by decide)).trans (pad2 m c)).trans (rfl : rows 2 27 _ (w1 m c) = blk1 (w1 m c) 2))
   (((keepa9 m c main_v14 (by decide)).trans (pad3 m c)).trans (rfl : rows 3 26 _ (w1 m c) = blk1 (w1 m c) 3))
   (((keepa11 m c main_v17 (by decide)).trans (pad4 m c)).trans (rfl : rows 4 25 _ (w1 m c) = blk1 (w1 m c) 4))
   (((keepa13 m c main_v20 (by decide)).trans (pad5 m c)).trans (rfl : rows 5 24 _ (w1 m c) = blk1 (w1 m c) 5))
   (((keepa15 m c main_v23 (by decide)).trans (pad6 m c)).trans (rfl : rows 6 23 _ (w1 m c) = blk1 (w1 m c) 6))
   (((keepa17 m c main_v26 (by decide)).trans (pad7 m c)).trans (rfl : rows 7 22 _ (w1 m c) = blk1 (w1 m c) 7))
   (((keepa19 m c main_v29 (by decide)).trans (pad8 m c)).trans (rfl : rows 8 21 _ (w1 m c) = blk1 (w1 m c) 8))
   (((keepa21 m c main_v32 (by decide)).trans (pad9 m c)).trans (rfl : rows 9 20 _ (w1 m c) = blk1 (w1 m c) 9))
   (((keepa23 m c main_v35 (by decide)).trans (pad10 m c)).trans (rfl : rows 10 19 _ (w1 m c) = blk1 (w1 m c) 10))
   (((keepa25 m c main_v38 (by decide)).trans (pad11 m c)).trans (rfl : rows 11 18 _ (w1 m c) = blk1 (w1 m c) 11))
   (((keepa27 m c main_v41 (by decide)).trans (pad12 m c)).trans (rfl : rows 12 17 _ (w1 m c) = blk1 (w1 m c) 12))
   (((keepa29 m c main_v44 (by decide)).trans (pad13 m c)).trans (rfl : rows 13 16 _ (w1 m c) = blk1 (w1 m c) 13))
   (((keepa31 m c main_v47 (by decide)).trans (pad14 m c)).trans (rfl : rows 14 15 _ (w1 m c) = blk1 (w1 m c) 14))
   (((keepa33 m c main_v50 (by decide)).trans (pad15 m c)).trans (rfl : rows 15 14 _ (w1 m c) = blk1 (w1 m c) 15))
   (((keepa35 m c main_v53 (by decide)).trans (pad16 m c)).trans (rfl : rows 16 13 _ (w1 m c) = blk1 (w1 m c) 16))
   (((keepa37 m c main_v56 (by decide)).trans (pad17 m c)).trans (rfl : rows 17 12 _ (w1 m c) = blk1 (w1 m c) 17))
   (((keepa39 m c main_v59 (by decide)).trans (pad18 m c)).trans (rfl : rows 18 11 _ (w1 m c) = blk1 (w1 m c) 18))
   (((keepa41 m c main_v62 (by decide)).trans (pad19 m c)).trans (rfl : rows 19 10 _ (w1 m c) = blk1 (w1 m c) 19))
   (((keepa43 m c main_v65 (by decide)).trans (pad20 m c)).trans (rfl : rows 20 9 _ (w1 m c) = blk1 (w1 m c) 20))
   (((keepa45 m c main_v68 (by decide)).trans (pad21 m c)).trans (rfl : rows 21 8 _ (w1 m c) = blk1 (w1 m c) 21))
   (((keepa47 m c main_v71 (by decide)).trans (pad22 m c)).trans (rfl : rows 22 7 _ (w1 m c) = blk1 (w1 m c) 22))
   (((keepa49 m c main_v74 (by decide)).trans (pad23 m c)).trans (rfl : rows 23 6 _ (w1 m c) = blk1 (w1 m c) 23))
   (((keepa51 m c main_v77 (by decide)).trans (pad24 m c)).trans (rfl : rows 24 5 _ (w1 m c) = blk1 (w1 m c) 24))
   ?_))
  exact congrArg (fun q : FVec Ideal S3x32x16 .f32 => shapeCast S16x96 (transpose S16x3x32 [2, 0, 1] q transposes_S3x32x16_S16x3x32_2_0_1) shapeCasts_S16x3x32_S16x96) (pad25 m c)

/-- The first kernel's stacked filters, where the kernels start. -/
theorem V61_v110 (c : Dev nD) : V61 m c main_v110 = stack26 (blk1 (w1 m c)) :=
  (keepb53 m c main_v110 (by decide)).trans (V53_v110 m c)

/-- An argument, unchanged. -/
theorem V52_arg0 (c : Dev nD) : V52 m c main_arg0 = m ((c : Thread nD τ).loc main_arg0) :=
  (keepa1 m c main_arg0 (by decide)).trans (V1_of m c main_arg0 (by decide))

/-- An argument, unchanged. -/
theorem V52_arg1 (c : Dev nD) : V52 m c main_arg1 = m ((c : Thread nD τ).loc main_arg1) :=
  (keepa1 m c main_arg1 (by decide)).trans (V1_of m c main_arg1 (by decide))

/-- An argument, unchanged. -/
theorem V52_arg2 (c : Dev nD) : V52 m c main_arg2 = m ((c : Thread nD τ).loc main_arg2) :=
  (keepa1 m c main_arg2 (by decide)).trans (V1_of m c main_arg2 (by decide))

/-- An argument, unchanged. -/
theorem V52_arg3 (c : Dev nD) : V52 m c main_arg3 = m ((c : Thread nD τ).loc main_arg3) :=
  (keepa1 m c main_arg3 (by decide)).trans (V1_of m c main_arg3 (by decide))

/-- An argument, unchanged. -/
theorem V52_arg4 (c : Dev nD) : V52 m c main_arg4 = m ((c : Thread nD τ).loc main_arg4) :=
  (keepa1 m c main_arg4 (by decide)).trans (V1_of m c main_arg4 (by decide))

/-- An argument, unchanged. -/
theorem V52_arg5 (c : Dev nD) : V52 m c main_arg5 = m ((c : Thread nD τ).loc main_arg5) :=
  (keepa1 m c main_arg5 (by decide)).trans (V1_of m c main_arg5 (by decide))

/-- An argument, unchanged. -/
theorem V52_arg6 (c : Dev nD) : V52 m c main_arg6 = m ((c : Thread nD τ).loc main_arg6) :=
  (keepa1 m c main_arg6 (by decide)).trans (V1_of m c main_arg6 (by decide))

/-- An argument, unchanged. -/
theorem V52_arg7 (c : Dev nD) : V52 m c main_arg7 = m ((c : Thread nD τ).loc main_arg7) :=
  (keepa1 m c main_arg7 (by decide)).trans (V1_of m c main_arg7 (by decide))

/-- An argument, unchanged. -/
theorem V52_arg8 (c : Dev nD) : V52 m c main_arg8 = m ((c : Thread nD τ).loc main_arg8) :=
  (keepa1 m c main_arg8 (by decide)).trans (V1_of m c main_arg8 (by decide))

/-- An argument, unchanged. -/
theorem V52_arg9 (c : Dev nD) : V52 m c main_arg9 = m ((c : Thread nD τ).loc main_arg9) :=
  (keepa1 m c main_arg9 (by decide)).trans (V1_of m c main_arg9 (by decide))

/-- An argument, unchanged. -/
theorem V52_arg10 (c : Dev nD) : V52 m c main_arg10 = m ((c : Thread nD τ).loc main_arg10) :=
  (keepa1 m c main_arg10 (by decide)).trans (V1_of m c main_arg10 (by decide))

/-- An argument, unchanged. -/
theorem V52_arg11 (c : Dev nD) : V52 m c main_arg11 = m ((c : Thread nD τ).loc main_arg11) :=
  (keepa1 m c main_arg11 (by decide)).trans (V1_of m c main_arg11 (by decide))

/-- An argument, unchanged. -/
theorem V52_arg12 (c : Dev nD) : V52 m c main_arg12 = m ((c : Thread nD τ).loc main_arg12) :=
  (keepa1 m c main_arg12 (by decide)).trans (V1_of m c main_arg12 (by decide))

/-- An argument, unchanged. -/
theorem V52_arg13 (c : Dev nD) : V52 m c main_arg13 = m ((c : Thread nD τ).loc main_arg13) :=
  (keepa1 m c main_arg13 (by decide)).trans (V1_of m c main_arg13 (by decide))

/-- An argument, unchanged. -/
theorem V52_arg14 (c : Dev nD) : V52 m c main_arg14 = m ((c : Thread nD τ).loc main_arg14) :=
  (keepa1 m c main_arg14 (by decide)).trans (V1_of m c main_arg14 (by decide))

/-- An argument, unchanged. -/
theorem V52_arg15 (c : Dev nD) : V52 m c main_arg15 = m ((c : Thread nD τ).loc main_arg15) :=
  (keepa1 m c main_arg15 (by decide)).trans (V1_of m c main_arg15 (by decide))

/-- An argument, unchanged. -/
theorem V52_arg16 (c : Dev nD) : V52 m c main_arg16 = m ((c : Thread nD τ).loc main_arg16) :=
  (keepa1 m c main_arg16 (by decide)).trans (V1_of m c main_arg16 (by decide))

/-- An argument, unchanged. -/
theorem V52_arg17 (c : Dev nD) : V52 m c main_arg17 = m ((c : Thread nD τ).loc main_arg17) :=
  (keepa1 m c main_arg17 (by decide)).trans (V1_of m c main_arg17 (by decide))

/-- An argument, unchanged. -/
theorem V61_arg0 (c : Dev nD) : V61 m c main_arg0 = m ((c : Thread nD τ).loc main_arg0) :=
  (keepb52 m c main_arg0 (by decide)).trans (V52_arg0 m c)

/-- An argument, unchanged. -/
theorem V61_arg1 (c : Dev nD) : V61 m c main_arg1 = m ((c : Thread nD τ).loc main_arg1) :=
  (keepb52 m c main_arg1 (by decide)).trans (V52_arg1 m c)

/-- An argument, unchanged. -/
theorem V61_arg2 (c : Dev nD) : V61 m c main_arg2 = m ((c : Thread nD τ).loc main_arg2) :=
  (keepb52 m c main_arg2 (by decide)).trans (V52_arg2 m c)

/-- An argument, unchanged. -/
theorem V61_arg3 (c : Dev nD) : V61 m c main_arg3 = m ((c : Thread nD τ).loc main_arg3) :=
  (keepb52 m c main_arg3 (by decide)).trans (V52_arg3 m c)

/-- An argument, unchanged. -/
theorem V61_arg4 (c : Dev nD) : V61 m c main_arg4 = m ((c : Thread nD τ).loc main_arg4) :=
  (keepb52 m c main_arg4 (by decide)).trans (V52_arg4 m c)

/-- An argument, unchanged. -/
theorem V61_arg5 (c : Dev nD) : V61 m c main_arg5 = m ((c : Thread nD τ).loc main_arg5) :=
  (keepb52 m c main_arg5 (by decide)).trans (V52_arg5 m c)

/-- An argument, unchanged. -/
theorem V61_arg6 (c : Dev nD) : V61 m c main_arg6 = m ((c : Thread nD τ).loc main_arg6) :=
  (keepb52 m c main_arg6 (by decide)).trans (V52_arg6 m c)

/-- An argument, unchanged. -/
theorem V61_arg7 (c : Dev nD) : V61 m c main_arg7 = m ((c : Thread nD τ).loc main_arg7) :=
  (keepb52 m c main_arg7 (by decide)).trans (V52_arg7 m c)

/-- An argument, unchanged. -/
theorem V61_arg8 (c : Dev nD) : V61 m c main_arg8 = m ((c : Thread nD τ).loc main_arg8) :=
  (keepb52 m c main_arg8 (by decide)).trans (V52_arg8 m c)

/-- An argument, unchanged. -/
theorem V61_arg9 (c : Dev nD) : V61 m c main_arg9 = m ((c : Thread nD τ).loc main_arg9) :=
  (keepb52 m c main_arg9 (by decide)).trans (V52_arg9 m c)

/-- An argument, unchanged. -/
theorem V61_arg10 (c : Dev nD) : V61 m c main_arg10 = m ((c : Thread nD τ).loc main_arg10) :=
  (keepb52 m c main_arg10 (by decide)).trans (V52_arg10 m c)

/-- An argument, unchanged. -/
theorem V61_arg11 (c : Dev nD) : V61 m c main_arg11 = m ((c : Thread nD τ).loc main_arg11) :=
  (keepb52 m c main_arg11 (by decide)).trans (V52_arg11 m c)

/-- An argument, unchanged. -/
theorem V61_arg12 (c : Dev nD) : V61 m c main_arg12 = m ((c : Thread nD τ).loc main_arg12) :=
  (keepb52 m c main_arg12 (by decide)).trans (V52_arg12 m c)

/-- An argument, unchanged. -/
theorem V61_arg13 (c : Dev nD) : V61 m c main_arg13 = m ((c : Thread nD τ).loc main_arg13) :=
  (keepb52 m c main_arg13 (by decide)).trans (V52_arg13 m c)

/-- An argument, unchanged. -/
theorem V61_arg14 (c : Dev nD) : V61 m c main_arg14 = m ((c : Thread nD τ).loc main_arg14) :=
  (keepb52 m c main_arg14 (by decide)).trans (V52_arg14 m c)

/-- An argument, unchanged. -/
theorem V61_arg15 (c : Dev nD) : V61 m c main_arg15 = m ((c : Thread nD τ).loc main_arg15) :=
  (keepb52 m c main_arg15 (by decide)).trans (V52_arg15 m c)

/-- An argument, unchanged. -/
theorem V61_arg16 (c : Dev nD) : V61 m c main_arg16 = m ((c : Thread nD τ).loc main_arg16) :=
  (keepb52 m c main_arg16 (by decide)).trans (V52_arg16 m c)

/-- An argument, unchanged. -/
theorem V61_arg17 (c : Dev nD) : V61 m c main_arg17 = m ((c : Thread nD τ).loc main_arg17) :=
  (keepb52 m c main_arg17 (by decide)).trans (V52_arg17 m c)

/-- The pictures, one block of 128 to a row, the picture's number last. -/
abbrev xt (x : FVec Ideal S8192x28x28x1 .f32) : FVec Ideal S64x28x28x128 .f32 :=
  transpose S64x28x28x128 [0, 2, 3, 1] (shapeCast S64x128x28x28 x shapeCasts_S8192x28x28x1_S64x128x28x28) transposes_S64x128x28x28_S64x28x28x128_0_2_3_1

/-- The pictures' operand. -/
theorem V61_v1 (c : Dev nD) : V61 m c main_v1 = xt (m ((c : Thread nD τ).loc main_arg0)) := by
  refine (keepb52 m c main_v1 (by decide)).trans ((keepa1 m c main_v1 (by decide)).trans ?_)
  show StableHlo.after hostOps0 (V0 m c) (Proc.devRef .tc main_v1) = _
  after_results_simp
  rfl

/-- The first bias, repeated. -/
abbrev b1s (b : FVec Ideal S16 .f32) : FVec Ideal S416x1 .f32 :=
  shapeCast S416x1 (shapeCast S26x16 (broadcastInDim S26x1x1x16 ![0, 1, 2, 3] bcast_S1x1x1x16_S26x1x1x16_0_1_2_3 (shapeCast S1x1x1x16 (shapeCast S1x16 b shapeCasts_S16_S1x16) shapeCasts_S1x16_S1x1x1x16)) shapeCasts_S26x1x1x16_S26x16) shapeCasts_S26x16_S416x1

/-- The second bias, repeated. -/
abbrev b2s (b : FVec Ideal S32 .f32) : FVec Ideal S128x1 .f32 :=
  shapeCast S128x1 (shapeCast S4x32 (broadcastInDim S4x1x1x32 ![0, 1, 2, 3] bcast_S1x1x1x32_S4x1x1x32_0_1_2_3 (shapeCast S1x1x1x32 (shapeCast S1x32 b shapeCasts_S32_S1x32) shapeCasts_S1x32_S1x1x1x32)) shapeCasts_S4x1x1x32_S4x32) shapeCasts_S4x32_S128x1

/-- The first bias's operand. -/
theorem V61_v115 (c : Dev nD) : V61 m c main_v115 = b1s (m ((c : Thread nD τ).loc main_arg3)) := by
  refine (keepb53 m c main_v115 (by decide)).trans ?_
  rw [← V52_arg3 m c]
  show StableHlo.after hostOps0_52 (V52 m c) (Proc.devRef .tc main_v115) = _
  generalize V52 m c = V
  after_results_simp
  rfl

/-- The second filters, their channel first. -/
abbrev w2 (w : FVec Ideal S3x3x16x32 .f32) : FVec Ideal S32x3x3x16 .f32 := transpose S32x3x3x16 [3, 0, 1, 2] w transposes_S3x3x16x32_S32x3x3x16_3_0_1_2

/-- They are in their buffer from stretch 52 on. -/
theorem V53_v116 (c : Dev nD) : V53 m c main_v116 = w2 (m ((c : Thread nD τ).loc main_arg4)) := by
  rw [← V52_arg4 m c]
  show StableHlo.after hostOps0_52 (V52 m c) (Proc.devRef .tc main_v116) = _
  generalize V52 m c = V
  after_results_simp

/-- The second filters at offset 0, over any contents. -/
theorem pads0_of (V : Valuation τ sig (Elt Ideal)) (q : FVec Ideal S32x3x3x16 .f32) (h : StableHlo.after hostOps0_52 V (Proc.devRef .tc main_v116) = q) :
    StableHlo.after hostOps0_54 (StableHlo.after hostOps0_53 (StableHlo.after hostOps0_52 V)) (Proc.devRef .tc main_v118) = rows2 0 3 pads_S32x3x3x16_S32x3x6x16_000_000_030_000 q := by
  subst h
  after_results_simp
  rfl
/-- The second filters at offset 0. -/
theorem pads0 (c : Dev nD) : V55 m c main_v118 = rows2 0 3 pads_S32x3x3x16_S32x3x6x16_000_000_030_000 (w2 (m ((c : Thread nD τ).loc main_arg4))) :=
  pads0_of (V52 m c) _ (V53_v116 m c)

/-- The second filters at offset 1, over any contents. -/
theorem pads1_of (V : Valuation τ sig (Elt Ideal)) :
    StableHlo.after hostOps0_56 (StableHlo.after hostOps0_55 (StableHlo.after hostOps0_54 V)) (Proc.devRef .tc main_v120) = rows2 1 2 pads_S32x3x3x16_S32x3x6x16_000_000_120_000 (V (Proc.devRef .tc main_v116)) := by
  after_results_simp
  rfl
/-- The second filters at offset 1. -/
theorem pads1 (c : Dev nD) : V57 m c main_v120 = rows2 1 2 pads_S32x3x3x16_S32x3x6x16_000_000_120_000 (w2 (m ((c : Thread nD τ).loc main_arg4))) :=
  (pads1_of (V54 m c)).trans (congrArg (rows2 1 2 pads_S32x3x3x16_S32x3x6x16_000_000_120_000) (((keepb54 m c main_v116 (by decide)).symm.trans (keepb53 m c main_v116 (by decide))).trans (V53_v116 m c)))

/-- The second filters at offset 2, over any contents. -/
theorem pads2_of (V : Valuation τ sig (Elt Ideal)) :
    StableHlo.after hostOps0_58 (StableHlo.after hostOps0_57 (StableHlo.after hostOps0_56 V)) (Proc.devRef .tc main_v122) = rows2 2 1 pads_S32x3x3x16_S32x3x6x16_000_000_210_000 (V (Proc.devRef .tc main_v116)) := by
  after_results_simp
  rfl
/-- The second filters at offset 2. -/
theorem pads2 (c : Dev nD) : V59 m c main_v122 = rows2 2 1 pads_S32x3x3x16_S32x3x6x16_000_000_210_000 (w2 (m ((c : Thread nD τ).loc main_arg4))) :=
  (pads2_of (V56 m c)).trans (congrArg (rows2 2 1 pads_S32x3x3x16_S32x3x6x16_000_000_210_000) (((keepb56 m c main_v116 (by decide)).symm.trans (keepb53 m c main_v116 (by decide))).trans (V53_v116 m c)))

/-- The stacked second filters, over any contents. -/
theorem v130_of (V : Valuation τ sig (Elt Ideal)) :
    StableHlo.after hostOps0_60 (StableHlo.after hostOps0_59 (StableHlo.after hostOps0_58 V)) (Proc.devRef .tc main_v130)
      = stack4 ![StableHlo.after hostOps0_59 (StableHlo.after hostOps0_58 V) (Proc.devRef .tc main_v118), StableHlo.after hostOps0_59 (StableHlo.after hostOps0_58 V) (Proc.devRef .tc main_v120), StableHlo.after hostOps0_59 (StableHlo.after hostOps0_58 V) (Proc.devRef .tc main_v122),
          rows2 3 0 pads_S32x3x3x16_S32x3x6x16_000_000_300_000 (V (Proc.devRef .tc main_v116))] := by
  after_results_simp
  rfl

/-- Every offset fits. -/
theorem fits2 : ∀ x : Fin 4, S32x3x3x16.Pads ![0, 0, x.val, 0] ![0, 0, 3 - x.val, 0] ![0, 0, 0, 0] S32x3x6x16 := by decide +kernel

/-- The second filters' operand. -/
theorem V61_v130 (c : Dev nD) : V61 m c main_v130 = stack4 fun x => rows2 x.val (3 - x.val) (fits2 x) (w2 (m ((c : Thread nD τ).loc main_arg4))) := by
  refine (v130_of (V58 m c)).trans (congrArg stack4 (funext fun x => ?_))
  fin_cases x
  · exact (V61_of m c main_v118 (by decide)).symm.trans ((keepb55 m c main_v118 (by decide)).trans (pads0 m c))
  · exact (V61_of m c main_v120 (by decide)).symm.trans ((keepb57 m c main_v120 (by decide)).trans (pads1 m c))
  · exact (V61_of m c main_v122 (by decide)).symm.trans ((keepb59 m c main_v122 (by decide)).trans (pads2 m c))
  · exact congrArg (rows2 3 0 pads_S32x3x3x16_S32x3x6x16_000_000_300_000) (((keepb58 m c main_v116 (by decide)).symm.trans (keepb53 m c main_v116 (by decide))).trans (V53_v116 m c))

/-- The second bias's operand. -/
theorem V61_v135 (c : Dev nD) : V61 m c main_v135 = (b2s (m ((c : Thread nD τ).loc main_arg5)) : FVec Ideal S128x1 .f32) := by
  rw [← V61_arg5 m c, V61_of m c main_arg5 (by decide)]
  show StableHlo.after hostOps0_60 (V60 m c) (Proc.devRef .tc main_v135) = _
  generalize V60 m c = V
  after_results_simp
  rfl

/-- The hidden layer's weights, transposed. -/
theorem V61_v136 (c : Dev nD) : V61 m c main_v136 = (transpose S64x800 [1, 0] (m ((c : Thread nD τ).loc main_arg6)) transposes_S800x64_S64x800_1_0 : FVec Ideal S64x800 .f32) := by
  rw [← V61_arg6 m c, V61_of m c main_arg6 (by decide)]
  show StableHlo.after hostOps0_60 (V60 m c) (Proc.devRef .tc main_v136) = _
  generalize V60 m c = V
  after_results_simp

/-- The hidden layer's bias, as a column. -/
theorem V61_v137 (c : Dev nD) : V61 m c main_v137 = (shapeCast S64x1 (m ((c : Thread nD τ).loc main_arg7)) shapeCasts_S64_S64x1 : FVec Ideal S64x1 .f32) := by
  rw [← V61_arg7 m c, V61_of m c main_arg7 (by decide)]
  show StableHlo.after hostOps0_60 (V60 m c) (Proc.devRef .tc main_v137) = _
  generalize V60 m c = V
  after_results_simp
  rfl

/-- The score's weights, as a row. -/
theorem V61_v138 (c : Dev nD) : V61 m c main_v138 = (shapeCast S1x64 (m ((c : Thread nD τ).loc main_arg8)) shapeCasts_S64x1_S1x64 : FVec Ideal S1x64 .f32) := by
  rw [← V61_arg8 m c, V61_of m c main_arg8 (by decide)]
  show StableHlo.after hostOps0_60 (V60 m c) (Proc.devRef .tc main_v138) = _
  generalize V60 m c = V
  after_results_simp
  rfl

/-- The score's bias. -/
theorem V61_v139 (c : Dev nD) : V61 m c main_v139 = (shapeCast S1x1 (m ((c : Thread nD τ).loc main_arg9)) shapeCasts_S1_S1x1 : FVec Ideal S1x1 .f32) := by
  rw [← V61_arg9 m c, V61_of m c main_arg9 (by decide)]
  show StableHlo.after hostOps0_60 (V60 m c) (Proc.devRef .tc main_v139) = _
  generalize V60 m c = V
  after_results_simp
  rfl

/-- The labels, one block of 128 to a row. -/
theorem V61_v140 (c : Dev nD) : V61 m c main_v140 = (shapeCast S64x1x128 (m ((c : Thread nD τ).loc main_arg1)) shapeCasts_S8192_S64x1x128 : IVec S64x1x128 32) := by
  rw [← V61_arg1 m c, V61_of m c main_arg1 (by decide)]
  show StableHlo.after hostOps0_60 (V60 m c) (Proc.devRef .tc main_v140) = _
  generalize V60 m c = V
  after_results_simp
  rfl

end Cert.KernelIdeal.Alg

end
-- ==== Proof.ConvI.lean ====
module

public import proofs.«01_k».proof.Proof.HostI
public import proofs.«01_k».proof.Proof.BodyI

@[expose] public section

set_option maxRecDepth 16384

noncomputable section

namespace Cert.KernelIdeal.Alg

open Idealize.ShloMosaic Idealize.ShloMosaic.TcCoe Idealize.SL.Sem
open Cert.KernelIdeal Cert.KernelIdeal.Gen
open Cert.KernelIdeal.Body (zf fill colw stage1 stage2 gat colw2 chan row16 emb embOf)
open Cert.Alg (conv1 conv2 layer1 layer2 feat sum_band)

/-- The kernel's zero is zero. -/
theorem zf_eq : (zf : Ideal .f32) = 0 := by
  simp [zf]

/-- A response from rows whose weights are a filter shifted to a place and zero elsewhere. -/
theorem band {N x : ℕ} (h : x + 3 ≤ N) (w g : Fin N → EReal) (v : Fin 3 → EReal)
    (hw : ∀ k : Fin N, w k = if hk : x ≤ k.val ∧ k.val < x + 3 then v ⟨k.val - x, by omega⟩ else 0) :
    (∑ k : Fin N, w k * g k) = ∑ d : Fin 3, g ⟨x + d.val, by omega⟩ * v d := by
  have e : ∀ k : Fin N, w k * g k = if x ≤ k.val ∧ k.val < x + 3 then w k * g k else 0 := fun k => by
    by_cases hk : x ≤ k.val ∧ k.val < x + 3
    · rw [if_pos hk]
    · rw [if_neg hk, hw, dif_neg hk, zero_mul]
  rw [Finset.sum_congr rfl fun k _ => e k, sum_band h]
  refine Finset.sum_congr rfl fun d _ => ?_
  rw [hw, dif_pos ⟨by simp, by simp⟩, mul_comm]
  congr 2
  exact Fin.ext (by simp)

/-- The first convolution's responses. -/
theorem pay105_at (w : FVec Ideal S3x3x16 .f32) (x0 : FVec Ideal S1x28x28x128 .f32) (x y : Fin 26) (d : Fin 16) (l : Fin 128) :
    k0_pay105 (F := Ideal) (stack26 (blk1 w)) (fill (F := Ideal) x0 78 fun _ => zf (F := Ideal)) (ix2 ⟨x.val * 16 + d.val, by omega⟩ ⟨y.val * 128 + l.val, by omega⟩)
      = ∑ i : Fin 3, ∑ j : Fin 3, x0 (ix4 0 ⟨y.val + i.val, by omega⟩ ⟨x.val + j.val, by omega⟩ l) * w (ix3 i j d) := by
  generalize hW : stack26 (blk1 w) = W
  generalize hX : fill (F := Ideal) x0 78 (fun _ => zf (F := Ideal)) = X
  pointwise [k0_pay105]
  rw [Fin.sum_univ_tiles 3 32 (by decide)]
  refine Finset.sum_congr rfl fun r _ => ?_
  rw [band (N := 32) (x := x.val) (by omega) _ _ fun j => w (ix3 r j d)]
  · refine Finset.sum_congr rfl fun j _ => ?_
    congr 1
    rw [← hX]
    unfold fill
    rw [dif_pos (by simp; omega)]
    congr 1
    idx_ext <;> simp <;> omega
  · intro k
    rw [← hW, stack26_at, blk1, rows_at]

/-- The first bias, at a row. -/
theorem b1s_at (b : FVec Ideal S16 .f32) (x : Fin 26) (d : Fin 16) : b1s b (ix2 ⟨x.val * 16 + d.val, by omega⟩ 0) = b (ix1 d) := by
  pointwise [b1s]

/-- A column block, at a place. -/
theorem colw_at (s : FVec Ideal S416x3328 .f32) (q : ℕ) (hq : q < 26) (r : Fin 416) (l : Fin 128) :
    colw (F := Ideal) s q hq (ix2 r l) = s (ix2 r ⟨q * 128 + l.val, by omega⟩) := by
  unfold colw VecWindow.window
  congr 1
  idx_ext <;> simp <;> omega

/-- A fold of the maximum over two terms. -/
theorem fold2 (g : Fin 2 → EReal) : Finset.univ.fold max (⊥ : EReal) g = max (g 0) (g 1) := by
  have h : (Finset.univ : Finset (Fin 2)) = {0, 1} := by decide
  rw [h, Finset.fold_insert (by decide), Finset.fold_singleton]
  rw [max_eq_left (bot_le : (⊥ : EReal) ≤ g 1)]

/-- The start of a maximum is minus infinity. -/
theorem bits_bot : Ideal.ofBits .f32 0xFF800000#32 = (⊥ : EReal) := by
  simp [Ideal.ofBits, Ideal.ieee]

/-- The pooling of two column blocks. -/
theorem pay106_at (c0 c1 : FVec Ideal S416x128 .f32) (b : FVec Ideal S416x1 .f32) (z : Fin 13) (d : Fin 16) (l : Fin 128) :
    k0_pay106 (F := Ideal) c0 c1 b (ix4 0 z d l)
      = max (max (max (c0 (ix2 ⟨(2 * z.val) * 16 + d.val, by omega⟩ l)) (c1 (ix2 ⟨(2 * z.val) * 16 + d.val, by omega⟩ l)) + b (ix2 ⟨(2 * z.val) * 16 + d.val, by omega⟩ 0)) 0)
          (max (max (c0 (ix2 ⟨(2 * z.val + 1) * 16 + d.val, by omega⟩ l)) (c1 (ix2 ⟨(2 * z.val + 1) * 16 + d.val, by omega⟩ l)) + b (ix2 ⟨(2 * z.val + 1) * 16 + d.val, by omega⟩ 0)) 0) := by
  pointwise [k0_pay106]
  refine (congrArg (fun v => Finset.fold max v _ _) bits_bot).trans ((fold2 _).trans ?_)
  congr 1
  all_goals congr 1
  all_goals congr 1
  all_goals first | congr 1 | skip
  all_goals first | rfl | skip
  all_goals first
    | (idx_ext <;> simp <;> omega)
    | (congr 1; idx_ext <;> simp <;> omega)

/-- The first stage at a place before the padding column. -/
theorem stage1_at (w : FVec Ideal S3x3x16 .f32) (b : FVec Ideal S16 .f32) (x0 : FVec Ideal S1x28x28x128 .f32) (y z : Fin 13) (d : Fin 16) (l : Fin 128) :
    stage1 (F := Ideal) x0 (stack26 (blk1 w)) (b1s b) (ix4 y ⟨z.val, by omega⟩ d l)
      = layer1 (fun r c => x0 (ix4 0 r c l)) (fun i j k => w (ix3 i j k)) (fun k => b (ix1 k)) y z d := by
  unfold stage1 Body.pool
  rw [dif_pos ⟨y.isLt, z.isLt⟩]
  refine (pay106_at _ _ _ z d l).trans ?_
  simp only [colw_at]
  have hc : ∀ (p q : Fin 26), k0_pay105 (F := Ideal) (stack26 (blk1 w)) (fill (F := Ideal) x0 78 fun _ => zf (F := Ideal)) (ix2 ⟨q.val * 16 + d.val, by omega⟩ ⟨p.val * 128 + l.val, by omega⟩)
      = ∑ i : Fin 3, ∑ j : Fin 3, x0 (ix4 0 ⟨p.val + i.val, by omega⟩ ⟨q.val + j.val, by omega⟩ l) * w (ix3 i j d) := fun p q => pay105_at w x0 q p d l
  have hb : ∀ q : Fin 26, b1s b (ix2 ⟨q.val * 16 + d.val, by omega⟩ 0) = b (ix1 d) := fun q => b1s_at b q d
  generalize k0_pay105 (F := Ideal) (stack26 (blk1 w)) (fill (F := Ideal) x0 78 fun _ => zf (F := Ideal)) = P at hc ⊢
  generalize b1s b = B at hb ⊢
  refine (congrArg₂ max (congrArg₂ max (congrArg₂ (· + ·) (congrArg₂ max (hc ⟨2 * y.val, by omega⟩ ⟨2 * z.val, by omega⟩) (hc ⟨2 * y.val + 1, by omega⟩ ⟨2 * z.val, by omega⟩)) (hb ⟨2 * z.val, by omega⟩)) rfl)
    (congrArg₂ max (congrArg₂ (· + ·) (congrArg₂ max (hc ⟨2 * y.val, by omega⟩ ⟨2 * z.val + 1, by omega⟩) (hc ⟨2 * y.val + 1, by omega⟩ ⟨2 * z.val + 1, by omega⟩)) (hb ⟨2 * z.val + 1, by omega⟩)) rfl)).trans ?_
  rw [Cert.Alg.max_bias, Cert.Alg.max_bias, max_max_max_comm]
  rfl

/-- The second convolution's responses, rectified. -/
theorem pay124_at (w : FVec Ideal S3x3x16x32 .f32) (b : FVec Ideal S32 .f32) (s : FVec Ideal S13x14x16x128 .f32)
    (y : Fin 11) (g : Fin 3) (x : Fin 4) (o : Fin 32) (l : Fin 128) :
    k0_pay124 (F := Ideal) (gat (F := Ideal) s 594 fun _ => zf (F := Ideal)) (stack4 fun x => rows2 x.val (3 - x.val) (fits2 x) (w2 w)) (b2s b)
        (ix2 ⟨x.val * 32 + o.val, by omega⟩ ⟨(y.val * 3 + g.val) * 128 + l.val, by omega⟩)
      = max ((∑ i : Fin 3, ∑ j : Fin 3, ∑ k : Fin 16, s (ix4 ⟨y.val + i.val, by omega⟩ ⟨4 * g.val + x.val + j.val, by omega⟩ k l) * w (ix4 i j k o)) + b (ix1 o)) 0 := by
  have hb : b2s b (ix2 ⟨x.val * 32 + o.val, by omega⟩ 0) = b (ix1 o) := by
    pointwise [b2s]
  generalize b2s b = B at hb ⊢
  generalize hW : (stack4 fun x => rows2 x.val (3 - x.val) (fits2 x) (w2 w)) = W
  generalize hX : gat (F := Ideal) s 594 (fun _ => zf (F := Ideal)) = X
  pointwise [k0_pay124]
  refine congrArg₂ max (congrArg₂ (· + ·) ?_ hb) rfl
  rw [Fin.sum_univ_tiles 3 96 (by decide)]
  refine Finset.sum_congr rfl fun r _ => ?_
  rw [Fin.sum_univ_tiles 6 16 (by decide), Finset.sum_comm]
  rw [Finset.sum_comm (γ := Fin 3)]
  refine Finset.sum_congr rfl fun i _ => ?_
  rw [band (N := 6) (x := x.val) (by omega) _ _ fun j => w (ix4 r j i o)]
  · refine Finset.sum_congr rfl fun j _ => ?_
    congr 1
    rw [← hX]
    unfold gat
    rw [if_pos (by simp; omega)]
    congr 1
    idx_ext <;> simp <;> omega
  · intro k
    rw [← hW]
    have h := (stack4_at (fun x => rows2 x.val (3 - x.val) (fits2 x) (w2 w)) x o ⟨r.val * 96 + k.val * 16 + i.val, by omega⟩).trans (rows2_at x.val (3 - x.val) (fits2 x) (w2 w) o r k i)
    refine (congrArg _ ?_).trans (h.trans ?_)
    · idx_ext <;> simp <;> omega
    · by_cases hk : x.val ≤ k.val ∧ k.val < x.val + 3
      · rw [dif_pos hk, dif_pos hk]
        pointwise [w2]
      · rw [dif_neg hk, dif_neg hk]

/-- A column block, at a place. -/
theorem colw2_at (s : FVec Ideal S128x4224 .f32) (q : ℕ) (hq : q < 33) (r : Fin 128) (l : Fin 128) :
    colw2 (F := Ideal) s q hq (ix2 r l) = s (ix2 r ⟨q * 128 + l.val, by omega⟩) := by
  unfold colw2 VecWindow.window
  congr 1
  idx_ext <;> simp <;> omega

/-- The second stage at a place before the padding column. -/
theorem stage2_at (w : FVec Ideal S3x3x16x32 .f32) (b : FVec Ideal S32 .f32) (s : FVec Ideal S13x14x16x128 .f32) (l : Fin 128)
    (t : Fin 13 → Fin 13 → Fin 16 → EReal) (hs : ∀ (y z : Fin 13) (k : Fin 16), s (ix4 y ⟨z.val, by omega⟩ k l) = t y z k) (y z : Fin 11) (o : Fin 32) :
    stage2 (F := Ideal) s (stack4 fun x => rows2 x.val (3 - x.val) (fits2 x) (w2 w)) (b2s b) (ix4 y ⟨z.val, by omega⟩ o l)
      = conv2 t (fun i j k => w (ix4 i j k o)) (b (ix1 o)) y z := by
  have h := pay124_at w b s y ⟨z.val / 4, by omega⟩ ⟨z.val % 4, by omega⟩ o l
  unfold stage2 chan
  generalize k0_pay124 (F := Ideal) (gat (F := Ideal) s 594 fun _ => zf (F := Ideal)) (stack4 fun x => rows2 x.val (3 - x.val) (fits2 x) (w2 w)) (b2s b) = P at h ⊢
  rw [if_pos (by simp; omega)]
  have hp : ∀ (v : FVec Ideal S128x128 .f32) (x : Fin 4), k0_pay125 (F := Ideal) v (ix4 0 x o l) = v (ix2 ⟨x.val * 32 + o.val, by omega⟩ l) := fun v x => by
    pointwise [k0_pay125]
  refine (hp _ ⟨z.val % 4, by omega⟩).trans ((colw2_at _ _ _ _ _).trans (Eq.trans ?_ (h.trans ?_)))
  · rfl
  · unfold conv2
    refine congrArg₂ max (congrArg₂ (· + ·) ?_ rfl) rfl
    refine Finset.sum_congr rfl fun i _ => Finset.sum_congr rfl fun j _ => Finset.sum_congr rfl fun k _ => ?_
    refine congrArg₂ (· * ·) ?_ rfl
    refine Eq.trans (congrArg s ?_) (hs ⟨y.val + i.val, by omega⟩ ⟨z.val + j.val, by omega⟩ k)
    idx_ext <;> simp <;> omega

/-- A pooled row of the second stage. -/
theorem row_at (c0 c1 : FVec Ideal S1x12x32x128 .f32) (z : Fin 5) (o : Fin 32) (l : Fin 128) :
    k0_pay127 (F := Ideal) c0 c1 (ix3 z o l) = max (max (c0 (ix4 0 ⟨2 * z.val, by omega⟩ o l)) (c1 (ix4 0 ⟨2 * z.val, by omega⟩ o l)))
      (max (c0 (ix4 0 ⟨2 * z.val + 1, by omega⟩ o l)) (c1 (ix4 0 ⟨2 * z.val + 1, by omega⟩ o l))) := by
  pointwise [k0_pay127]
  refine (congrArg (fun v => Finset.fold max v _ _) bits_bot).trans ((fold2 _).trans ?_)
  congr 1
  all_goals congr 1
  all_goals congr 1
  all_goals (idx_ext <;> simp <;> omega)

/-- Two rows of the second stage, pooled. -/
abbrev two (c : FVec Ideal S11x12x32x128 .f32) (y : Fin 5) : FVec Ideal S5x32x128 .f32 :=
  k0_pay127 (F := Ideal) (row16 (F := Ideal) c (2 * y.val) (by omega)) (row16 (F := Ideal) c (2 * y.val + 1) (by omega))

/-- The pooled rows, one above another. -/
theorem emb_eq (c : FVec Ideal S11x12x32x128 .f32) (y z : Fin 5) (o : Fin 32) (l : Fin 128) :
    emb (F := Ideal) c (ix2 ⟨y.val * 160 + z.val * 32 + o.val, by omega⟩ l) = two c y (ix3 z o l) := by
  have h : emb (F := Ideal) c = concatenate S800x128 0 [⟨S160x128, shapeCast S160x128 (two c 0) shapeCasts_S5x32x128_S160x128⟩, ⟨S160x128, shapeCast S160x128 (two c 1) shapeCasts_S5x32x128_S160x128⟩, ⟨S160x128, shapeCast S160x128 (two c 2) shapeCasts_S5x32x128_S160x128⟩, ⟨S160x128, shapeCast S160x128 (two c 3) shapeCasts_S5x32x128_S160x128⟩, ⟨S160x128, shapeCast S160x128 (two c 4) shapeCasts_S5x32x128_S160x128⟩] concatenates_S160x128_S160x128_S160x128_S160x128_S160x128_S800x128_d0 := rfl
  rw [h]
  generalize two c = T
  pointwise []
  fin_vals y with hy
  all_goals split_ifs
  all_goals first
    | omega
    | exact congrArg₂ T (Fin.ext hy.symm) (by idx_ext <;> simp <;> omega)
    | exact congrArg₂ T (Fin.ext hy.symm) rfl

/-- A block's features. -/
theorem embOf_at (w : FVec Ideal S3x3x16 .f32) (b : FVec Ideal S16 .f32) (v : FVec Ideal S3x3x16x32 .f32) (a : FVec Ideal S32 .f32)
    (x0 : FVec Ideal S1x28x28x128 .f32) (f : Fin 800) (l : Fin 128) :
    embOf (F := Ideal) x0 (stack26 (blk1 w)) (b1s b) (stack4 fun x => rows2 x.val (3 - x.val) (fits2 x) (w2 v)) (b2s a) (ix2 f l)
      = feat (fun r c => x0 (ix4 0 r c l)) (fun i j k => w (ix3 i j k)) (fun k => b (ix1 k)) (fun i j k o => v (ix4 i j k o)) (fun o => a (ix1 o)) f := by
  have h := stage2_at v a (stage1 (F := Ideal) x0 (stack26 (blk1 w)) (b1s b)) l _ fun y z k => stage1_at w b x0 y z k l
  unfold embOf feat layer2
  generalize stage2 (F := Ideal) (stage1 (F := Ideal) x0 (stack26 (blk1 w)) (b1s b)) (stack4 fun x => rows2 x.val (3 - x.val) (fits2 x) (w2 v)) (b2s a) = c at h ⊢
  have hf : f = ⟨(f.val / 160) * 160 + (f.val / 32 % 5) * 32 + f.val % 32, by omega⟩ := Fin.ext (by simp; omega)
  refine (congrArg (fun q => emb (F := Ideal) c (ix2 q l)) hf).trans ((emb_eq c ⟨f.val / 160, by omega⟩ ⟨f.val / 32 % 5, by omega⟩ ⟨f.val % 32, by omega⟩ l).trans ((row_at _ _ _ _ _).trans ?_))
  have hr : ∀ (q z : Fin 11) (o : Fin 32), row16 (F := Ideal) c q.val (by omega) (ix4 0 ⟨z.val, by omega⟩ o l) = c (ix4 q ⟨z.val, by omega⟩ o l) := fun q z o => by
    unfold row16 VecWindow.window
    congr 1
    idx_ext <;> simp
  unfold Cert.Alg.pool
  rw [max_max_max_comm]
  exact congrArg₂ max (congrArg₂ max ((hr ⟨2 * (f.val / 160), by omega⟩ ⟨2 * (f.val / 32 % 5), by omega⟩ _).trans (h _ _ _)) ((hr ⟨2 * (f.val / 160), by omega⟩ ⟨2 * (f.val / 32 % 5) + 1, by omega⟩ _).trans (h _ _ _)))
    (congrArg₂ max ((hr ⟨2 * (f.val / 160) + 1, by omega⟩ ⟨2 * (f.val / 32 % 5), by omega⟩ _).trans (h _ _ _)) ((hr ⟨2 * (f.val / 160) + 1, by omega⟩ ⟨2 * (f.val / 32 % 5) + 1, by omega⟩ _).trans (h _ _ _)))

end Cert.KernelIdeal.Alg

end
-- ==== Proof.AccI.lean ====
module

public import proofs.«01_k».proof.Proof.ConvI
public import proofs.«01_k».proof.Proof.HeadI

@[expose] public section

set_option maxRecDepth 16384

noncomputable section

namespace Cert.KernelIdeal.Alg

open Idealize.ShloMosaic Idealize.ShloMosaic.TcCoe Idealize.SL.Sem
open Idealize.ShloMosaic.Pipeline (Dat)
open Cert.KernelIdeal Cert.KernelIdeal.Gen
open Cert.KernelIdeal.Body (zf embOf newU newZ row12 iblk eAt uAt zAt uAt_first uAt_later zAt_first zAt_later dat0 after0_10 after0_11)
open Cert.Alg (feat score sigm)

/-- The windows' blocks. -/
theorem idx : ∀ t : Fin cfg0.N, win0_0.index t = ![t.val, 0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0] ∧ win0_10.index t = ![0, 0] ∧ win0_11.index t = ![0, 0] :=
  (by decide +kernel : ∀ t : Fin grid0.N, _)

variable (V : Dev nD → Valuation τ sig (Elt Ideal)) (c : Dev nD) (t : Fin cfg0.N)

theorem blk0 (r k : Fin 28) (l : Fin 128) : (show FVec Ideal S1x28x28x128 .f32 from iblk V c 0 t) (ix4 0 r k l) = (show FVec Ideal S64x28x28x128 .f32 from V c main_v1) (ix4 ⟨t.val, lt_of_lt_of_eq t.isLt N_0⟩ r k l) := by
  blk_ext [iblk, idx t]
theorem blk1_eq : iblk V c 1 t = V c main_v110 := by blk_ext! [iblk, idx t]
theorem blk2_eq : iblk V c 2 t = V c main_v115 := by blk_ext! [iblk, idx t]
theorem blk3_eq : iblk V c 3 t = V c main_v130 := by blk_ext! [iblk, idx t]
theorem blk4_eq : iblk V c 4 t = V c main_v135 := by blk_ext! [iblk, idx t]
theorem blk5_eq : iblk V c 5 t = V c main_v136 := by blk_ext! [iblk, idx t]
theorem blk6_eq : iblk V c 6 t = V c main_v137 := by blk_ext! [iblk, idx t]
theorem blk7_eq : iblk V c 7 t = V c main_v138 := by blk_ext! [iblk, idx t]
theorem blk8_eq : iblk V c 8 t = V c main_v139 := by blk_ext! [iblk, idx t]
theorem blk9 (l : Fin 128) : (show IVec S1x1x128 32 from iblk V c 9 t) (ix3 0 0 l) = (show IVec S64x1x128 32 from V c main_v140) (ix3 ⟨t.val, lt_of_lt_of_eq t.isLt N_0⟩ 0 l) := by
  blk_ext [iblk, idx t]

/-- The weights of a block's pictures, at a picture. -/
theorem pay130_at (e : FVec Ideal S800x128 .f32) (a : FVec Ideal S64x800 .f32) (ab : FVec Ideal S64x1 .f32) (o : FVec Ideal S1x64 .f32) (ob : FVec Ideal S1x1 .f32) (l : Fin 128) :
    k0_pay130 (F := Ideal) e a ab o ob (ix2 0 l)
      = Ideal.exp (score (fun f => e (ix2 f l)) (fun f h => a (ix2 h f)) (fun h => ab (ix2 h 0)) (fun h => o (ix2 0 h)) (ob (ix2 0 0))) := by
  pointwise [k0_pay130]
  unfold score
  refine congrArg (fun q => Ideal.exp (sigm (q + ob (ix2 0 0)))) ?_
  refine Finset.sum_congr rfl fun h _ => ?_
  rw [mul_comm]
  refine congrArg (fun q => Ideal.tanh (q + ab (ix2 h 0)) * o (ix2 0 h)) ?_
  exact Finset.sum_congr rfl fun f _ => mul_comm _ _

/-- A block's part of the bags' weighted sums. -/
theorem newU_at (e : FVec Ideal S800x128 .f32) (a : FVec Ideal S64x800 .f32) (ab : FVec Ideal S64x1 .f32) (o : FVec Ideal S1x64 .f32) (ob : FVec Ideal S1x1 .f32)
    (y : IVec S1x1x128 32) (u : FVec Ideal S256x800 .f32) (b : Fin 256) (f : Fin 800) :
    newU (F := Ideal) e a ab o ob y u (ix2 b f)
      = u (ix2 b f) + ∑ l : Fin 128, (if y (ix3 0 0 l) = BitVec.ofNat 32 b.val then k0_pay130 (F := Ideal) e a ab o ob (ix2 0 l) else 0) * e (ix2 f l) := by
  generalize hk : k0_pay130 (F := Ideal) e a ab o ob = K
  have ha : k0_pay129 (F := Ideal) a = a := by
    funext j; pointwise [k0_pay129]
  unfold newU
  rw [ha]
  unfold k0_pay133
  rw [hk]
  pointwise []
  refine congrArg (u (ix2 b f) + ·) (Finset.sum_congr rfl fun l _ => ?_)
  by_cases h : y (ix3 0 0 l) = BitVec.ofNat 32 b.val
  · rw [if_pos h, h]; simp [Scalar.select, IntOp.cmpi]
  · rw [if_neg h, zero_mul]
    refine if_neg fun h2 => ?_
    have hb : BitVec.ofBool (y (ix3 0 0 l) == BitVec.ofNat 32 b.val) = 1#1 := h2
    rw [beq_false_of_ne h] at hb
    exact absurd hb (by decide)

/-- A block's part of the sum of weights. -/
theorem newZ_at (e : FVec Ideal S800x128 .f32) (a : FVec Ideal S64x800 .f32) (ab : FVec Ideal S64x1 .f32) (o : FVec Ideal S1x64 .f32) (ob : FVec Ideal S1x1 .f32)
    (z : FVec Ideal S8x128 .f32) (r : Fin 8) (l : Fin 128) :
    newZ (F := Ideal) e a ab o ob z (ix2 r l) = z (ix2 r l) + if r.val = 0 then k0_pay130 (F := Ideal) e a ab o ob (ix2 0 l) else 0 := by
  generalize hk : k0_pay130 (F := Ideal) e a ab o ob = K
  have ha : k0_pay129 (F := Ideal) a = a := by
    funext j; pointwise [k0_pay129]
  have hw : k0_pay134 (F := Ideal) e a ab o ob (row12 (F := Ideal) z) (ix2 0 l) = z (ix2 0 l) + K (ix2 0 l) := by
    unfold k0_pay134
    rw [hk]
    pointwise []
    refine congrArg (· + K (ix2 0 l)) ?_
    unfold row12 VecWindow.window
    congr 1
    idx_ext <;> simp
  unfold newZ
  rw [ha]
  generalize k0_pay134 (F := Ideal) e a ab o ob (row12 (F := Ideal) z) = w at hw ⊢
  unfold VecWindow.put
  by_cases h : r.val = 0
  · obtain rfl : r = 0 := Fin.ext h
    rw [dif_pos (by intro a; match a with | 0 => exact ⟨Nat.le_refl 0, Nat.one_pos⟩ | 1 => exact ⟨Nat.zero_le _, by show l.val < 0 + 128; omega⟩), if_pos h]
    refine Eq.trans (congrArg w ?_) hw
    idx_ext <;> simp
  · rw [if_neg h, dif_neg (by intro q; have := (q 0).2; exact h (by simpa using this)), add_zero]

end Cert.KernelIdeal.Alg

end
-- ==== Proof.SumI.lean ====
module

public import proofs.«01_k».proof.Proof.AccI

@[expose] public section

set_option maxRecDepth 16384

noncomputable section

namespace Cert.KernelIdeal.Alg

open Idealize.ShloMosaic Idealize.ShloMosaic.TcCoe Idealize.SL.Sem
open Idealize.ShloMosaic.Pipeline (Dat)
open Cert.KernelIdeal Cert.KernelIdeal.Gen
open Cert.KernelIdeal.Body (zf embOf newU newZ row12 iblk eAt uAt zAt uAt_first uAt_later zAt_first zAt_later dat0 after0_10 after0_11)
open Cert.Alg (feat score sigm)

variable (c : Dev nD) (t : Fin cfg0.N) (m : (ℓ : Loc nD τ sig) → Buf (Elt Ideal) ℓ)

/-- The features of picture `n`. -/
def fe (n : Fin 8192) (f : Fin 800) : EReal :=
  feat (fun r k => (show FVec Ideal S8192x28x28x1 .f32 from m ((c : Thread nD τ).loc main_arg0)) (ix4 n r k 0))
    (fun i j k => (show FVec Ideal S3x3x1x16 .f32 from m ((c : Thread nD τ).loc main_arg2)) (ix4 i j 0 k))
    (fun k => (show FVec Ideal S16 .f32 from m ((c : Thread nD τ).loc main_arg3)) (ix1 k))
    (fun i j k o => (show FVec Ideal S3x3x16x32 .f32 from m ((c : Thread nD τ).loc main_arg4)) (ix4 i j k o))
    (fun o => (show FVec Ideal S32 .f32 from m ((c : Thread nD τ).loc main_arg5)) (ix1 o)) f

/-- The score of picture `n`. -/
def sc (n : Fin 8192) : EReal :=
  score (fe c m n) (fun f h => (show FVec Ideal S800x64 .f32 from m ((c : Thread nD τ).loc main_arg6)) (ix2 f h))
    (fun h => (show FVec Ideal S64 .f32 from m ((c : Thread nD τ).loc main_arg7)) (ix1 h))
    (fun h => (show FVec Ideal S64x1 .f32 from m ((c : Thread nD τ).loc main_arg8)) (ix2 h 0))
    ((show FVec Ideal S1 .f32 from m ((c : Thread nD τ).loc main_arg9)) (ix1 0))

/-- The label of picture `n`. -/
def lab (n : Fin 8192) : BitVec 32 := (show IVec S8192 32 from m ((c : Thread nD τ).loc main_arg1)) (ix1 n)

/-- Picture `l` of block `t`. -/
def pic (t : Fin cfg0.N) (l : Fin 128) : Fin 8192 := ⟨t.val * 128 + l.val, by have := lt_of_lt_of_eq t.isLt (show cfg0.N = 64 from N_0); omega⟩

/-- A block's features are its pictures'. -/
theorem eAt_at (f : Fin 800) (l : Fin 128) : eAt (V61 m) c t (ix2 f l) = fe c m (pic t l) f := by
  unfold eAt
  rw [blk1_eq, blk2_eq, blk3_eq, blk4_eq, V61_v110, V61_v115, V61_v130, V61_v135]
  refine (embOf_at _ _ _ _ _ f l).trans ?_
  unfold fe
  have h0 : ∀ r k : Fin 28, (show FVec Ideal S1x28x28x128 .f32 from iblk (V61 m) c 0 t) (ix4 0 r k l) = (show FVec Ideal S8192x28x28x1 .f32 from m ((c : Thread nD τ).loc main_arg0)) (ix4 (pic t l) r k 0) := fun r k => by
    refine (blk0 (V61 m) c t r k l).trans ?_
    rw [V61_v1]
    generalize m ((c : Thread nD τ).loc main_arg0) = x
    pointwise [xt]
    rfl
  have h1 : ∀ (i j : Fin 3) (k : Fin 16), w1 m c (ix3 i j k) = (show FVec Ideal S3x3x1x16 .f32 from m ((c : Thread nD τ).loc main_arg2)) (ix4 i j 0 k) := fun i j k => by
    unfold w1
    generalize m ((c : Thread nD τ).loc main_arg2) = x
    pointwise []
  have h0' : (fun r k => (show FVec Ideal S1x28x28x128 .f32 from iblk (V61 m) c 0 t) (ix4 0 r k l)) = _ := funext fun r => funext fun k => h0 r k
  have h1' : (fun i j k => w1 m c (ix3 i j k)) = _ := funext fun i => funext fun j => funext fun k => h1 i j k
  exact congrArg₂ (fun x w => feat x w (fun k => (show FVec Ideal S16 .f32 from m ((c : Thread nD τ).loc main_arg3)) (ix1 k)) (fun i j k o => (show FVec Ideal S3x3x16x32 .f32 from m ((c : Thread nD τ).loc main_arg4)) (ix4 i j k o)) (fun o => (show FVec Ideal S32 .f32 from m ((c : Thread nD τ).loc main_arg5)) (ix1 o)) f) h0' h1'

/-- A block's weights are its pictures'. -/
theorem gate_at (l : Fin 128) : k0_pay130 (F := Ideal) (eAt (V61 m) c t) (iblk (V61 m) c 5 t) (iblk (V61 m) c 6 t) (iblk (V61 m) c 7 t) (iblk (V61 m) c 8 t) (ix2 0 l) = Ideal.exp (sc c m (pic t l)) := by
  rw [blk5_eq, blk6_eq, blk7_eq, blk8_eq, V61_v136, V61_v137, V61_v138, V61_v139]
  refine (pay130_at _ _ _ _ _ l).trans ?_
  unfold sc
  simp only [eAt_at]
  generalize m ((c : Thread nD τ).loc main_arg6) = x6
  generalize m ((c : Thread nD τ).loc main_arg7) = x7
  generalize m ((c : Thread nD τ).loc main_arg8) = x8
  generalize m ((c : Thread nD τ).loc main_arg9) = x9
  pointwise []

/-- A block's labels are its pictures'. -/
theorem lab_at (l : Fin 128) : (show IVec S1x1x128 32 from iblk (V61 m) c 9 t) (ix3 0 0 l) = lab c m (pic t l) := by
  refine (blk9 (V61 m) c t l).trans ?_
  rw [V61_v140]
  unfold lab
  generalize m ((c : Thread nD τ).loc main_arg1) = x
  pointwise []
  rfl

/-- The bags' weighted sums after all blocks. -/
theorem u_sum (tl : Fin cfg0.N) (hl : tl.val + 1 = cfg0.N) (b : Fin 256) (f : Fin 800) :
    uAt (V61 m) c tl.val tl.isLt (ix2 b f) = ∑ n : Fin 8192, (if lab c m n = BitVec.ofNat 32 b.val then Ideal.exp (sc c m n) else 0) * fe c m n f := by
  have hN : cfg0.N = 64 := N_0
  have h := Idealize.ShloMosaic.Pipeline.eq_sum_fin_of_reset_step_apply_last (M := EReal) (fun n h => (show FVec Ideal S256x800 .f32 from uAt (V61 m) c n h)) 64 (fun _ => 0)
    (fun t j => ∑ l : Fin 128, (if lab c m (pic t l) = BitVec.ofNat 32 (j 0).val then Ideal.exp (sc c m (pic t l)) else 0) * fe c m (pic t l) (j 1))
    (fun t h j => ?_) (fun t h j => ?_) (le_of_eq hN) tl hl (ix2 b f)
  · refine h.trans ((zero_add _).trans ?_)
    refine Eq.trans ?_ (Idealize.ShloMosaic.Fin.sum_univ_tiles 64 128 (N := 8192) rfl _).symm
    exact Finset.sum_equiv (finCongr hN) (fun _ => by simp) fun t _ => rfl
  · have h0 : t.val = 0 := by have := t.isLt; omega
    rw [uAt_first (V61 m) c t h0]
    obtain ⟨b, f, rfl⟩ : ∃ (b : Fin 256) (f : Fin 800), j = ix2 b f := ⟨j 0, j 1, by idx_ext <;> rfl⟩
    refine (newU_at _ _ _ _ _ _ _ b f).trans ?_
    simp only [gate_at, eAt_at, lab_at]
    refine congrArg (· + _) ?_
    pointwise [k0_pay131]
  · have h0 : t.val ≠ 0 := fun h0 => h (by rw [h0])
    rw [uAt_later (V61 m) c t h0]
    obtain ⟨b, f, rfl⟩ : ∃ (b : Fin 256) (f : Fin 800), j = ix2 b f := ⟨j 0, j 1, by idx_ext <;> rfl⟩
    refine (newU_at _ _ _ _ _ _ _ b f).trans ?_
    simp only [gate_at, eAt_at, lab_at]
    rfl

/-- The sums of weights by lane after all blocks, in the first row; the other rows stay zero. -/
theorem z_sum (tl : Fin cfg0.N) (hl : tl.val + 1 = cfg0.N) (r : Fin 8) (l : Fin 128) :
    zAt (V61 m) c tl.val tl.isLt (ix2 r l) = if r.val = 0 then ∑ t : Fin 64, Ideal.exp (sc c m ⟨t.val * 128 + l.val, by omega⟩) else 0 := by
  have hN : cfg0.N = 64 := N_0
  have h := Idealize.ShloMosaic.Pipeline.eq_sum_fin_of_reset_step_apply_last (M := EReal) (fun n h => (show FVec Ideal S8x128 .f32 from zAt (V61 m) c n h)) 64 (fun _ => 0)
    (fun t j => if (j 0).val = 0 then Ideal.exp (sc c m (pic t (j 1))) else 0)
    (fun t h j => ?_) (fun t h j => ?_) (le_of_eq hN) tl hl (ix2 r l)
  · refine h.trans ((zero_add _).trans ?_)
    by_cases hr : r.val = 0
    · rw [if_pos hr]
      refine Finset.sum_equiv (finCongr hN) (fun _ => by simp) fun t _ => ?_
      exact if_pos hr
    · rw [if_neg hr]
      exact Finset.sum_eq_zero fun t _ => if_neg hr
  · have h0 : t.val = 0 := by have := t.isLt; omega
    rw [zAt_first (V61 m) c t h0]
    obtain ⟨r, l, rfl⟩ : ∃ (b : Fin 8) (f : Fin 128), j = ix2 b f := ⟨j 0, j 1, by idx_ext <;> rfl⟩
    refine (newZ_at _ _ _ _ _ _ r l).trans ?_
    simp only [gate_at]
    refine congrArg (· + _) ?_
    pointwise [k0_pay132]
  · have h0 : t.val ≠ 0 := fun h0 => h (by rw [h0])
    rw [zAt_later (V61 m) c t h0]
    obtain ⟨r, l, rfl⟩ : ∃ (b : Fin 8) (f : Fin 128), j = ix2 b f := ⟨j 0, j 1, by idx_ext <;> rfl⟩
    refine (newZ_at _ _ _ _ _ _ r l).trans ?_
    simp only [gate_at]
    rfl

/-- The last point. -/
theorem last_of_flush (t : Fin cfg0.N) (h : t.val % 64 = 63) : t.val + 1 = cfg0.N := by
  have hN : cfg0.N = 64 := N_0
  have := t.isLt
  omega

/-- The bags' weighted sums as the first kernel leaves them. -/
def uArr : FVec Ideal S256x800 .f32 := fun j => ∑ n : Fin 8192, (if lab c m n = BitVec.ofNat 32 (j 0).val then Ideal.exp (sc c m n) else 0) * fe c m n (j 1)

/-- The sums of weights as the first kernel leaves them. -/
def zArr : FVec Ideal S8x128 .f32 := fun j => if (j 0).val = 0 then ∑ t : Fin 64, Ideal.exp (sc c m ⟨t.val * 128 + (j 1).val, by have h : (j 1).val < 128 := (j 1).isLt; omega⟩) else 0

/-- The bags' weighted sums after the first kernel. -/
theorem arr10 : (dat0 (V61 m) c).arrAt 10 cfg0.N = uArr c m := by
  refine (dat0 (V61 m) c).arrAt_eq_of_covers 10 _ (by decide +kernel) fun t hf y => ?_
  blk_simp
  rw [after0_10]
  have h := fun b f => u_sum c m t (last_of_flush t ((flush0_10 t).mp hf)) b f
  generalize uAt (V61 m) c t.val t.isLt = u at h ⊢
  obtain ⟨b, f, rfl⟩ : ∃ (b : Fin 256) (f : Fin 800), y = ix2 b f := ⟨y 0, y 1, by idx_ext <;> rfl⟩
  refine (h b f).trans ?_
  refine Eq.trans ?_ (congrArg (uArr c m) (?_ : ix2 b f = _))
  · rfl
  · blk_ext [idx t]

/-- The sums of weights after the first kernel. -/
theorem arr11 : (dat0 (V61 m) c).arrAt 11 cfg0.N = zArr c m := by
  refine (dat0 (V61 m) c).arrAt_eq_of_covers 11 _ (by decide +kernel) fun t hf y => ?_
  blk_simp
  rw [after0_11]
  have h := fun r l => z_sum c m t (last_of_flush t ((flush0_11 t).mp hf)) r l
  generalize zAt (V61 m) c t.val t.isLt = u at h ⊢
  obtain ⟨b, f, rfl⟩ : ∃ (b : Fin 8) (f : Fin 128), y = ix2 b f := ⟨y 0, y 1, by idx_ext <;> rfl⟩
  refine (h b f).trans ?_
  refine Eq.trans ?_ (congrArg (zArr c m) (?_ : ix2 b f = _))
  · rfl
  · blk_ext [idx t]

end Cert.KernelIdeal.Alg

end
-- ==== Proof.Bags.lean ====
module

public import proofs.«01_k».proof.Proof.Algebra

@[expose] public section

noncomputable section

namespace Cert.Alg

open Idealize.ShloMosaic

/-- The softmax of `n` numbers at place `k`, the largest taken off first. -/
def sm {n : ℕ} (f : Fin n → EReal) (k : Fin n) : EReal :=
  Ideal.div (Ideal.exp (f k - max ⊥ (Finset.univ.fold max (⊥ : EReal) f)))
    (0 + ∑ j : Fin n, Ideal.exp (f j - max ⊥ (Finset.univ.fold max (⊥ : EReal) f)))

/-- The last two layers on 800 features: one of 128 without a nonlinearity and a sigmoid. -/
def tail (e : Fin 800 → EReal) (cw : Fin 800 → Fin 128 → EReal) (cb cow : Fin 128 → EReal) (cob : EReal) : EReal :=
  sigm ((∑ k : Fin 128, ((∑ f : Fin 800, e f * cw f k) + cb k) * cow k) + cob)

/-- The bags' features as the reference forms them: the softmaxed scores weigh the features of the pictures that carry the bag's label. -/
def bagR (lab : Fin 8192 → BitVec 32) (sc : Fin 8192 → EReal) (fe : Fin 8192 → Fin 800 → EReal) (b : Fin 256) (f : Fin 800) : EReal :=
  ∑ n : Fin 8192, if lab n = BitVec.ofNat 32 b.val then sm sc n * fe n f else 0

/-- The bags' features before the division by the sum of weights. -/
def bagK (lab : Fin 8192 → BitVec 32) (sc : Fin 8192 → EReal) (fe : Fin 8192 → Fin 800 → EReal) (b : Fin 256) (f : Fin 800) : EReal :=
  ∑ n : Fin 8192, (if lab n = BitVec.ofNat 32 b.val then Ideal.exp (sc n) else 0) * fe n f

/-- The reference's prediction from the bags' features. -/
def headR (v : Fin 256 → Fin 800 → EReal) (a : Fin 800 → Fin 64 → EReal) (ab o : Fin 64 → EReal) (ob : EReal)
    (cw : Fin 800 → Fin 128 → EReal) (cb cow : Fin 128 → EReal) (cob : EReal) : EReal :=
  tail (fun f => ∑ b : Fin 256, sm (fun b => score (v b) a ab o ob) b * v b f) cw cb cow cob

/-- The kernel's score of a bag: the division by the sum of weights comes after the first product. -/
def scoreK (u : Fin 800 → EReal) (s : EReal) (a : Fin 800 → Fin 64 → EReal) (ab o : Fin 64 → EReal) (ob : EReal) : EReal :=
  sigm ((∑ h : Fin 64, Ideal.tanh ((∑ f : Fin 800, u f * a f h) * Ideal.div 1 s + ab h) * o h) + ob)

/-- The kernel's prediction from the bags' undivided features and the sum of weights. -/
def headK (u : Fin 256 → Fin 800 → EReal) (s : EReal) (a : Fin 800 → Fin 64 → EReal) (ab o : Fin 64 → EReal) (ob : EReal)
    (cw : Fin 800 → Fin 128 → EReal) (cb cow : Fin 128 → EReal) (cob : EReal) : EReal :=
  tail (fun f => (∑ b : Fin 256, Ideal.exp (scoreK (u b) s a ab o ob) * u b f)
    * Ideal.div (Ideal.div 1 s) (∑ b : Fin 256, Ideal.exp (scoreK (u b) s a ab o ob))) cw cb cow cob

/-- Where the scores are real numbers the two predictions are the same. -/
theorem heads (lab : Fin 8192 → BitVec 32) (sc : Fin 8192 → EReal) (hsc : ∀ n, ∃ r : ℝ, sc n = (r : EReal)) (fe : Fin 8192 → Fin 800 → EReal)
    (a : Fin 800 → Fin 64 → EReal) (ab o : Fin 64 → EReal) (ob : EReal) (cw : Fin 800 → Fin 128 → EReal) (cb cow : Fin 128 → EReal) (cob : EReal) :
    headK (bagK lab sc fe) (∑ n : Fin 8192, Ideal.exp (sc n)) a ab o ob cw cb cow cob
      = headR (bagR lab sc fe) a ab o ob cw cb cow cob := by
  choose r hr using hsc
  have hS : 0 < ∑ n : Fin 8192, Real.exp (r n) := Finset.sum_pos (fun n _ => Real.exp_pos _) Finset.univ_nonempty
  have hsum : ∑ n : Fin 8192, Ideal.exp (sc n) = ((∑ n : Fin 8192, Real.exp (r n) : ℝ) : EReal) := by
    rw [← coe_sum]
    exact Finset.sum_congr rfl fun n _ => by rw [hr, exp_coe]
  have hbag : ∀ b f, bagR lab sc fe b f = ((1 / ∑ n : Fin 8192, Real.exp (r n) : ℝ) : EReal) * bagK lab sc fe b f := fun b f => by
    unfold bagR bagK
    refine Eq.trans ?_ ((mean_eq (by decide) r (fun n => lab n = BitVec.ofNat 32 b.val) (fun n => fe n f)).trans ?_)
    · exact Finset.sum_congr rfl fun n _ => by rw [show sm sc n = _ from softmax (by decide) r sc hr n]
    · refine congrArg _ (Finset.sum_congr rfl fun n _ => ?_)
      rw [hr, exp_coe]
  have hbagf : ∀ b, bagR lab sc fe b = fun f => ((1 / ∑ n : Fin 8192, Real.exp (r n) : ℝ) : EReal) * bagK lab sc fe b f := fun b => funext (hbag b)
  rw [hsum]
  generalize hs : (∑ n : Fin 8192, Real.exp (r n)) = s at *
  have hdiv : Ideal.div 1 (s : EReal) = ((1 / s : ℝ) : EReal) := by rw [Ideal.div_coe hS.ne', one_mul]
  have hscore : ∀ b, scoreK (bagK lab sc fe b) (s : EReal) a ab o ob = score (bagR lab sc fe b) a ab o ob := fun b => by
    unfold scoreK score
    rw [hdiv]
    refine congrArg (fun q => sigm (q + ob)) (Finset.sum_congr rfl fun h _ => ?_)
    rw [scaled_dot _ _ (by positivity) _, hbagf]
  choose q hq using fun b => score_real (bagR lab sc fe b) a ab o ob
  unfold headK headR
  simp only [hscore]
  refine congrArg (fun e => tail e cw cb cow cob) (funext fun f => ?_)
  have hZ : ∑ b : Fin 256, Ideal.exp (score (bagR lab sc fe b) a ab o ob) = ((∑ b : Fin 256, Real.exp (q b) : ℝ) : EReal) := by
    rw [← coe_sum]
    exact Finset.sum_congr rfl fun b _ => by rw [hq, exp_coe]
  have hU : ∑ b : Fin 256, Ideal.exp (score (bagR lab sc fe b) a ab o ob) * bagK lab sc fe b f = ∑ b : Fin 256, ((Real.exp (q b) : ℝ) : EReal) * bagK lab sc fe b f :=
    Finset.sum_congr rfl fun b _ => by rw [hq, exp_coe]
  rw [hZ, hdiv, hU, bag_eq (bagK lab sc fe) s hS q f]
  refine Finset.sum_congr rfl fun b _ => ?_
  rw [← hbag b f, show sm (fun b => score (bagR lab sc fe b) a ab o ob) b = _ from softmax (by decide) q _ hq b]

end Cert.Alg

end
-- ==== Proof.TailI.lean ====
module

public import proofs.«01_k».proof.Proof.SumI
public import proofs.«01_k».proof.Proof.Bags
public import proofs.«01_k».proof.Proof.RunI

@[expose] public section

set_option maxRecDepth 16384

noncomputable section

namespace Cert.KernelIdeal.Alg

open Idealize.ShloMosaic Idealize.ShloMosaic.TcCoe Idealize.SL.Sem Idealize.ShloMosaic.StableHlo
open Idealize.ShloMosaic.Pipeline (Dat)
open Cert.KernelIdeal Cert.KernelIdeal.Gen
open Cert.KernelIdeal.Body (headv headAt iblk1 dat0 dat1 A1_eq after1_10 outs outsA outs_first outs_second V62_eq V63_eq)
open Cert.Alg (feat score sigm tail bagK headK scoreK)

/-! ## The second kernel's body -/

/-- The two attention steps of the second kernel and its first layer. -/
theorem pay2_at (u : FVec Ideal S256x800 .f32) (z : FVec Ideal S8x128 .f32) (a : FVec Ideal S800x64 .f32) (ab : FVec Ideal S1x64 .f32) (o : FVec Ideal S64x1 .f32) (ob : FVec Ideal S1x1 .f32) (cw : FVec Ideal S800x128 .f32) (k : Fin 128) :
    k1_pay2 (F := Ideal) u z a ab o ob cw (ix2 0 k)
      = ∑ f : Fin 800, ((∑ b : Fin 256, Ideal.exp (scoreK (fun f => u (ix2 b f)) (∑ r : Fin 8, ∑ l : Fin 128, z (ix2 r l)) (fun f h => a (ix2 f h)) (fun h => ab (ix2 0 h)) (fun h => o (ix2 h 0)) (ob (ix2 0 0))) * u (ix2 b f))
          * Ideal.div (Ideal.div 1 (∑ r : Fin 8, ∑ l : Fin 128, z (ix2 r l))) (∑ b : Fin 256, Ideal.exp (scoreK (fun f => u (ix2 b f)) (∑ r : Fin 8, ∑ l : Fin 128, z (ix2 r l)) (fun f h => a (ix2 f h)) (fun h => ab (ix2 0 h)) (fun h => o (ix2 h 0)) (ob (ix2 0 0))))) * cw (ix2 f k) := by
  pointwise [k1_pay2]
  simp only [Fin.sum_univ_one]
  rfl

/-- The second kernel's last layer. -/
theorem pay1_at (v : FVec Ideal S1x128 .f32) (cb : FVec Ideal S1x128 .f32) (cow : FVec Ideal S128x1 .f32) (cob : FVec Ideal S1x1 .f32) :
    k1_pay1 (F := Ideal) v cb cow cob (ix2 0 0) = sigm ((∑ k : Fin 128, (v (ix2 0 k) + cb (ix2 0 k)) * cow (ix2 k 0)) + cob (ix2 0 0)) := by
  pointwise [k1_pay1]
  rfl

/-- The second kernel's result. -/
theorem headv_at (u : FVec Ideal S256x800 .f32) (z : FVec Ideal S8x128 .f32) (a : FVec Ideal S800x64 .f32) (ab : FVec Ideal S1x64 .f32) (o : FVec Ideal S64x1 .f32) (ob : FVec Ideal S1x1 .f32) (cw : FVec Ideal S800x128 .f32)
    (cb : FVec Ideal S1x128 .f32) (cow : FVec Ideal S128x1 .f32) (cob : FVec Ideal S1x1 .f32) :
    headv (F := Ideal) u z a ab o ob cw cb cow cob (ix2 0 0)
      = headK (fun b f => u (ix2 b f)) (∑ r : Fin 8, ∑ l : Fin 128, z (ix2 r l)) (fun f h => a (ix2 f h)) (fun h => ab (ix2 0 h)) (fun h => o (ix2 h 0)) (ob (ix2 0 0))
          (fun f k => cw (ix2 f k)) (fun k => cb (ix2 0 k)) (fun k => cow (ix2 k 0)) (cob (ix2 0 0)) := by
  unfold headv
  refine (pay1_at _ _ _ _).trans ?_
  unfold headK tail
  exact congrArg (fun q => sigm (q + cob (ix2 0 0))) (Finset.sum_congr rfl fun k _ => congrArg (fun q => (q + cb (ix2 0 k)) * cow (ix2 k 0)) (pay2_at u z a ab o ob cw k))

/-! ## Its operands -/

/-- The second kernel's windows' blocks. -/
theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![0, 0]
    ∧ win1_9.index t = ![0, 0] ∧ win1_10.index t = ![0, 0] :=
  (by decide +kernel : ∀ t : Fin grid1.N, _)

section
variable (V : Dev nD → Valuation τ sig (Elt Ideal)) (c : Dev nD) (t : Fin cfg1.N)

theorem hblk0 : iblk1 V c 0 t = V c main_v141_0 := by blk_ext! [iblk1, idx1 t]
theorem hblk1 : iblk1 V c 1 t = V c main_v141_1 := by blk_ext! [iblk1, idx1 t]
theorem hblk2 : iblk1 V c 2 t = V c main_arg10 := by blk_ext! [iblk1, idx1 t]
theorem hblk3 : iblk1 V c 3 t = V c main_v142 := by blk_ext! [iblk1, idx1 t]
theorem hblk4 : iblk1 V c 4 t = V c main_arg12 := by blk_ext! [iblk1, idx1 t]
theorem hblk5 : iblk1 V c 5 t = V c main_v143 := by blk_ext! [iblk1, idx1 t]
theorem hblk6 : iblk1 V c 6 t = V c main_arg14 := by blk_ext! [iblk1, idx1 t]
theorem hblk7 : iblk1 V c 7 t = V c main_v144 := by blk_ext! [iblk1, idx1 t]
theorem hblk8 : iblk1 V c 8 t = V c main_arg16 := by blk_ext! [iblk1, idx1 t]
theorem hblk9 : iblk1 V c 9 t = V c main_v145 := by blk_ext! [iblk1, idx1 t]

/-- The result's array after the second kernel: the body's result over the whole operands. -/
theorem arr1_10 : (dat1 V c).arrAt 10 cfg1.N = headv (F := Ideal) (V c main_v141_0) (V c main_v141_1) (V c main_arg10) (V c main_v142) (V c main_arg12) (V c main_v143) (V c main_arg14) (V c main_v144) (V c main_arg16) (V c main_v145) := by
  refine (dat1 V c).arrAt_eq_of_after_last 10 t1_0 (by decide +kernel) _ fun j => ?_
  blk_simp
  rw [after1_10]
  unfold headAt
  rw [hblk0, hblk1, hblk2, hblk3, hblk4, hblk5, hblk6, hblk7, hblk8, hblk9]
end

variable (c : Dev nD) (m : (ℓ : Loc nD τ sig) → Buf (Elt Ideal) ℓ)

theorem V62_u : V62 m (outs m) c main_v141_0 = uArr c m := by
  have h : V62 m (outs m) c main_v141_0 = outs m 62 main_v141_0 c := by
    unfold V62
    rw [Function.update_of_ne (by decide), Function.update_self]
  rw [h, outs_first]
  exact (Pipeline.afterRegion_arr (dat0 (V61 m) c) (V61 m c) winFacts0.arr_inj 10).trans (arr10 c m)

theorem V62_z : V62 m (outs m) c main_v141_1 = zArr c m := by
  have h : V62 m (outs m) c main_v141_1 = outs m 62 main_v141_1 c := by
    unfold V62
    rw [Function.update_self]
  rw [h, outs_first]
  exact (Pipeline.afterRegion_arr (dat0 (V61 m) c) (V61 m c) winFacts0.arr_inj 11).trans (arr11 c m)

/-- The sum of weights over rows and lanes is the sum over the pictures. -/
theorem z_total : ∑ r : Fin 8, ∑ l : Fin 128, zArr c m (ix2 r l) = ∑ n : Fin 8192, Ideal.exp (sc c m n) := by
  have h0 : ∀ r : Fin 8, r ≠ 0 → ∑ l : Fin 128, zArr c m (ix2 r l) = 0 := fun r hr =>
    Finset.sum_eq_zero fun l _ => if_neg fun h : r.val = 0 => hr (Fin.ext h)
  rw [Finset.sum_eq_single 0 (fun r _ hr => h0 r hr) (fun h => absurd (Finset.mem_univ _) h)]
  refine Eq.trans ?_ (Idealize.ShloMosaic.Fin.sum_univ_tiles 64 128 (N := 8192) rfl _).symm
  refine Eq.trans ?_ Finset.sum_comm
  exact Finset.sum_congr rfl fun l _ => if_pos rfl

theorem V63_arg10 : V63 m (outs m) c main_arg10 = m ((c : Thread nD τ).loc main_arg10) :=
  (V63_of m (outs m) c main_arg10 (by decide)).trans ((V62_of m (outs m) c main_arg10 (by decide)).trans (V61_arg10 m c))
theorem V63_arg12 : V63 m (outs m) c main_arg12 = m ((c : Thread nD τ).loc main_arg12) :=
  (V63_of m (outs m) c main_arg12 (by decide)).trans ((V62_of m (outs m) c main_arg12 (by decide)).trans (V61_arg12 m c))
theorem V63_arg14 : V63 m (outs m) c main_arg14 = m ((c : Thread nD τ).loc main_arg14) :=
  (V63_of m (outs m) c main_arg14 (by decide)).trans ((V62_of m (outs m) c main_arg14 (by decide)).trans (V61_arg14 m c))
theorem V63_arg16 : V63 m (outs m) c main_arg16 = m ((c : Thread nD τ).loc main_arg16) :=
  (V63_of m (outs m) c main_arg16 (by decide)).trans ((V62_of m (outs m) c main_arg16 (by decide)).trans (V61_arg16 m c))
theorem V63_v142 : V63 m (outs m) c main_v142 = (shapeCast S1x64 (m ((c : Thread nD τ).loc main_arg11)) shapeCasts_S64_S1x64 : FVec Ideal S1x64 .f32) := by
  rw [← V61_arg11 m c, ← V62_of m (outs m) c main_arg11 (by decide)]
  show StableHlo.after hostOps1 (V62 m (outs m) c) (Proc.devRef .tc main_v142) = _
  generalize V62 m (outs m) c = V
  after_results_simp
  rfl
theorem V63_v143 : V63 m (outs m) c main_v143 = (shapeCast S1x1 (m ((c : Thread nD τ).loc main_arg13)) shapeCasts_S1_S1x1 : FVec Ideal S1x1 .f32) := by
  rw [← V61_arg13 m c, ← V62_of m (outs m) c main_arg13 (by decide)]
  show StableHlo.after hostOps1 (V62 m (outs m) c) (Proc.devRef .tc main_v143) = _
  generalize V62 m (outs m) c = V
  after_results_simp
  rfl
theorem V63_v144 : V63 m (outs m) c main_v144 = (shapeCast S1x128 (m ((c : Thread nD τ).loc main_arg15)) shapeCasts_S128_S1x128 : FVec Ideal S1x128 .f32) := by
  rw [← V61_arg15 m c, ← V62_of m (outs m) c main_arg15 (by decide)]
  show StableHlo.after hostOps1 (V62 m (outs m) c) (Proc.devRef .tc main_v144) = _
  generalize V62 m (outs m) c = V
  after_results_simp
  rfl
theorem V63_v145 : V63 m (outs m) c main_v145 = (shapeCast S1x1 (m ((c : Thread nD τ).loc main_arg17)) shapeCasts_S1_S1x1 : FVec Ideal S1x1 .f32) := by
  rw [← V61_arg17 m c, ← V62_of m (outs m) c main_arg17 (by decide)]
  show StableHlo.after hostOps1 (V62 m (outs m) c) (Proc.devRef .tc main_v145) = _
  generalize V62 m (outs m) c = V
  after_results_simp
  rfl
theorem V63_u : V63 m (outs m) c main_v141_0 = uArr c m :=
  (V63_of m (outs m) c main_v141_0 (by decide)).trans (V62_u c m)
theorem V63_z : V63 m (outs m) c main_v141_1 = zArr c m :=
  (V63_of m (outs m) c main_v141_1 (by decide)).trans (V62_z c m)

/-- The second kernel's result. -/
theorem V64_v146 : V64 m (outs m) c main_v146 = headv (F := Ideal) (uArr c m) (zArr c m) (m ((c : Thread nD τ).loc main_arg10)) (shapeCast S1x64 (m ((c : Thread nD τ).loc main_arg11)) shapeCasts_S64_S1x64)
    (m ((c : Thread nD τ).loc main_arg12)) (shapeCast S1x1 (m ((c : Thread nD τ).loc main_arg13)) shapeCasts_S1_S1x1) (m ((c : Thread nD τ).loc main_arg14)) (shapeCast S1x128 (m ((c : Thread nD τ).loc main_arg15)) shapeCasts_S128_S1x128)
    (m ((c : Thread nD τ).loc main_arg16)) (shapeCast S1x1 (m ((c : Thread nD τ).loc main_arg17)) shapeCasts_S1_S1x1) := by
  have h : V64 m (outs m) c main_v146 = outs m 64 main_v146 c := by
    unfold V64
    rw [Function.update_self]
  have hV : V63 m (outsA m) = V63 m (outs m) := funext fun c => (V63_eq m c).symm
  rw [h, outs_second, hV]
  refine (Pipeline.afterRegion_arr (dat1 (V63 m (outs m)) c) (V63 m (outs m) c) winFacts1.arr_inj 10).trans ((arr1_10 _ c).trans ?_)
  rw [V63_u, V63_z, V63_arg10, V63_arg12, V63_arg14, V63_arg16, V63_v142, V63_v143, V63_v144, V63_v145]

/-- The kernel's prediction. -/
def pred : EReal :=
  headK (bagK (lab c m) (sc c m) (fe c m)) (∑ n : Fin 8192, Ideal.exp (sc c m n)) (fun f h => (show FVec Ideal S800x64 .f32 from m ((c : Thread nD τ).loc main_arg10)) (ix2 f h))
    (fun h => (show FVec Ideal S64 .f32 from m ((c : Thread nD τ).loc main_arg11)) (ix1 h))
    (fun h => (show FVec Ideal S64x1 .f32 from m ((c : Thread nD τ).loc main_arg12)) (ix2 h 0))
    ((show FVec Ideal S1 .f32 from m ((c : Thread nD τ).loc main_arg13)) (ix1 0))
    (fun f k => (show FVec Ideal S800x128 .f32 from m ((c : Thread nD τ).loc main_arg14)) (ix2 f k))
    (fun k => (show FVec Ideal S128 .f32 from m ((c : Thread nD τ).loc main_arg15)) (ix1 k))
    (fun k => (show FVec Ideal S128x1 .f32 from m ((c : Thread nD τ).loc main_arg16)) (ix2 k 0))
    ((show FVec Ideal S1 .f32 from m ((c : Thread nD τ).loc main_arg17)) (ix1 0))

/-- The program's result is its first entry. -/
theorem V65_v147 : (show FVec Ideal S1x1 .f32 from V65 m (outs m) c main_v147) (ix2 0 0) = pred c m := by
  have h : V65 m (outs m) c main_v147 = extractStridedSlice S1x1 ![0, 0] (V64 m (outs m) c main_v146) slices_S8x128_S1x1_0_0 := by
    show StableHlo.after hostOps2 (V64 m (outs m) c) (Proc.devRef .tc main_v147) = _
    generalize V64 m (outs m) c = V
    after_results_simp
  rw [h, V64_v146]
  have hz := z_total c m
  have hu : (fun b f => uArr c m (ix2 b f)) = bagK (lab c m) (sc c m) (fe c m) := rfl
  unfold pred
  rw [← hz, ← hu]
  generalize uArr c m = u
  generalize zArr c m = z
  generalize m ((c : Thread nD τ).loc main_arg10) = x10
  generalize m ((c : Thread nD τ).loc main_arg11) = x11
  generalize m ((c : Thread nD τ).loc main_arg12) = x12
  generalize m ((c : Thread nD τ).loc main_arg13) = x13
  generalize m ((c : Thread nD τ).loc main_arg14) = x14
  generalize m ((c : Thread nD τ).loc main_arg15) = x15
  generalize m ((c : Thread nD τ).loc main_arg16) = x16
  generalize m ((c : Thread nD τ).loc main_arg17) = x17
  have e : ∀ q : FVec Ideal S8x128 .f32, extractStridedSlice S1x1 ![0, 0] q slices_S8x128_S1x1_0_0 (ix2 0 0) = q (ix2 0 0) := fun q => by
    pointwise []
  refine (e _).trans ((headv_at _ _ _ _ _ _ _ _ _ _).trans ?_)
  have h11 : (fun h : Fin 64 => (shapeCast S1x64 (show FVec Ideal S64 .f32 from x11) shapeCasts_S64_S1x64) (ix2 0 h)) = fun h => (show FVec Ideal S64 .f32 from x11) (ix1 h) := funext fun h => by
    pointwise []
  have h13 : (shapeCast S1x1 (show FVec Ideal S1 .f32 from x13) shapeCasts_S1_S1x1) (ix2 0 0) = (show FVec Ideal S1 .f32 from x13) (ix1 0) := by
    pointwise []
  have h15 : (fun h : Fin 128 => (shapeCast S1x128 (show FVec Ideal S128 .f32 from x15) shapeCasts_S128_S1x128) (ix2 0 h)) = fun h => (show FVec Ideal S128 .f32 from x15) (ix1 h) := funext fun h => by
    pointwise []
  have h17 : (shapeCast S1x1 (show FVec Ideal S1 .f32 from x17) shapeCasts_S1_S1x1) (ix2 0 0) = (show FVec Ideal S1 .f32 from x17) (ix1 0) := by
    pointwise []
  rw [← h11, ← h13, ← h15, ← h17]

end Cert.KernelIdeal.Alg

end
-- ==== Proof.RefConv.lean ====
module

public import proofs.«01_k».proof.Proof.Gen.ReferenceIdeal.Run
public import proofs.«01_k».proof.Proof.Algebra
public import Idealize.ShloMosaic.Lib.Pointwise

@[expose] public section

set_option maxRecDepth 16384

noncomputable section

namespace Cert.ReferenceIdeal.Alg

open Cert.ReferenceIdeal Cert.ReferenceIdeal.Gen Cert.ReferenceIdeal.Value Idealize.ShloMosaic Idealize.ShloMosaic.TcCoe Idealize.SL.Sem Idealize.ShloMosaic.StableHlo
open Cert.Alg (conv1 conv2 pool layer1 layer2 feat score sigm)

/-- The first convolution, its bias and its maximum with zero. -/
def pre1 (x : FVec Ideal S8192x28x28x1 .f32) (w : FVec Ideal S3x3x1x16 .f32) (b : FVec Ideal S16 .f32) : FVec Ideal S8192x26x26x16 .f32 :=
  maximumf (addf (addf (addf (addf (addf (addf (addf (addf (addf (addf (broadcastInDim S8192x26x26x16 ![] bcast_S_S8192x26x26x16 (constant S_ .f32 0x00000000#32)) (Host.dotGeneral dot_S8192x26x26x1_S1x16_S8192x26x26x16_3_0_012_1_n_n none (extractStridedSlice S8192x26x26x1 ![0, 0, 0, 0] x slices_S8192x28x28x1_S8192x26x26x1_0_0_0_0) (shapeCast S1x16 (extractStridedSlice S1x1x1x16 ![0, 0, 0, 0] w slices_S3x3x1x16_S1x1x1x16_0_0_0_0) shapeCasts_S1x1x1x16_S1x16))) (Host.dotGeneral dot_S8192x26x26x1_S1x16_S8192x26x26x16_3_0_012_1_n_n none (extractStridedSlice S8192x26x26x1 ![0, 0, 1, 0] x slices_S8192x28x28x1_S8192x26x26x1_0_0_1_0) (shapeCast S1x16 (extractStridedSlice S1x1x1x16 ![0, 1, 0, 0] w slices_S3x3x1x16_S1x1x1x16_0_1_0_0) shapeCasts_S1x1x1x16_S1x16))) (Host.dotGeneral dot_S8192x26x26x1_S1x16_S8192x26x26x16_3_0_012_1_n_n none (extractStridedSlice S8192x26x26x1 ![0, 0, 2, 0] x slices_S8192x28x28x1_S8192x26x26x1_0_0_2_0) (shapeCast S1x16 (extractStridedSlice S1x1x1x16 ![0, 2, 0, 0] w slices_S3x3x1x16_S1x1x1x16_0_2_0_0) shapeCasts_S1x1x1x16_S1x16))) (Host.dotGeneral dot_S8192x26x26x1_S1x16_S8192x26x26x16_3_0_012_1_n_n none (extractStridedSlice S8192x26x26x1 ![0, 1, 0, 0] x slices_S8192x28x28x1_S8192x26x26x1_0_1_0_0) (shapeCast S1x16 (extractStridedSlice S1x1x1x16 ![1, 0, 0, 0] w slices_S3x3x1x16_S1x1x1x16_1_0_0_0) shapeCasts_S1x1x1x16_S1x16))) (Host.dotGeneral dot_S8192x26x26x1_S1x16_S8192x26x26x16_3_0_012_1_n_n none (extractStridedSlice S8192x26x26x1 ![0, 1, 1, 0] x slices_S8192x28x28x1_S8192x26x26x1_0_1_1_0) (shapeCast S1x16 (extractStridedSlice S1x1x1x16 ![1, 1, 0, 0] w slices_S3x3x1x16_S1x1x1x16_1_1_0_0) shapeCasts_S1x1x1x16_S1x16))) (Host.dotGeneral dot_S8192x26x26x1_S1x16_S8192x26x26x16_3_0_012_1_n_n none (extractStridedSlice S8192x26x26x1 ![0, 1, 2, 0] x slices_S8192x28x28x1_S8192x26x26x1_0_1_2_0) (shapeCast S1x16 (extractStridedSlice S1x1x1x16 ![1, 2, 0, 0] w slices_S3x3x1x16_S1x1x1x16_1_2_0_0) shapeCasts_S1x1x1x16_S1x16))) (Host.dotGeneral dot_S8192x26x26x1_S1x16_S8192x26x26x16_3_0_012_1_n_n none (extractStridedSlice S8192x26x26x1 ![0, 2, 0, 0] x slices_S8192x28x28x1_S8192x26x26x1_0_2_0_0) (shapeCast S1x16 (extractStridedSlice S1x1x1x16 ![2, 0, 0, 0] w slices_S3x3x1x16_S1x1x1x16_2_0_0_0) shapeCasts_S1x1x1x16_S1x16))) (Host.dotGeneral dot_S8192x26x26x1_S1x16_S8192x26x26x16_3_0_012_1_n_n none (extractStridedSlice S8192x26x26x1 ![0, 2, 1, 0] x slices_S8192x28x28x1_S8192x26x26x1_0_2_1_0) (shapeCast S1x16 (extractStridedSlice S1x1x1x16 ![2, 1, 0, 0] w slices_S3x3x1x16_S1x1x1x16_2_1_0_0) shapeCasts_S1x1x1x16_S1x16))) (Host.dotGeneral dot_S8192x26x26x1_S1x16_S8192x26x26x16_3_0_012_1_n_n none (extractStridedSlice S8192x26x26x1 ![0, 2, 2, 0] x slices_S8192x28x28x1_S8192x26x26x1_0_2_2_0) (shapeCast S1x16 (extractStridedSlice S1x1x1x16 ![2, 2, 0, 0] w slices_S3x3x1x16_S1x1x1x16_2_2_0_0) shapeCasts_S1x1x1x16_S1x16))) (broadcastInDim S8192x26x26x16 ![0, 1, 2, 3] bcast_S1x1x1x16_S8192x26x26x16_0_1_2_3 (broadcastInDim S1x1x1x16 ![3] bcast_S16_S1x1x1x16_3 b))) (broadcastInDim S8192x26x26x16 ![] bcast_S_S8192x26x26x16 (constant S_ .f32 0x00000000#32))

/-- The second convolution, its bias and its maximum with zero. -/
def pre2 (x : FVec Ideal S8192x13x13x16 .f32) (w : FVec Ideal S3x3x16x32 .f32) (b : FVec Ideal S32 .f32) : FVec Ideal S8192x11x11x32 .f32 :=
  maximumf (addf (addf (addf (addf (addf (addf (addf (addf (addf (addf (broadcastInDim S8192x11x11x32 ![] bcast_S_S8192x11x11x32 (constant S_ .f32 0x00000000#32)) (Host.dotGeneral dot_S8192x11x11x16_S16x32_S8192x11x11x32_3_0_012_1_n_n none (extractStridedSlice S8192x11x11x16 ![0, 0, 0, 0] x slices_S8192x13x13x16_S8192x11x11x16_0_0_0_0) (shapeCast S16x32 (extractStridedSlice S1x1x16x32 ![0, 0, 0, 0] w slices_S3x3x16x32_S1x1x16x32_0_0_0_0) shapeCasts_S1x1x16x32_S16x32))) (Host.dotGeneral dot_S8192x11x11x16_S16x32_S8192x11x11x32_3_0_012_1_n_n none (extractStridedSlice S8192x11x11x16 ![0, 0, 1, 0] x slices_S8192x13x13x16_S8192x11x11x16_0_0_1_0) (shapeCast S16x32 (extractStridedSlice S1x1x16x32 ![0, 1, 0, 0] w slices_S3x3x16x32_S1x1x16x32_0_1_0_0) shapeCasts_S1x1x16x32_S16x32))) (Host.dotGeneral dot_S8192x11x11x16_S16x32_S8192x11x11x32_3_0_012_1_n_n none (extractStridedSlice S8192x11x11x16 ![0, 0, 2, 0] x slices_S8192x13x13x16_S8192x11x11x16_0_0_2_0) (shapeCast S16x32 (extractStridedSlice S1x1x16x32 ![0, 2, 0, 0] w slices_S3x3x16x32_S1x1x16x32_0_2_0_0) shapeCasts_S1x1x16x32_S16x32))) (Host.dotGeneral dot_S8192x11x11x16_S16x32_S8192x11x11x32_3_0_012_1_n_n none (extractStridedSlice S8192x11x11x16 ![0, 1, 0, 0] x slices_S8192x13x13x16_S8192x11x11x16_0_1_0_0) (shapeCast S16x32 (extractStridedSlice S1x1x16x32 ![1, 0, 0, 0] w slices_S3x3x16x32_S1x1x16x32_1_0_0_0) shapeCasts_S1x1x16x32_S16x32))) (Host.dotGeneral dot_S8192x11x11x16_S16x32_S8192x11x11x32_3_0_012_1_n_n none (extractStridedSlice S8192x11x11x16 ![0, 1, 1, 0] x slices_S8192x13x13x16_S8192x11x11x16_0_1_1_0) (shapeCast S16x32 (extractStridedSlice S1x1x16x32 ![1, 1, 0, 0] w slices_S3x3x16x32_S1x1x16x32_1_1_0_0) shapeCasts_S1x1x16x32_S16x32))) (Host.dotGeneral dot_S8192x11x11x16_S16x32_S8192x11x11x32_3_0_012_1_n_n none (extractStridedSlice S8192x11x11x16 ![0, 1, 2, 0] x slices_S8192x13x13x16_S8192x11x11x16_0_1_2_0) (shapeCast S16x32 (extractStridedSlice S1x1x16x32 ![1, 2, 0, 0] w slices_S3x3x16x32_S1x1x16x32_1_2_0_0) shapeCasts_S1x1x16x32_S16x32))) (Host.dotGeneral dot_S8192x11x11x16_S16x32_S8192x11x11x32_3_0_012_1_n_n none (extractStridedSlice S8192x11x11x16 ![0, 2, 0, 0] x slices_S8192x13x13x16_S8192x11x11x16_0_2_0_0) (shapeCast S16x32 (extractStridedSlice S1x1x16x32 ![2, 0, 0, 0] w slices_S3x3x16x32_S1x1x16x32_2_0_0_0) shapeCasts_S1x1x16x32_S16x32))) (Host.dotGeneral dot_S8192x11x11x16_S16x32_S8192x11x11x32_3_0_012_1_n_n none (extractStridedSlice S8192x11x11x16 ![0, 2, 1, 0] x slices_S8192x13x13x16_S8192x11x11x16_0_2_1_0) (shapeCast S16x32 (extractStridedSlice S1x1x16x32 ![2, 1, 0, 0] w slices_S3x3x16x32_S1x1x16x32_2_1_0_0) shapeCasts_S1x1x16x32_S16x32))) (Host.dotGeneral dot_S8192x11x11x16_S16x32_S8192x11x11x32_3_0_012_1_n_n none (extractStridedSlice S8192x11x11x16 ![0, 2, 2, 0] x slices_S8192x13x13x16_S8192x11x11x16_0_2_2_0) (shapeCast S16x32 (extractStridedSlice S1x1x16x32 ![2, 2, 0, 0] w slices_S3x3x16x32_S1x1x16x32_2_2_0_0) shapeCasts_S1x1x16x32_S16x32))) (broadcastInDim S8192x11x11x32 ![0, 1, 2, 3] bcast_S1x1x1x32_S8192x11x11x32_0_1_2_3 (broadcastInDim S1x1x1x32 ![3] bcast_S32_S1x1x1x32_3 b))) (broadcastInDim S8192x11x11x32 ![] bcast_S_S8192x11x11x32 (constant S_ .f32 0x00000000#32))

/-- The first convolution at a place. -/
theorem pre1_at (x : FVec Ideal S8192x28x28x1 .f32) (w : FVec Ideal S3x3x1x16 .f32) (b : FVec Ideal S16 .f32)
    (n : Fin 8192) (y z : Fin 26) (d : Fin 16) :
    pre1 x w b (ix4 n y z d) = conv1 (fun r c => x (ix4 n r c 0)) (fun i j => w (ix4 i j 0 d)) (b (ix1 d)) y z := by
  pointwise [pre1]
  unfold conv1
  simp only [Fin.sum_univ_three]
  simp only [Fin.sum_univ_one, Fin.val_zero, Fin.val_one, Fin.val_two, Nat.add_zero, Nat.add_comm 1, Nat.add_comm 2, add_assoc]

/-- The second convolution at a place. -/
theorem pre2_at (x : FVec Ideal S8192x13x13x16 .f32) (w : FVec Ideal S3x3x16x32 .f32) (b : FVec Ideal S32 .f32)
    (n : Fin 8192) (y z : Fin 11) (o : Fin 32) :
    pre2 x w b (ix4 n y z o) = conv2 (fun r c k => x (ix4 n r c k)) (fun i j k => w (ix4 i j k o)) (b (ix1 o)) y z := by
  pointwise [pre2]
  unfold conv2
  simp only [Fin.sum_univ_three]
  simp only [Fin.val_zero, Fin.val_one, Fin.val_two, Nat.add_zero, Nat.add_comm 1, Nat.add_comm 2, add_assoc]

/-- A window of two by two places, read in order. -/
theorem window_at : ∀ k : Fin 4, ∀ a : Fin 4,
    (((⟨4, ![1, 2, 2, 1]⟩ : Shape).rowMajor.symm (k.cast (by decide)) a : Fin _) : ℕ) = (![0, k.val / 2, k.val % 2, 0] : Fin 4 → ℕ) a := by
  decide +kernel

/-- A fold of the maximum over four terms. -/
theorem fold4 {m : ℕ} (hm : 4 = m) (v : EReal) (g : Fin m → EReal) (t : Fin 4 → EReal) (ht : ∀ k : Fin 4, g (k.cast hm) = t k) :
    List.foldl (fun r k => FloatOps.maximumf (F := Ideal) (φ := .f32) r (g k)) v (List.finRange m)
      = max (max (max (max v (t 0)) (t 1)) (t 2)) (t 3) := by
  subst hm
  rw [← ht 0, ← ht 1, ← ht 2, ← ht 3]
  rfl

/-- A window's element inside the operand is the operand's there. -/
theorem tap_eq {s : Shape} (x : s.Idx → EReal) (lo p : Fin s.rank → ℕ) (v : EReal) (i : s.Idx)
    {_ : Decidable (∀ a, lo a ≤ p a ∧ p a - lo a < s.size a)} (hl : ∀ a, lo a = 0) (hp : ∀ a, p a = (i a).val) :
    (if hin : ∀ a, lo a ≤ p a ∧ p a - lo a < s.size a then x (fun a => ⟨p a - lo a, (hin a).2⟩) else v) = x i := by
  rw [dif_pos fun a => ⟨by rw [hl]; exact Nat.zero_le _, by rw [hl, hp]; exact (i a).isLt⟩]
  exact congrArg x (funext fun a => Fin.ext (by simp only [hl, hp, Nat.sub_zero]))

/-- The maximum over windows of two by two places, at a place. -/
theorem window_max {N A B C : ℕ} (hAB : 2 * B ≤ A) {u : Shape} (x : FVec Ideal ⟨4, ![N, A, A, C]⟩ .f32) (init : u.Idx → EReal) (hu : 0 < u.numel)
    (hi : init (Shape.Idx.first hu) = ⊥)
    (hW : (⟨4, ![N, A, A, C]⟩ : Shape).ReduceWindows ![1, 2, 2, 1] ![1, 2, 2, 1] ![0, 0, 0, 0] ![0, 0, 0, 0] ⟨4, ![N, B, B, C]⟩)
    (n : Fin N) (y z : Fin B) (d : Fin C) :
    Host.reduceWindow (FloatOps.maximumf (F := Ideal) (φ := .f32)) ![1, 2, 2, 1] ![1, 2, 2, 1] ![0, 0, 0, 0] ![0, 0, 0, 0] x init hW hu (ix4 n y z d)
      = pool hAB (fun r c => x (ix4 n r c d)) y z := by
  unfold Host.reduceWindow
  refine (fold4 (show 4 = (⟨4, ![1, 2, 2, 1]⟩ : Shape).numel by decide) (init (Shape.Idx.first hu)) _
    (fun k => x (ix4 n ⟨2 * y.val + k.val / 2, by omega⟩ ⟨2 * z.val + k.val % 2, by omega⟩ d)) fun k => ?_).trans ?_
  · refine tap_eq (s := ⟨4, ![N, A, A, C]⟩) x ![0, 0, 0, 0] _ _ _ (show ∀ a : Fin 4, (![0, 0, 0, 0] : Fin 4 → ℕ) a = 0 by decide) fun a => ?_
    have hw := window_at k a
    fin_cases a
    · show n.val * 1 + _ = n.val
      rw [hw]; show n.val * 1 + 0 = n.val; omega
    · show y.val * 2 + _ = 2 * y.val + k.val / 2
      rw [hw]; show y.val * 2 + k.val / 2 = 2 * y.val + k.val / 2; omega
    · show z.val * 2 + _ = 2 * z.val + k.val % 2
      rw [hw]; show z.val * 2 + k.val % 2 = 2 * z.val + k.val % 2; omega
    · show d.val * 1 + _ = d.val
      rw [hw]; show d.val * 1 + 0 = d.val; omega
  · rw [hi, max_eq_right bot_le, max_assoc]
    rfl

/-- The pooled first convolution at a place. -/
theorem v51_at (V0 : Valuation τ sig (Elt Ideal)) (n : Fin 8192) (y z : Fin 13) (d : Fin 16) :
    (show FVec Ideal S8192x13x13x16 .f32 from res_main_v51 V0) (ix4 n y z d)
      = layer1 (fun r c => (show FVec Ideal S8192x28x28x1 .f32 from V0 (Proc.devRef .tc main_arg0)) (ix4 n r c 0))
          (fun i j k => (show FVec Ideal S3x3x1x16 .f32 from V0 (Proc.devRef .tc main_arg2)) (ix4 i j 0 k))
          (fun k => (show FVec Ideal S16 .f32 from V0 (Proc.devRef .tc main_arg3)) (ix1 k)) y z d := by
  refine (window_max (by decide) (pre1 (V0 (Proc.devRef .tc main_arg0)) (V0 (Proc.devRef .tc main_arg2)) (V0 (Proc.devRef .tc main_arg3))) _ h_S_ ?_ _ n y z d).trans ?_
  · pointwise []
    rfl
  · unfold layer1
    congr 1
    funext r c
    exact pre1_at _ _ _ n r c d

/-- A picture's features in the reference. -/
theorem v104_at (V0 : Valuation τ sig (Elt Ideal)) (n : Fin 8192) (f : Fin 800) :
    (show FVec Ideal S8192x800 .f32 from res_main_v104 V0) (ix2 n f)
      = feat (fun r c => (show FVec Ideal S8192x28x28x1 .f32 from V0 (Proc.devRef .tc main_arg0)) (ix4 n r c 0))
          (fun i j k => (show FVec Ideal S3x3x1x16 .f32 from V0 (Proc.devRef .tc main_arg2)) (ix4 i j 0 k))
          (fun k => (show FVec Ideal S16 .f32 from V0 (Proc.devRef .tc main_arg3)) (ix1 k))
          (fun i j k o => (show FVec Ideal S3x3x16x32 .f32 from V0 (Proc.devRef .tc main_arg4)) (ix4 i j k o))
          (fun o => (show FVec Ideal S32 .f32 from V0 (Proc.devRef .tc main_arg5)) (ix1 o)) f := by
  have hs : ∀ (q : FVec Ideal S8192x5x5x32 .f32), shapeCast S8192x800 q shapeCasts_S8192x5x5x32_S8192x800 (ix2 n f)
      = q (ix4 n ⟨f.val / 160, by omega⟩ ⟨f.val / 32 % 5, by omega⟩ ⟨f.val % 32, by omega⟩) := fun q => by
    pointwise []
  refine (hs _).trans ?_
  refine (window_max (by decide) (pre2 (res_main_v51 V0) (V0 (Proc.devRef .tc main_arg4)) (V0 (Proc.devRef .tc main_arg5))) _ h_S_ ?_ _ n _ _ _).trans ?_
  · pointwise []
    rfl
  · unfold feat layer2
    congr 1
    funext r c
    refine (pre2_at _ _ _ n r c _).trans ?_
    congr 1
    funext r' c' k
    exact v51_at V0 n r' c' k

end Cert.ReferenceIdeal.Alg

end
-- ==== Proof.RefBag.lean ====
module

public import proofs.«01_k».proof.Proof.RefConv
public import proofs.«01_k».proof.Proof.Bags
public import Idealize.ShloMosaic.Lib.Routing.OpsPair

@[expose] public section

set_option maxRecDepth 16384

noncomputable section

namespace Cert.ReferenceIdeal.Alg

open Cert.ReferenceIdeal Cert.ReferenceIdeal.Gen Cert.ReferenceIdeal.Value Idealize.ShloMosaic Idealize.ShloMosaic.TcCoe Idealize.SL.Sem Idealize.ShloMosaic.StableHlo
open Cert.Alg (feat score sigm sm tail bagR headR)

/-- The start of a maximum is minus infinity. -/
theorem bits_low : Ideal.ofBits .f32 0xFF800000#32 = (⊥ : EReal) := by
  simp [Ideal.ofBits, Ideal.ieee]

/-- A score of the pictures. -/
theorem v119_at (e : FVec Ideal S8192x800 .f32) (a : FVec Ideal S800x64 .f32) (ab : FVec Ideal S64 .f32) (o : FVec Ideal S64x1 .f32) (ob : FVec Ideal S1 .f32) (n : Fin 8192) :
    (Host.divf (broadcastInDim S8192x1 ![] bcast_S_S8192x1 (constant (F := Ideal) S_ .f32 0x3F800000#32)) (addf (broadcastInDim S8192x1 ![] bcast_S_S8192x1 (constant S_ .f32 0x3F800000#32)) (Host.exp (Host.negf (addf (Host.dotGeneral dot_S8192x64_S64x1_S8192x1_1_0_0_1_n_n none (Host.tanh (addf (Host.dotGeneral dot_S8192x800_S800x64_S8192x64_1_0_0_1_n_n none e a) (broadcastInDim S8192x64 ![0, 1] bcast_S1x64_S8192x64_0_1 (broadcastInDim S1x64 ![1] bcast_S64_S1x64_1 ab)))) o) (broadcastInDim S8192x1 ![0, 1] bcast_S1x1_S8192x1_0_1 (broadcastInDim S1x1 ![1] bcast_S1_S1x1_1 ob))))))) (ix2 n 0)
      = score (fun f => e (ix2 n f)) (fun f h => a (ix2 f h)) (fun h => ab (ix1 h)) (fun h => o (ix2 h 0)) (ob (ix1 0)) := by
  pointwise []
  rfl

/-- The softmax over the pictures. -/
def soft1 (s : FVec Ideal S8192x1 .f32) : FVec Ideal S8192x1 .f32 :=
  let x := Host.exp (subf s (broadcastInDim S8192x1 ![0, 1] bcast_S1x1_S8192x1_0_1 (broadcastInDim S1x1 ![1] bcast_S1_S1x1_1 (maximumf (broadcastInDim S1 ![] bcast_S_S1 (constant S_ .f32 0xFF800000#32)) (Host.reduce FloatOps.maximumf s (constant S_ .f32 0xFF800000#32) reducesTo_S8192x1_S1_d0 h_S_)))))
  Host.divf x (broadcastInDim S8192x1 ![0, 1] bcast_S1x1_S8192x1_0_1 (broadcastInDim S1x1 ![1] bcast_S1_S1x1_1 (Host.reduceAdd x (constant S_ .f32 0x00000000#32) reducesTo_S8192x1_S1_d0 h_S_)))

theorem soft1_at (s : FVec Ideal S8192x1 .f32) (n : Fin 8192) : soft1 s (ix2 n 0) = sm (fun n => s (ix2 n 0)) n := by
  pointwise [soft1]
  unfold sm
  simp only [bits_low, zero_add]

/-- An update lands where its label, read signed, and its feature say. -/
theorem lands (idx : IVec S8192x1 32) (n : Fin 8192) (g : Fin 800) (b : Fin 256) (f : Fin 800) :
    scatter_S256x800_S8192x1_S8192x800_1_0_0_1.resultIdx? (ix2 n g) idx = some (ix2 b f) ↔ idx (ix2 n 0) = BitVec.ofNat 32 b.val ∧ g = f := by
  have hb : (BitVec.ofNat 32 b.val).toInt = (b.val : Int) := by
    rw [BitVec.toInt_ofNat', Int.bmod_eq_of_le (by omega) (by omega)]
  have h0 : scatter_S256x800_S8192x1_S8192x800_1_0_0_1.start (ix2 n g) idx 0 = (idx (ix2 n 0)).toInt := by
    unfold ScatterDims.start
    rw [dif_pos (by decide)]
    refine congrArg (fun j => (idx j).toInt) ?_
    idx_ext <;> rfl
  have h1 : scatter_S256x800_S8192x1_S8192x800_1_0_0_1.start (ix2 n g) idx 1 = 0 := by
    unfold ScatterDims.start
    rw [dif_neg (by decide)]
  have w0 : scatter_S256x800_S8192x1_S8192x800_1_0_0_1.window (ix2 n g) 0 = 0 := by
    unfold ScatterDims.window
    rw [dif_neg (by decide)]
  have w1 : scatter_S256x800_S8192x1_S8192x800_1_0_0_1.window (ix2 n g) 1 = g.val := by
    unfold ScatterDims.window
    rw [dif_pos (by decide)]
    rfl
  rw [Idealize.ShloMosaic.Routing.resultIdx?_eq_some]
  constructor
  · intro h
    have e0 := h 0
    have e1 := h 1
    rw [h0, w0] at e0
    rw [h1, w1] at e1
    refine ⟨BitVec.eq_of_toInt_eq ?_, Fin.ext ?_⟩
    · rw [hb]
      simpa using e0
    · have e : ((ix2 b f : S256x800.Idx) 1).val = f.val := rfl
      omega
  · rintro ⟨hl, rfl⟩ q
    match q with
    | 0 =>
      refine (congrArg₂ (fun x (y : ℕ) => x + (y : Int)) h0 w0).trans ?_
      rw [hl, hb]
      simp
    | 1 =>
      refine (congrArg₂ (fun x (y : ℕ) => x + (y : Int)) h1 w1).trans ?_
      simp

/-- The sums over the bags. -/
theorem scatter_at (idx : IVec S8192x1 32) (x : FVec Ideal S256x800 .f32) (u : FVec Ideal S8192x800 .f32) (b : Fin 256) (f : Fin 800) :
    Host.scatterAdd scatter_S256x800_S8192x1_S8192x800_1_0_0_1 x idx u (ix2 b f)
      = x (ix2 b f) + ∑ n : Fin 8192, if idx (ix2 n 0) = BitVec.ofNat 32 b.val then u (ix2 n f) else 0 := by
  have h : Host.scatterAdd scatter_S256x800_S8192x1_S8192x800_1_0_0_1 x idx u (ix2 b f)
      = x (ix2 b f) + ∑ j ∈ Finset.univ.filter (fun j => scatter_S256x800_S8192x1_S8192x800_1_0_0_1.resultIdx? j idx = some (ix2 b f)), u j := rfl
  rw [h, ← Finset.sum_filter]
  refine congrArg (x (ix2 b f) + ·) ?_
  have hj : ∀ j : S8192x800.Idx, j = ix2 (j 0) (j 1) := fun j => by idx_ext <;> rfl
  refine (Finset.sum_nbij' (fun n : Fin 8192 => (ix2 n f : S8192x800.Idx)) (fun j => j 0) ?_ ?_ ?_ ?_ ?_).symm
  · intro n hn
    exact Finset.mem_filter.mpr ⟨Finset.mem_univ _, (lands idx n f b f).mpr ⟨(Finset.mem_filter.mp hn).2, rfl⟩⟩
  · intro j hm
    have h2 := (Finset.mem_filter.mp hm).2
    rw [hj j] at h2
    exact Finset.mem_filter.mpr ⟨Finset.mem_univ _, ((lands idx (j 0) (j 1) b f).mp h2).1⟩
  · intro n _
    rfl
  · intro j hm
    have h2 := (Finset.mem_filter.mp hm).2
    rw [hj j] at h2
    have h3 := ((lands idx (j 0) (j 1) b f).mp h2).2
    show ix2 (j 0) f = j
    rw [← h3]
    exact (hj j).symm
  · intro n _
    rfl

/-- A score of the bags. -/
theorem v151_at (e : FVec Ideal S256x800 .f32) (a : FVec Ideal S800x64 .f32) (ab : FVec Ideal S64 .f32) (o : FVec Ideal S64x1 .f32) (ob : FVec Ideal S1 .f32) (b : Fin 256) :
    (transpose S1x256 [1, 0] (Host.divf (broadcastInDim S256x1 ![] bcast_S_S256x1 (constant (F := Ideal) S_ .f32 0x3F800000#32)) (addf (broadcastInDim S256x1 ![] bcast_S_S256x1 (constant S_ .f32 0x3F800000#32)) (Host.exp (Host.negf (addf (Host.dotGeneral dot_S256x64_S64x1_S256x1_1_0_0_1_n_n none (Host.tanh (addf (Host.dotGeneral dot_S256x800_S800x64_S256x64_1_0_0_1_n_n none e a) (broadcastInDim S256x64 ![0, 1] bcast_S1x64_S256x64_0_1 (broadcastInDim S1x64 ![1] bcast_S64_S1x64_1 ab)))) o) (broadcastInDim S256x1 ![0, 1] bcast_S1x1_S256x1_0_1 (broadcastInDim S1x1 ![1] bcast_S1_S1x1_1 ob))))))) transposes_S256x1_S1x256_1_0) (ix2 0 b)
      = score (fun f => e (ix2 b f)) (fun f h => a (ix2 f h)) (fun h => ab (ix1 h)) (fun h => o (ix2 h 0)) (ob (ix1 0)) := by
  pointwise []
  rfl

/-- The softmax over the bags. -/
def soft2 (s : FVec Ideal S1x256 .f32) : FVec Ideal S1x256 .f32 :=
  let x := Host.exp (subf s (broadcastInDim S1x256 ![0, 1] bcast_S1x1_S1x256_0_1 (broadcastInDim S1x1 ![0] bcast_S1_S1x1_0 (maximumf (broadcastInDim S1 ![] bcast_S_S1 (constant S_ .f32 0xFF800000#32)) (Host.reduce FloatOps.maximumf s (constant S_ .f32 0xFF800000#32) reducesTo_S1x256_S1_d1 h_S_)))))
  Host.divf x (broadcastInDim S1x256 ![0, 1] bcast_S1x1_S1x256_0_1 (broadcastInDim S1x1 ![0] bcast_S1_S1x1_0 (Host.reduceAdd x (constant S_ .f32 0x00000000#32) reducesTo_S1x256_S1_d1 h_S_)))

theorem soft2_at (s : FVec Ideal S1x256 .f32) (b : Fin 256) : soft2 s (ix2 0 b) = sm (fun b => s (ix2 0 b)) b := by
  pointwise [soft2]
  unfold sm
  simp only [bits_low, zero_add]

/-- The last two layers. -/
def last2 (w : FVec Ideal S1x256 .f32) (v : FVec Ideal S256x800 .f32) (cw : FVec Ideal S800x128 .f32) (cb : FVec Ideal S128 .f32) (cow : FVec Ideal S128x1 .f32) (cob : FVec Ideal S1 .f32) : FVec Ideal S1x1 .f32 :=
  Host.divf (broadcastInDim S1x1 ![] bcast_S_S1x1 (constant S_ .f32 0x3F800000#32)) (addf (broadcastInDim S1x1 ![] bcast_S_S1x1 (constant S_ .f32 0x3F800000#32)) (Host.exp (Host.negf (addf (Host.dotGeneral dot_S1x128_S128x1_S1x1_1_0_0_1_n_n none (addf (Host.dotGeneral dot_S1x800_S800x128_S1x128_1_0_0_1_n_n none (Host.dotGeneral dot_S1x256_S256x800_S1x800_1_0_0_1_n_n none w v) cw) (broadcastInDim S1x128 ![1] bcast_S128_S1x128_1 cb)) cow) (broadcastInDim S1x1 ![1] bcast_S1_S1x1_1 cob)))))

theorem last2_at (w : FVec Ideal S1x256 .f32) (v : FVec Ideal S256x800 .f32) (cw : FVec Ideal S800x128 .f32) (cb : FVec Ideal S128 .f32) (cow : FVec Ideal S128x1 .f32) (cob : FVec Ideal S1 .f32) :
    last2 w v cw cb cow cob (ix2 0 0)
      = tail (fun f => ∑ b : Fin 256, w (ix2 0 b) * v (ix2 b f)) (fun f k => cw (ix2 f k)) (fun k => cb (ix1 k)) (fun k => cow (ix2 k 0)) (cob (ix1 0)) := by
  pointwise [last2]
  rfl

variable (V0 : Valuation τ sig (Elt Ideal))

/-- The features of picture `n`. -/
def fe (n : Fin 8192) (f : Fin 800) : EReal :=
  feat (fun r c => (show FVec Ideal S8192x28x28x1 .f32 from V0 (Proc.devRef .tc main_arg0)) (ix4 n r c 0))
    (fun i j k => (show FVec Ideal S3x3x1x16 .f32 from V0 (Proc.devRef .tc main_arg2)) (ix4 i j 0 k))
    (fun k => (show FVec Ideal S16 .f32 from V0 (Proc.devRef .tc main_arg3)) (ix1 k))
    (fun i j k o => (show FVec Ideal S3x3x16x32 .f32 from V0 (Proc.devRef .tc main_arg4)) (ix4 i j k o))
    (fun o => (show FVec Ideal S32 .f32 from V0 (Proc.devRef .tc main_arg5)) (ix1 o)) f

/-- The score of picture `n`. -/
def sc (n : Fin 8192) : EReal :=
  score (fe V0 n) (fun f h => (show FVec Ideal S800x64 .f32 from V0 (Proc.devRef .tc main_arg6)) (ix2 f h))
    (fun h => (show FVec Ideal S64 .f32 from V0 (Proc.devRef .tc main_arg7)) (ix1 h))
    (fun h => (show FVec Ideal S64x1 .f32 from V0 (Proc.devRef .tc main_arg8)) (ix2 h 0))
    ((show FVec Ideal S1 .f32 from V0 (Proc.devRef .tc main_arg9)) (ix1 0))

/-- The label of picture `n`. -/
def lab (n : Fin 8192) : BitVec 32 := (show IVec S8192 32 from V0 (Proc.devRef .tc main_arg1)) (ix1 n)

theorem sc_eq (n : Fin 8192) : (show FVec Ideal S8192x1 .f32 from res_main_v119 V0) (ix2 n 0) = sc V0 n := by
  refine (v119_at (res_main_v104 V0) (V0 (Proc.devRef .tc main_arg6)) (V0 (Proc.devRef .tc main_arg7)) (V0 (Proc.devRef .tc main_arg8)) (V0 (Proc.devRef .tc main_arg9)) n).trans ?_
  unfold sc
  have h : (fun f => (show FVec Ideal S8192x800 .f32 from res_main_v104 V0) (ix2 n f)) = fe V0 n := funext fun f => v104_at V0 n f
  exact congrArg (fun e => score e (fun f h => (show FVec Ideal S800x64 .f32 from V0 (Proc.devRef .tc main_arg6)) (ix2 f h))
    (fun h => (show FVec Ideal S64 .f32 from V0 (Proc.devRef .tc main_arg7)) (ix1 h))
    (fun h => (show FVec Ideal S64x1 .f32 from V0 (Proc.devRef .tc main_arg8)) (ix2 h 0))
    ((show FVec Ideal S1 .f32 from V0 (Proc.devRef .tc main_arg9)) (ix1 0))) h

/-- The bags' features. -/
theorem v135_at (b : Fin 256) (f : Fin 800) : (show FVec Ideal S256x800 .f32 from res_main_v135 V0) (ix2 b f) = bagR (lab V0) (sc V0) (fe V0) b f := by
  have e : (show FVec Ideal S256x800 .f32 from res_main_v135 V0) = Host.scatterAdd scatter_S256x800_S8192x1_S8192x800_1_0_0_1 (broadcastInDim S256x800 ![] bcast_S_S256x800 (constant (F := Ideal) S_ .f32 0x00000000#32)) (broadcastInDim S8192x1 ![0] bcast_S8192_S8192x1_0 (show IVec S8192 32 from V0 (Proc.devRef .tc main_arg1)))
      (mulf (broadcastInDim S8192x800 ![0, 1] bcast_S8192x1_S8192x800_0_1 (soft1 (show FVec Ideal S8192x1 .f32 from res_main_v119 V0))) (show FVec Ideal S8192x800 .f32 from res_main_v104 V0)) := by
    unfold soft1 res_main_v135 res_main_v126
    rfl
  rw [e]
  refine (scatter_at _ _ _ b f).trans ?_
  have h0 : (broadcastInDim S256x800 ![] bcast_S_S256x800 (constant (F := Ideal) S_ .f32 0x00000000#32)) (ix2 b f) = 0 := by pointwise []
  rw [h0, zero_add]
  unfold bagR
  refine Finset.sum_congr rfl fun n _ => ?_
  have hl : (broadcastInDim S8192x1 ![0] bcast_S8192_S8192x1_0 (show IVec S8192 32 from V0 (Proc.devRef .tc main_arg1))) (ix2 n 0) = lab V0 n := by
    unfold lab
    generalize V0 (Proc.devRef .tc main_arg1) = x
    pointwise []
  have hm : ∀ (w : FVec Ideal S8192x1 .f32) (e : FVec Ideal S8192x800 .f32), (mulf (broadcastInDim S8192x800 ![0, 1] bcast_S8192x1_S8192x800_0_1 w) e) (ix2 n f) = w (ix2 n 0) * e (ix2 n f) := fun w e => by
    pointwise []
  have hs : soft1 (res_main_v119 V0) (ix2 n 0) = sm (sc V0) n :=
    (soft1_at _ n).trans (congrArg (fun s => sm s n) (funext fun k => sc_eq V0 k))
  have hu := (hm (soft1 (res_main_v119 V0)) (res_main_v104 V0)).trans (congrArg₂ (· * ·) hs (v104_at V0 n f))
  exact if_congr (by rw [← hl]) hu rfl

/-- The prediction. -/
def pred : EReal :=
  headR (bagR (lab V0) (sc V0) (fe V0)) (fun f h => (show FVec Ideal S800x64 .f32 from V0 (Proc.devRef .tc main_arg10)) (ix2 f h))
    (fun h => (show FVec Ideal S64 .f32 from V0 (Proc.devRef .tc main_arg11)) (ix1 h))
    (fun h => (show FVec Ideal S64x1 .f32 from V0 (Proc.devRef .tc main_arg12)) (ix2 h 0))
    ((show FVec Ideal S1 .f32 from V0 (Proc.devRef .tc main_arg13)) (ix1 0))
    (fun f k => (show FVec Ideal S800x128 .f32 from V0 (Proc.devRef .tc main_arg14)) (ix2 f k))
    (fun k => (show FVec Ideal S128 .f32 from V0 (Proc.devRef .tc main_arg15)) (ix1 k))
    (fun k => (show FVec Ideal S128x1 .f32 from V0 (Proc.devRef .tc main_arg16)) (ix2 k 0))
    ((show FVec Ideal S1 .f32 from V0 (Proc.devRef .tc main_arg17)) (ix1 0))

/-- The result, as the operations compute it. -/
def resultV : FVec Ideal S1x1 .f32 :=
  last2 (soft2 (res_main_v151 V0)) (res_main_v135 V0) (V0 (Proc.devRef .tc main_arg14)) (V0 (Proc.devRef .tc main_arg15)) (V0 (Proc.devRef .tc main_arg16)) (V0 (Proc.devRef .tc main_arg17))

/-- The result is the prediction. -/
theorem result_at : resultV V0 (ix2 0 0)
      = pred V0 := by
  unfold resultV
  refine (last2_at (soft2 (res_main_v151 V0)) (res_main_v135 V0) (V0 (Proc.devRef .tc main_arg14)) (V0 (Proc.devRef .tc main_arg15)) (V0 (Proc.devRef .tc main_arg16)) (V0 (Proc.devRef .tc main_arg17))).trans ?_
  unfold pred headR
  have hb : ∀ b, (show FVec Ideal S1x256 .f32 from res_main_v151 V0) (ix2 0 b) = score (bagR (lab V0) (sc V0) (fe V0) b) (fun f h => (show FVec Ideal S800x64 .f32 from V0 (Proc.devRef .tc main_arg10)) (ix2 f h))
    (fun h => (show FVec Ideal S64 .f32 from V0 (Proc.devRef .tc main_arg11)) (ix1 h))
    (fun h => (show FVec Ideal S64x1 .f32 from V0 (Proc.devRef .tc main_arg12)) (ix2 h 0))
    ((show FVec Ideal S1 .f32 from V0 (Proc.devRef .tc main_arg13)) (ix1 0)) := fun b => by
    refine (v151_at (res_main_v135 V0) (V0 (Proc.devRef .tc main_arg10)) (V0 (Proc.devRef .tc main_arg11)) (V0 (Proc.devRef .tc main_arg12)) (V0 (Proc.devRef .tc main_arg13)) b).trans ?_
    have h : (fun f => (show FVec Ideal S256x800 .f32 from res_main_v135 V0) (ix2 b f)) = bagR (lab V0) (sc V0) (fe V0) b := funext fun f => v135_at V0 b f
    exact congrArg (fun e => score e (fun f h => (show FVec Ideal S800x64 .f32 from V0 (Proc.devRef .tc main_arg10)) (ix2 f h))
      (fun h => (show FVec Ideal S64 .f32 from V0 (Proc.devRef .tc main_arg11)) (ix1 h))
      (fun h => (show FVec Ideal S64x1 .f32 from V0 (Proc.devRef .tc main_arg12)) (ix2 h 0))
      ((show FVec Ideal S1 .f32 from V0 (Proc.devRef .tc main_arg13)) (ix1 0))) h
  have he : (fun f => ∑ b : Fin 256, soft2 (res_main_v151 V0) (ix2 0 b) * (show FVec Ideal S256x800 .f32 from res_main_v135 V0) (ix2 b f)) = _ := funext fun f => Finset.sum_congr rfl fun b _ =>
    congrArg₂ (· * ·) ((soft2_at _ b).trans (congrArg (fun s => sm s b) (funext hb))) (v135_at V0 b f)
  exact congrArg (fun e => tail e (fun f k => (show FVec Ideal S800x128 .f32 from V0 (Proc.devRef .tc main_arg14)) (ix2 f k))
    (fun k => (show FVec Ideal S128 .f32 from V0 (Proc.devRef .tc main_arg15)) (ix1 k))
    (fun k => (show FVec Ideal S128x1 .f32 from V0 (Proc.devRef .tc main_arg16)) (ix2 k 0))
    ((show FVec Ideal S1 .f32 from V0 (Proc.devRef .tc main_arg17)) (ix1 0))) he

end Cert.ReferenceIdeal.Alg

end
-- ==== Proof.Both.lean ====
module

public import proofs.«01_k».proof.Proof.AllI
public import proofs.«01_k».proof.Proof.TailI
public import proofs.«01_k».proof.Proof.RefBag

@[expose] public section

set_option maxRecDepth 16384

noncomputable section

/-! # The two programs' results -/

namespace Cert.Both

open Idealize.ShloMosaic Idealize.ShloMosaic.TcCoe Idealize.SL.Sem

/-- Equal pictures, filters and biases give equal features. -/
theorem feat_congr {x x' : Fin 28 → Fin 28 → EReal} {w w' : Fin 3 → Fin 3 → Fin 16 → EReal} {b b' : Fin 16 → EReal}
    {v v' : Fin 3 → Fin 3 → Fin 16 → Fin 32 → EReal} {a a' : Fin 32 → EReal} (hx : x = x') (hw : w = w') (hb : b = b') (hv : v = v') (ha : a = a') (f : Fin 800) :
    Cert.Alg.feat x w b v a f = Cert.Alg.feat x' w' b' v' a' f := by
  subst hx hw hb hv ha; rfl

/-- Equal rows and weights give equal scores. -/
theorem score_congr {e e' : Fin 800 → EReal} {a a' : Fin 800 → Fin 64 → EReal} {ab ab' o o' : Fin 64 → EReal} {ob ob' : EReal}
    (he : e = e') (ha : a = a') (hab : ab = ab') (ho : o = o') (hob : ob = ob') : Cert.Alg.score e a ab o ob = Cert.Alg.score e' a' ab' o' ob' := by
  subst he ha hab ho hob; rfl

/-- Equal weights give equal predictions. -/
theorem head_congr (v : Fin 256 → Fin 800 → EReal) {a a' : Fin 800 → Fin 64 → EReal} {ab ab' o o' : Fin 64 → EReal} {ob ob' : EReal}
    {cw cw' : Fin 800 → Fin 128 → EReal} {cb cb' cow cow' : Fin 128 → EReal} {cob cob' : EReal}
    (ha : a = a') (hab : ab = ab') (ho : o = o') (hob : ob = ob') (hcw : cw = cw') (hcb : cb = cb') (hcow : cow = cow') (hcob : cob = cob') :
    Cert.Alg.headR v a ab o ob cw cb cow cob = Cert.Alg.headR v a' ab' o' ob' cw' cb' cow' cob' := by
  subst ha hab ho hob hcw hcb hcow hcob; rfl

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- On equal arguments the kernel's prediction is the reference's. -/
theorem pred_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Alg.pred (StableHlo.launchContents m' c) = Cert.KernelIdeal.Alg.pred c m := by
  obtain ⟨h0, h1, h2, h3, h4, h5, h6, h7, h8, h9, h10, h11, h12, h13, h14, h15, h16, h17⟩ := h
  have hlab : Cert.ReferenceIdeal.Alg.lab (StableHlo.launchContents m' c) = Cert.KernelIdeal.Alg.lab c m := by
    funext n
    exact congrArg (fun x : IVec Cert.ReferenceIdeal.S8192 32 => x (ix1 n)) h1
  have hfe : Cert.ReferenceIdeal.Alg.fe (StableHlo.launchContents m' c) = Cert.KernelIdeal.Alg.fe c m := by
    funext n f
    unfold Cert.ReferenceIdeal.Alg.fe Cert.KernelIdeal.Alg.fe
    have e0 : (fun r k => (show FVec Ideal Cert.ReferenceIdeal.S8192x28x28x1 .f32 from m' ((c.tc : Thread Cert.ReferenceIdeal.nD Cert.ReferenceIdeal.τ).loc Cert.ReferenceIdeal.main_arg0)) (ix4 n r k 0)) = fun r k => (show FVec Ideal Cert.ReferenceIdeal.S8192x28x28x1 .f32 from m ((c.tc : Thread Cert.KernelIdeal.nD Cert.KernelIdeal.τ).loc Cert.KernelIdeal.main_arg0)) (ix4 n r k 0) :=
      congrArg (fun (x : FVec Ideal Cert.ReferenceIdeal.S8192x28x28x1 .f32) (r k : Fin 28) => x (ix4 n r k 0)) h0
    have e2 := congrArg (fun (x : FVec Ideal Cert.ReferenceIdeal.S3x3x1x16 .f32) (i j : Fin 3) (k : Fin 16) => x (ix4 i j 0 k)) h2
    have e3 := congrArg (fun (x : FVec Ideal Cert.ReferenceIdeal.S16 .f32) (k : Fin 16) => x (ix1 k)) h3
    have e4 := congrArg (fun (x : FVec Ideal Cert.ReferenceIdeal.S3x3x16x32 .f32) (i j : Fin 3) (k : Fin 16) (o : Fin 32) => x (ix4 i j k o)) h4
    have e5 := congrArg (fun (x : FVec Ideal Cert.ReferenceIdeal.S32 .f32) (k : Fin 32) => x (ix1 k)) h5
    exact Cert.Both.feat_congr e0 e2 e3 e4 e5 f
  have hsc : Cert.ReferenceIdeal.Alg.sc (StableHlo.launchContents m' c) = Cert.KernelIdeal.Alg.sc c m := by
    funext n
    unfold Cert.ReferenceIdeal.Alg.sc Cert.KernelIdeal.Alg.sc
    have e6 := congrArg (fun (x : FVec Ideal Cert.ReferenceIdeal.S800x64 .f32) (f : Fin 800) (h : Fin 64) => x (ix2 f h)) h6
    have e7 := congrArg (fun (x : FVec Ideal Cert.ReferenceIdeal.S64 .f32) (h : Fin 64) => x (ix1 h)) h7
    have e8 := congrArg (fun (x : FVec Ideal Cert.ReferenceIdeal.S64x1 .f32) (h : Fin 64) => x (ix2 h 0)) h8
    have e9 := congrArg (fun (x : FVec Ideal Cert.ReferenceIdeal.S1 .f32) => x (ix1 0)) h9
    exact Cert.Both.score_congr (congrFun hfe n) e6 e7 e8 e9
  have e10 := congrArg (fun (x : FVec Ideal Cert.ReferenceIdeal.S800x64 .f32) (f : Fin 800) (h : Fin 64) => x (ix2 f h)) h10
  have e11 := congrArg (fun (x : FVec Ideal Cert.ReferenceIdeal.S64 .f32) (h : Fin 64) => x (ix1 h)) h11
  have e12 := congrArg (fun (x : FVec Ideal Cert.ReferenceIdeal.S64x1 .f32) (h : Fin 64) => x (ix2 h 0)) h12
  have e13 := congrArg (fun (x : FVec Ideal Cert.ReferenceIdeal.S1 .f32) => x (ix1 0)) h13
  have e14 := congrArg (fun (x : FVec Ideal Cert.ReferenceIdeal.S800x128 .f32) (f : Fin 800) (k : Fin 128) => x (ix2 f k)) h14
  have e15 := congrArg (fun (x : FVec Ideal Cert.ReferenceIdeal.S128 .f32) (k : Fin 128) => x (ix1 k)) h15
  have e16 := congrArg (fun (x : FVec Ideal Cert.ReferenceIdeal.S128x1 .f32) (k : Fin 128) => x (ix2 k 0)) h16
  have e17 := congrArg (fun (x : FVec Ideal Cert.ReferenceIdeal.S1 .f32) => x (ix1 0)) h17
  refine Eq.trans ?_ (Cert.Alg.heads (Cert.KernelIdeal.Alg.lab c m) (Cert.KernelIdeal.Alg.sc c m) (fun n => Cert.Alg.score_real _ _ _ _ _) (Cert.KernelIdeal.Alg.fe c m) _ _ _ _ _ _ _ _).symm
  unfold Cert.ReferenceIdeal.Alg.pred
  rw [hlab, hfe, hsc]
  exact Cert.Both.head_congr _ e10 e11 e12 e13 e14 e15 e16 e17

/-- On equal arguments the two results are equal. -/
theorem result_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Alg.resultV (StableHlo.launchContents m' c) = Cert.KernelIdeal.Gen.V65 m (Cert.KernelIdeal.Body.outs m) c Cert.KernelIdeal.main_v147 := by
  funext j
  have hj : j = ix2 0 0 := by idx_ext <;> omega
  rw [hj]
  exact (Cert.ReferenceIdeal.Alg.result_at _).trans ((pred_eq m m' c h).trans (Cert.KernelIdeal.Alg.V65_v147 c m).symm)

/-- Every run of the kernel leaves its result at the account's and its arguments as they were. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v147) = Cert.KernelIdeal.Gen.V65 m (Cert.KernelIdeal.Body.outs m) c Cert.KernelIdeal.main_v147
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) := by
  refine (θ_run _ _ _).mono (fun r h c => ?_) (Cert.KernelIdeal.Body.run_all m ρ)
  exact ⟨h.1 c _ (Cert.KernelIdeal.Body.mem_uc Cert.KernelIdeal.main_v147 (by decide)),
    (h.1 c _ (Cert.KernelIdeal.Body.mem_uc Cert.KernelIdeal.main_arg0 (by decide))).trans (Cert.KernelIdeal.Gen.V65_main_arg0 m (Cert.KernelIdeal.Body.outs m) c),
    (h.1 c _ (Cert.KernelIdeal.Body.mem_uc Cert.KernelIdeal.main_arg1 (by decide))).trans (Cert.KernelIdeal.Gen.V65_main_arg1 m (Cert.KernelIdeal.Body.outs m) c),
    (h.1 c _ (Cert.KernelIdeal.Body.mem_uc Cert.KernelIdeal.main_arg2 (by decide))).trans (Cert.KernelIdeal.Gen.V65_main_arg2 m (Cert.KernelIdeal.Body.outs m) c),
    (h.1 c _ (Cert.KernelIdeal.Body.mem_uc Cert.KernelIdeal.main_arg3 (by decide))).trans (Cert.KernelIdeal.Gen.V65_main_arg3 m (Cert.KernelIdeal.Body.outs m) c),
    (h.1 c _ (Cert.KernelIdeal.Body.mem_uc Cert.KernelIdeal.main_arg4 (by decide))).trans (Cert.KernelIdeal.Gen.V65_main_arg4 m (Cert.KernelIdeal.Body.outs m) c),
    (h.1 c _ (Cert.KernelIdeal.Body.mem_uc Cert.KernelIdeal.main_arg5 (by decide))).trans (Cert.KernelIdeal.Gen.V65_main_arg5 m (Cert.KernelIdeal.Body.outs m) c),
    (h.1 c _ (Cert.KernelIdeal.Body.mem_uc Cert.KernelIdeal.main_arg6 (by decide))).trans (Cert.KernelIdeal.Gen.V65_main_arg6 m (Cert.KernelIdeal.Body.outs m) c),
    (h.1 c _ (Cert.KernelIdeal.Body.mem_uc Cert.KernelIdeal.main_arg7 (by decide))).trans (Cert.KernelIdeal.Gen.V65_main_arg7 m (Cert.KernelIdeal.Body.outs m) c),
    (h.1 c _ (Cert.KernelIdeal.Body.mem_uc Cert.KernelIdeal.main_arg8 (by decide))).trans (Cert.KernelIdeal.Gen.V65_main_arg8 m (Cert.KernelIdeal.Body.outs m) c),
    (h.1 c _ (Cert.KernelIdeal.Body.mem_uc Cert.KernelIdeal.main_arg9 (by decide))).trans (Cert.KernelIdeal.Gen.V65_main_arg9 m (Cert.KernelIdeal.Body.outs m) c),
    (h.1 c _ (Cert.KernelIdeal.Body.mem_uc Cert.KernelIdeal.main_arg10 (by decide))).trans (Cert.KernelIdeal.Gen.V65_main_arg10 m (Cert.KernelIdeal.Body.outs m) c),
    (h.1 c _ (Cert.KernelIdeal.Body.mem_uc Cert.KernelIdeal.main_arg11 (by decide))).trans (Cert.KernelIdeal.Gen.V65_main_arg11 m (Cert.KernelIdeal.Body.outs m) c),
    (h.1 c _ (Cert.KernelIdeal.Body.mem_uc Cert.KernelIdeal.main_arg12 (by decide))).trans (Cert.KernelIdeal.Gen.V65_main_arg12 m (Cert.KernelIdeal.Body.outs m) c),
    (h.1 c _ (Cert.KernelIdeal.Body.mem_uc Cert.KernelIdeal.main_arg13 (by decide))).trans (Cert.KernelIdeal.Gen.V65_main_arg13 m (Cert.KernelIdeal.Body.outs m) c),
    (h.1 c _ (Cert.KernelIdeal.Body.mem_uc Cert.KernelIdeal.main_arg14 (by decide))).trans (Cert.KernelIdeal.Gen.V65_main_arg14 m (Cert.KernelIdeal.Body.outs m) c),
    (h.1 c _ (Cert.KernelIdeal.Body.mem_uc Cert.KernelIdeal.main_arg15 (by decide))).trans (Cert.KernelIdeal.Gen.V65_main_arg15 m (Cert.KernelIdeal.Body.outs m) c),
    (h.1 c _ (Cert.KernelIdeal.Body.mem_uc Cert.KernelIdeal.main_arg16 (by decide))).trans (Cert.KernelIdeal.Gen.V65_main_arg16 m (Cert.KernelIdeal.Body.outs m) c),
    (h.1 c _ (Cert.KernelIdeal.Body.mem_uc Cert.KernelIdeal.main_arg17 (by decide))).trans (Cert.KernelIdeal.Gen.V65_main_arg17 m (Cert.KernelIdeal.Body.outs m) c)⟩

end Cert.Both

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.All
public import proofs.«01_k».proof.Proof.AllI
public import proofs.«01_k».proof.Proof.Both
public import Idealize.ShloMosaic.Adequacy
public import Idealize.ShloMosaic.Init

@[expose] public section

noncomputable section

namespace Cert.Proof

open Idealize.ShloMosaic Idealize.ShloMosaic.TcCoe Idealize.SL.Sem Cert.Kernel

theorem claim : Cert.Claim := ⟨Cert.Kernel.Gen.facts, Cert.KernelIdeal.Gen.facts, Cert.ReferenceIdeal.Gen.facts, by
  refine ⟨fun m g _ => Cert.Kernel.Body.frame m g, fun m g _ => Cert.KernelIdeal.Body.frame m g, fun m g _ => ?_, trivial, fun m g m' g' _ h => ?_⟩
  · exact (θ_run _ _ _).mono (fun r h => ⟨fun c => (h c).2, sem_eq_zero_of_no_sems (by decide) r.2⟩) (Cert.ReferenceIdeal.Value.run m g)
  · exact ⟨fun c => Cert.KernelIdeal.Gen.V65 m (Cert.KernelIdeal.Body.outs m) c Cert.KernelIdeal.main_v147, Cert.Both.kernel_run m g,
      (θ_run _ _ _).mono (fun r hr c => ⟨(hr c).1.trans (Cert.Both.result_eq m m' c (h c)), (hr c).2⟩) (Cert.ReferenceIdeal.Value.run m' g')⟩⟩

end Cert.Proof

end
